-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_steps [hPre_steps : Cert.Pre_steps.Facts] (m : (ℓ : Loc Cert.SsdIdeal.nD Cert.SsdIdeal.τ Cert.SsdIdeal.sig) → Buf (Elt Ideal) ℓ) : Prop :=
  ∀ c : Dev Cert.SsdIdeal.nD,
    (Cert.Pre_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7)) (m ((c.tc : Thread Cert.SsdIdeal.nD Cert.SsdIdeal.τ).loc Cert.SsdIdeal.main_arg8)) (m ((c.tc : Thread Cert.SsdIdeal.nD Cert.SsdIdeal.τ).loc Cert.SsdIdeal.main_arg9)) (m ((c.tc : Thread Cert.SsdIdeal.nD Cert.SsdIdeal.τ).loc Cert.SsdIdeal.main_arg10))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_steps [hPre_steps : Cert.Pre_steps.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_steps.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7)) (m ((c.tc : Thread Cert.SsdRefIdeal.nD Cert.SsdRefIdeal.τ).loc Cert.SsdRefIdeal.main_arg8)) (m ((c.tc : Thread Cert.SsdRefIdeal.nD Cert.SsdRefIdeal.τ).loc Cert.SsdRefIdeal.main_arg9)) (m ((c.tc : Thread Cert.SsdRefIdeal.nD Cert.SsdRefIdeal.τ).loc Cert.SsdRefIdeal.main_arg10))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9)
      ∧ r.2.mem ((c.tc : Thread Cert.Ssd.nD Cert.Ssd.τ).loc Cert.Ssd.main_arg10) = m ((c.tc : Thread Cert.Ssd.nD Cert.Ssd.τ).loc Cert.Ssd.main_arg10))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
      ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ r.2.sem = fun _ => 0)

def quiescent_SsdIdeal_pre_steps [hSsdIdeal : Cert.SsdIdeal.Facts] [hPre_steps : Cert.Pre_steps.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_steps m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
      ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9)
      ∧ r.2.mem ((c.tc : Thread Cert.SsdRefIdeal.nD Cert.SsdRefIdeal.τ).loc Cert.SsdRefIdeal.main_arg10) = m ((c.tc : Thread Cert.SsdRefIdeal.nD Cert.SsdRefIdeal.τ).loc Cert.SsdRefIdeal.main_arg10))
      ∧ r.2.sem = fun _ => 0)

def quiescent_SsdRefIdeal_pre_steps [hSsdRefIdeal : Cert.SsdRefIdeal.Facts] [hPre_steps : Cert.Pre_steps.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_steps m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9)
      ∧ r.2.mem ((c.tc : Thread Cert.SsdRefIdeal.nD Cert.SsdRefIdeal.τ).loc Cert.SsdRefIdeal.main_arg10) = m ((c.tc : Thread Cert.SsdRefIdeal.nD Cert.SsdRefIdeal.τ).loc Cert.SsdRefIdeal.main_arg10))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v41_0)) (v1 : (c : Dev Cert.AttnIdeal.nD) → Buf (Elt Ideal) ((c.tc : Thread Cert.AttnIdeal.nD Cert.AttnIdeal.τ).loc Cert.AttnIdeal.main_v41_1)) (v2 : (c : Dev Cert.AttnIdeal.nD) → Buf (Elt Ideal) ((c.tc : Thread Cert.AttnIdeal.nD Cert.AttnIdeal.τ).loc Cert.AttnIdeal.main_v41_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v41_0) = v0 c
          ∧ r.2.mem ((c.tc : Thread Cert.AttnIdeal.nD Cert.AttnIdeal.τ).loc Cert.AttnIdeal.main_v41_1) = v1 c
          ∧ r.2.mem ((c.tc : Thread Cert.AttnIdeal.nD Cert.AttnIdeal.τ).loc Cert.AttnIdeal.main_v41_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v84) = v0 c
          ∧ r.2.mem ((c.tc : Thread Cert.AttnRefIdeal.nD Cert.AttnRefIdeal.τ).loc Cert.AttnRefIdeal.main_v85) = v1 c
          ∧ r.2.mem ((c.tc : Thread Cert.AttnRefIdeal.nD Cert.AttnRefIdeal.τ).loc Cert.AttnRefIdeal.main_v86) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)) (v2 : (c : Dev Cert.InprojIdeal.nD) → Buf (Elt Ideal) ((c.tc : Thread Cert.InprojIdeal.nD Cert.InprojIdeal.τ).loc Cert.InprojIdeal.main_v9_2)) (v3 : (c : Dev Cert.InprojIdeal.nD) → Buf (Elt Ideal) ((c.tc : Thread Cert.InprojIdeal.nD Cert.InprojIdeal.τ).loc Cert.InprojIdeal.main_v9_3)) (v4 : (c : Dev Cert.InprojIdeal.nD) → Buf (Elt Ideal) ((c.tc : Thread Cert.InprojIdeal.nD Cert.InprojIdeal.τ).loc Cert.InprojIdeal.main_v9_4)) (v5 : (c : Dev Cert.InprojIdeal.nD) → Buf (Elt Ideal) ((c.tc : Thread Cert.InprojIdeal.nD Cert.InprojIdeal.τ).loc Cert.InprojIdeal.main_v9_5)) (v6 : (c : Dev Cert.InprojIdeal.nD) → Buf (Elt Ideal) ((c.tc : Thread Cert.InprojIdeal.nD Cert.InprojIdeal.τ).loc Cert.InprojIdeal.main_v9_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_v9_2) = v2 c
          ∧ r.2.mem ((c.tc : Thread Cert.InprojIdeal.nD Cert.InprojIdeal.τ).loc Cert.InprojIdeal.main_v9_3) = v3 c
          ∧ r.2.mem ((c.tc : Thread Cert.InprojIdeal.nD Cert.InprojIdeal.τ).loc Cert.InprojIdeal.main_v9_4) = v4 c
          ∧ r.2.mem ((c.tc : Thread Cert.InprojIdeal.nD Cert.InprojIdeal.τ).loc Cert.InprojIdeal.main_v9_5) = v5 c
          ∧ r.2.mem ((c.tc : Thread Cert.InprojIdeal.nD Cert.InprojIdeal.τ).loc Cert.InprojIdeal.main_v9_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_v27) = v1 c
          ∧ r.2.mem ((c.tc : Thread Cert.InprojRefIdeal.nD Cert.InprojRefIdeal.τ).loc Cert.InprojRefIdeal.main_v28) = v2 c
          ∧ r.2.mem ((c.tc : Thread Cert.InprojRefIdeal.nD Cert.InprojRefIdeal.τ).loc Cert.InprojRefIdeal.main_v29) = v3 c
          ∧ r.2.mem ((c.tc : Thread Cert.InprojRefIdeal.nD Cert.InprojRefIdeal.τ).loc Cert.InprojRefIdeal.main_v19) = v4 c
          ∧ r.2.mem ((c.tc : Thread Cert.InprojRefIdeal.nD Cert.InprojRefIdeal.τ).loc Cert.InprojRefIdeal.main_v42) = v5 c
          ∧ r.2.mem ((c.tc : Thread Cert.InprojRefIdeal.nD Cert.InprojRefIdeal.τ).loc Cert.InprojRefIdeal.main_v43) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Ssd_SsdIdeal : Prop :=
  True

def algebraic_SsdIdeal_SsdRefIdeal_pre_steps [hSsdIdeal : Cert.SsdIdeal.Facts] [hSsdRefIdeal : Cert.SsdRefIdeal.Facts] [hPre_steps : Cert.Pre_steps.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_steps m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)
      ∧ m' ((c.tc : Thread Cert.SsdRefIdeal.nD Cert.SsdRefIdeal.τ).loc Cert.SsdRefIdeal.main_arg9) = m ((c.tc : Thread Cert.SsdIdeal.nD Cert.SsdIdeal.τ).loc Cert.SsdIdeal.main_arg9)
      ∧ m' ((c.tc : Thread Cert.SsdRefIdeal.nD Cert.SsdRefIdeal.τ).loc Cert.SsdRefIdeal.main_arg10) = m ((c.tc : Thread Cert.SsdIdeal.nD Cert.SsdIdeal.τ).loc Cert.SsdIdeal.main_arg10)) →
    ∃ (v0 : (c : Dev Cert.SsdIdeal.nD) → Buf (Elt Ideal) ((c.tc : Thread Cert.SsdIdeal.nD Cert.SsdIdeal.τ).loc Cert.SsdIdeal.main_v36)) (v1 : (c : Dev Cert.SsdIdeal.nD) → Buf (Elt Ideal) ((c.tc : Thread Cert.SsdIdeal.nD Cert.SsdIdeal.τ).loc Cert.SsdIdeal.main_v33_1)) (v2 : (c : Dev Cert.SsdIdeal.nD) → Buf (Elt Ideal) ((c.tc : Thread Cert.SsdIdeal.nD Cert.SsdIdeal.τ).loc Cert.SsdIdeal.main_v33_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v36) = v0 c
          ∧ r.2.mem ((c.tc : Thread Cert.SsdIdeal.nD Cert.SsdIdeal.τ).loc Cert.SsdIdeal.main_v33_1) = v1 c
          ∧ r.2.mem ((c.tc : Thread Cert.SsdIdeal.nD Cert.SsdIdeal.τ).loc Cert.SsdIdeal.main_v33_2) = v2 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
          ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
          ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v115) = v0 c
          ∧ r.2.mem ((c.tc : Thread Cert.SsdRefIdeal.nD Cert.SsdRefIdeal.τ).loc Cert.SsdRefIdeal.main_v116) = v1 c
          ∧ r.2.mem ((c.tc : Thread Cert.SsdRefIdeal.nD Cert.SsdRefIdeal.τ).loc Cert.SsdRefIdeal.main_v117) = v2 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8)
          ∧ r.2.mem ((c.tc : Thread Cert.SsdRefIdeal.nD Cert.SsdRefIdeal.τ).loc Cert.SsdRefIdeal.main_arg9) = m' ((c.tc : Thread Cert.SsdRefIdeal.nD Cert.SsdRefIdeal.τ).loc Cert.SsdRefIdeal.main_arg9)
          ∧ r.2.mem ((c.tc : Thread Cert.SsdRefIdeal.nD Cert.SsdRefIdeal.τ).loc Cert.SsdRefIdeal.main_arg10) = m' ((c.tc : Thread Cert.SsdRefIdeal.nD Cert.SsdRefIdeal.τ).loc Cert.SsdRefIdeal.main_arg10))

def Claim : Prop :=
  ∃ (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hSsd : Cert.Ssd.Facts) (hSsdIdeal : Cert.SsdIdeal.Facts) (hSsdRefIdeal : Cert.SsdRefIdeal.Facts) (hPre_finite : Cert.Pre_finite.Facts) (hPre_steps : Cert.Pre_steps.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ssd (hSsd := hSsd)
    ∧ quiescent_SsdIdeal (hSsdIdeal := hSsdIdeal)
    ∧ quiescent_SsdIdeal_pre_steps (hSsdIdeal := hSsdIdeal) (hPre_steps := hPre_steps)
    ∧ quiescent_SsdRefIdeal (hSsdRefIdeal := hSsdRefIdeal)
    ∧ quiescent_SsdRefIdeal_pre_steps (hSsdRefIdeal := hSsdRefIdeal) (hPre_steps := hPre_steps)
    ∧ preserves_Attn_AttnIdeal
    ∧ algebraic_AttnIdeal_AttnRefIdeal_pre_finite (hAttnIdeal := hAttnIdeal) (hAttnRefIdeal := hAttnRefIdeal) (hPre_finite := hPre_finite)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Ssd_SsdIdeal
    ∧ algebraic_SsdIdeal_SsdRefIdeal_pre_steps (hSsdIdeal := hSsdIdeal) (hSsdRefIdeal := hSsdRefIdeal) (hPre_steps := hPre_steps)
-- ==== Pre_finite.lean ====
abbrev S512x1024 : Shape := ⟨2, ![512, 1024]⟩
abbrev S512x512 : Shape := ⟨2, ![512, 512]⟩
abbrev S16x128x256 : Shape := ⟨3, ![16, 128, 256]⟩
abbrev S16 : Shape := ⟨1, ![16]⟩
abbrev S1024x1024 : Shape := ⟨2, ![1024, 1024]⟩
abbrev S_ : Shape := ⟨0, ![]⟩
abbrev S512x256 : Shape := ⟨2, ![512, 256]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  slices_S512x512_S512x256_0_0 : S512x512.Slices ![0, 0] S512x256
  bcast_S_S512x256 : S_.BroadcastsInDim S512x256 (![] : Fin 0 → Fin S512x256.rank)
  reducesTo_S512x256_S_d0_1 : S512x256.ReducesTo [0, 1] S_
  bcast_S_S16x128x256 : S_.BroadcastsInDim S16x128x256 (![] : Fin 0 → Fin S16x128x256.rank)
  reducesTo_S16x128x256_S_d0_1_2 : S16x128x256.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v14 : IVec S_ 1) (main_v15 : FVec F S16 .f32) (main_v16 : FVec F S16 .f32) : IVec S_ 1 :=
  let main_v17 : IVec S16 1 := cmpf .olt main_v15 main_v16
  let main_c_5 : IVec S_ 1 := constantI S_ 1 1#1
  let main_v18 : IVec S_ 1 := (fun x v => Host.reduce IntOp.andi x v reducesTo_S16_S_d0 h_S_) main_v17 main_c_5
  let main_v19 : IVec S_ 1 := andi main_v14 main_v18
  main_v19

def fn {F : FTy → Type} [FloatOps F] (main_arg0 : FVec F S512x1024 .f32) (main_arg1 : FVec F S512x512 .f32) (main_arg2 : FVec F S512x1024 .f32) (main_arg3 : FVec F S16x128x256 .f32) (main_arg4 : FVec F S16x128x256 .f32) (main_arg5 : FVec F S16 .f32) (main_arg6 : FVec F S1024x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x256 .f32 := (extractStridedSlice S512x256 ![0, 0] · slices_S512x512_S512x256_0_0) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_c_1 : IVec S_ 1 := constantI S_ 1 1#1
  let main_v8 : IVec S_ 1 := (fun x v => Host.reduce IntOp.andi x v reducesTo_S512x256_S_d0_1 h_S_) main_v7 main_c_1
  let main_v9 : IVec S_ 1 := andi main_v3 main_v8
  let main_v10 : FVec F S16x128x256 .f32 := Host.absf main_arg3
  let main_cst_2 : FVec F S_ .f32 := constant S_ .f32 0x7F800000#32
  let main_v11 : FVec F S16x128x256 .f32 := broadcastInDim S16x128x256 ![] bcast_S_S16x128x256 main_cst_2
  let main_v12 : IVec S16x128x256 1 := cmpf .olt main_v10 main_v11
  let main_c_3 : IVec S_ 1 := constantI S_ 1 1#1
  let main_v13 : IVec S_ 1 := (fun x v => Host.reduce IntOp.andi x v reducesTo_S16x128x256_S_d0_1_2 h_S_) main_v12 main_c_3
  let main_v14 : IVec S_ 1 := andi main_v9 main_v13
  let main_v15 : FVec F S16 .f32 := Host.absf main_arg5
  let main_cst_4 : FVec F S_ .f32 := constant S_ .f32 0x7F800000#32
  let main_v16 : FVec F S16 .f32 := broadcastInDim S16 ![] bcast_S_S16 main_cst_4
  fn_part1 (F := F) main_v14 main_v15 main_v16
-- ==== Pre_steps.lean ====
abbrev S512x3072 : Shape := ⟨2, ![512, 3072]⟩
abbrev S512x2048 : Shape := ⟨2, ![512, 2048]⟩
abbrev S512x128 : Shape := ⟨2, ![512, 128]⟩
abbrev S16x3x3072 : Shape := ⟨3, ![16, 3, 3072]⟩
abbrev S16x2048x128 : Shape := ⟨3, ![16, 2048, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2048x1024 : Shape := ⟨2, ![2048, 1024]⟩
abbrev S_ : Shape := ⟨0, ![]⟩
abbrev S512x96 : Shape := ⟨2, ![512, 96]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S32 : S_.BroadcastsInDim S32 (![] : Fin 0 → Fin S32.rank)
  reducesTo_S32_S_d0 : S32.ReducesTo [0] S_
  slices_S512x128_S512x96_0_32 : S512x128.Slices ![0, 32] S512x96
  bcast_S_S512x96 : S_.BroadcastsInDim S512x96 (![] : Fin 0 → Fin S512x96.rank)
  reducesTo_S512x96_S_d0_1 : S512x96.ReducesTo [0, 1] S_

variable [Facts]

def fn {F : FTy → Type} [FloatOps F] (main_arg0 : FVec F S512x3072 .f32) (main_arg1 : FVec F S512x2048 .f32) (main_arg2 : FVec F S512x128 .f32) (main_arg3 : FVec F S16x3x3072 .f32) (main_arg4 : FVec F S16x2048x128 .f32) (main_arg5 : FVec F S4x3072 .f32) (main_arg6 : FVec F S3072 .f32) (main_arg7 : FVec F S32 .f32) (main_arg8 : FVec F S32 .f32) (main_arg9 : FVec F S2048 .f32) (main_arg10 : FVec F S2048x1024 .f32) : IVec S_ 1 :=
  let main_v0 : FVec F S512x128 .f32 := Host.absf main_arg2
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_cst_0 : FVec F S_ .f32 := constant S_ .f32 0x7F800000#32
  let main_v4 : FVec F S32 .f32 := broadcastInDim S32 ![] bcast_S_S32 main_cst_0
  let main_v5 : IVec S32 1 := cmpf .olt main_arg7 main_v4
  let main_c_1 : IVec S_ 1 := constantI S_ 1 1#1
  let main_v6 : IVec S_ 1 := (fun x v => Host.reduce IntOp.andi x v reducesTo_S32_S_d0 h_S_) main_v5 main_c_1
  let main_v7 : IVec S_ 1 := andi main_v3 main_v6
  let main_v8 : FVec F S512x96 .f32 := (extractStridedSlice S512x96 ![0, 32] · slices_S512x128_S512x96_0_32) main_arg2
  let main_cst_2 : FVec F S_ .f32 := constant S_ .f32 0x00000000#32
  let main_v9 : FVec F S512x96 .f32 := broadcastInDim S512x96 ![] bcast_S_S512x96 main_cst_2
  let main_v10 : IVec S512x96 1 := cmpf .oeq main_v8 main_v9
  let main_c_3 : IVec S_ 1 := constantI S_ 1 1#1
  let main_v11 : IVec S_ 1 := (fun x v => Host.reduce IntOp.andi x v reducesTo_S512x96_S_d0_1 h_S_) main_v10 main_c_3
  let main_v12 : IVec S_ 1 := andi main_v7 main_v11
  main_v12
-- ==== Attn.lean ====
abbrev S512x1024 : Shape := ⟨2, ![512, 1024]⟩
abbrev S512x512 : Shape := ⟨2, ![512, 512]⟩
abbrev S16x128x256 : Shape := ⟨3, ![16, 128, 256]⟩
abbrev S16 : Shape := ⟨1, ![16]⟩
abbrev S1024x1024 : Shape := ⟨2, ![1024, 1024]⟩
abbrev S32 : Shape := ⟨1, ![32]⟩
abbrev S_ : Shape := ⟨0, ![]⟩
abbrev S4x4 : Shape := ⟨2, ![4, 4]⟩
abbrev S4x4x32 : Shape := ⟨3, ![4, 4, 32]⟩
abbrev S4x128 : Shape := ⟨2, ![4, 128]⟩
abbrev S4x128x1 : Shape := ⟨3, ![4, 128, 1]⟩
abbrev S4x128x128 : Shape := ⟨3, ![4, 128, 128]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S32x56 : Shape := ⟨2, ![32, 56]⟩
abbrev S1x32x1x64 : Shape := ⟨4, ![1, 32, 1, 64]⟩
abbrev S1x32x2x64 : Shape := ⟨4, ![1, 32, 2, 64]⟩
abbrev S32x128 : Shape := ⟨2, ![32, 128]⟩
abbrev S16x32x256 : Shape := ⟨3, ![16, 32, 256]⟩
abbrev S32x1024 : Shape := ⟨2, ![32, 1024]⟩
abbrev S32x512 : Shape := ⟨2, ![32, 512]⟩
abbrev S1x128x256 : Shape := ⟨3, ![1, 128, 256]⟩
abbrev S1x32x256 : Shape := ⟨3, ![1, 32, 256]⟩
abbrev S160x256 : Shape := ⟨2, ![160, 256]⟩
abbrev S128x256 : Shape := ⟨2, ![128, 256]⟩
abbrev S32x256 : Shape := ⟨2, ![32, 256]⟩
abbrev S128x64 : Shape := ⟨2, ![128, 64]⟩
abbrev S160x64 : Shape := ⟨2, ![160, 64]⟩
abbrev S128x160 : Shape := ⟨2, ![128, 160]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩

abbrev nBuf : Space → Nat
  | .hbm => 59
  | .vmem => 25
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x1024, .f32⟩
  | .hbm, ⟨3, _⟩ => ⟨S16x128x256, .f32⟩
  | .hbm, ⟨4, _⟩ => ⟨S16x128x256, .f32⟩
  | .hbm, ⟨5, _⟩ => ⟨S16, .f32⟩
  | .hbm, ⟨6, _⟩ => ⟨S1024x1024, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S4x4, .f32⟩
  | .hbm, ⟨12, _⟩ => ⟨S4x4x32, .f32⟩
  | .hbm, ⟨13, _⟩ => ⟨S4x128, .f32⟩
  | .hbm, ⟨14, _⟩ => ⟨S4x128x1, .f32⟩
  | .hbm, ⟨15, _⟩ => ⟨S4x128x128, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S32x1, .f32⟩
  | .hbm, ⟨28, _⟩ => ⟨S1x8, .f32⟩
  | .hbm, ⟨29, _⟩ => ⟨S32x8, .f32⟩
  | .hbm, ⟨30, _⟩ => ⟨S32x8, .f32⟩
  | .hbm, ⟨31, _⟩ => ⟨S32x8, .f32⟩
  | .hbm, ⟨32, _⟩ => ⟨S32x8, .f32⟩
  | .hbm, ⟨33, _⟩ => ⟨S32x8, .f32⟩
  | .hbm, ⟨34, _⟩ => ⟨S_, .f32⟩
  | .hbm, ⟨35, _⟩ => ⟨S32x48, .f32⟩
  | .hbm, ⟨36, _⟩ => ⟨S32x64, .f32⟩
  | .hbm, ⟨37, _⟩ => ⟨S32x8, .f32⟩
  | .hbm, ⟨38, _⟩ => ⟨S_, .f32⟩
  | .hbm, ⟨39, _⟩ => ⟨S32x56, .f32⟩
  | .hbm, ⟨40, _⟩ => ⟨S32x64, .f32⟩
  | .hbm, ⟨41, _⟩ => ⟨S_, .f32⟩
  | .hbm, ⟨42, _⟩ => ⟨S32x8, .f32⟩
  | .hbm, ⟨43, _⟩ => ⟨S_, .f32⟩
  | .hbm, ⟨44, _⟩ => ⟨S32x48, .f32⟩
  | .hbm, ⟨45, _⟩ => ⟨S32x64, .f32⟩
  | .hbm, ⟨46, _⟩ => ⟨S1x32x1x64, .f32⟩
  | .hbm, ⟨47, _⟩ => ⟨S1x32x2x64, .f32⟩
  | .hbm, ⟨48, _⟩ => ⟨S32x128, .f32⟩
  | .hbm, ⟨49, _⟩ => ⟨S1x32x1x64, .f32⟩
  | .hbm, ⟨50, _⟩ => ⟨S1x32x2x64, .f32⟩
  | .hbm, ⟨51, _⟩ => ⟨S32x128, .f32⟩
  | .hbm, ⟨52, _⟩ => ⟨S1x32x1x64, .f32⟩
  | .hbm, ⟨53, _⟩ => ⟨S1x32x2x64, .f32⟩
  | .hbm, ⟨54, _⟩ => ⟨S32x128, .f32⟩
  | .hbm, ⟨55, _⟩ => ⟨S1024x1024, .bf16⟩
  | .hbm, ⟨56, _⟩ => ⟨S512x1024, .f32⟩
  | .hbm, ⟨57, _⟩ => ⟨S16x32x256, .f32⟩
  | .hbm, ⟨58, _⟩ => ⟨S16x32x256, .f32⟩
  | .local _ .vmem, ⟨0, _⟩ => ⟨S32x1024, .f32⟩
  | .local _ .vmem, ⟨1, _⟩ => ⟨S32x1024, .f32⟩
  | .local _ .vmem, ⟨2, _⟩ => ⟨S32x512, .f32⟩
  | .local _ .vmem, ⟨3, _⟩ => ⟨S32x512, .f32⟩
  | .local _ .vmem, ⟨4, _⟩ => ⟨S32x1024, .f32⟩
  | .local _ .vmem, ⟨5, _⟩ => ⟨S32x1024, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S4x128x128, .f32⟩
  | .local _ .vmem, ⟨14, _⟩ => ⟨S1024x1024, .bf16⟩
  | .local _ .vmem, ⟨15, _⟩ => ⟨S32x1024, .f32⟩
  | .local _ .vmem, ⟨16, _⟩ => ⟨S32x1024, .f32⟩
  | .local _ .vmem, ⟨17, _⟩ => ⟨S1x32x256, .f32⟩
  | .local _ .vmem, ⟨18, _⟩ => ⟨S1x32x256, .f32⟩
  | .local _ .vmem, ⟨19, _⟩ => ⟨S1x32x256, .f32⟩
  | .local _ .vmem, ⟨20, _⟩ => ⟨S1x32x256, .f32⟩
  | .local _ .vmem, ⟨21, _⟩ => ⟨S32x1024, .bf16⟩
  | .local _ .vmem, ⟨22, _⟩ => ⟨S160x256, .f32⟩
  | .local _ .vmem, ⟨23, _⟩ => ⟨S160x256, .f32⟩
  | .local _ .vmem, ⟨24, _⟩ => ⟨S32x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41_0 : Ref sig .tc := ⟨.hbm, 56, rfl⟩
abbrev main_v41_1 : Ref sig .tc := ⟨.hbm, 57, rfl⟩
abbrev main_v41_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_174 : BitVec 32 := 0#32
  let v331 : BitVec 1 := Scalar.cmpi .eq arg1 c0_i32_174
  let v332 : BitVec 32 := Scalar.extui v331
  let c0_i32_175 : BitVec 32 := 0#32
  let v333 : BitVec 1 := Scalar.cmpi .ne v332 c0_i32_175
  v333

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x32x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== AttnRefIdeal.lean ====
abbrev S512x1024 : Shape := ⟨2, ![512, 1024]⟩
abbrev S512x512 : Shape := ⟨2, ![512, 512]⟩
abbrev S16x128x256 : Shape := ⟨3, ![16, 128, 256]⟩
abbrev S16 : Shape := ⟨1, ![16]⟩
abbrev S1024x1024 : Shape := ⟨2, ![1024, 1024]⟩
abbrev S32 : Shape := ⟨1, ![32]⟩
abbrev S_ : Shape := ⟨0, ![]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S1x32x1x8 : Shape := ⟨4, ![1, 32, 1, 8]⟩
abbrev S16x32x16x64 : Shape := ⟨4, ![16, 32, 16, 64]⟩
abbrev S16x32x16x8 : Shape := ⟨4, ![16, 32, 16, 8]⟩
abbrev S16x32x16x48 : Shape := ⟨4, ![16, 32, 16, 48]⟩
abbrev S512x256 : Shape := ⟨2, ![512, 256]⟩
abbrev S16x32x4x64 : Shape := ⟨4, ![16, 32, 4, 64]⟩
abbrev S16x32x4x8 : Shape := ⟨4, ![16, 32, 4, 8]⟩
abbrev S16x32x4x48 : Shape := ⟨4, ![16, 32, 4, 48]⟩
abbrev S16x128x4x64 : Shape := ⟨4, ![16, 128, 4, 64]⟩
abbrev S16x160x4x64 : Shape := ⟨4, ![16, 160, 4, 64]⟩
abbrev S16x32x4x4x64 : Shape := ⟨5, ![16, 32, 4, 4, 64]⟩
abbrev S16x4x160x32x4 : Shape := ⟨5, ![16, 4, 160, 32, 4]⟩
abbrev S16x4x4x32x160 : Shape := ⟨5, ![16, 4, 4, 32, 160]⟩
abbrev S4x4x1x1 : Shape := ⟨4, ![4, 4, 1, 1]⟩
abbrev S16x4x4x32 : Shape := ⟨4, ![16, 4, 4, 32]⟩
abbrev S16x4x4x32x1 : Shape := ⟨5, ![16, 4, 4, 32, 1]⟩
abbrev S1x4x4x1x1 : Shape := ⟨5, ![1, 4, 4, 1, 1]⟩
abbrev S16x4x64x4x32 : Shape := ⟨5, ![16, 4, 64, 4, 32]⟩
abbrev S16x32x256 : Shape := ⟨3, ![16, 32, 256]⟩

abbrev nBuf : Space → Nat
  | .hbm => 101
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x1024, .f32⟩
  | .hbm, ⟨3, _⟩ => ⟨S16x128x256, .f32⟩
  | .hbm, ⟨4, _⟩ => ⟨S16x128x256, .f32⟩
  | .hbm, ⟨5, _⟩ => ⟨S16, .f32⟩
  | .hbm, ⟨6, _⟩ => ⟨S1024x1024, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S32x1, .f32⟩
  | .hbm, ⟨23, _⟩ => ⟨S1x8, .f32⟩
  | .hbm, ⟨24, _⟩ => ⟨S32x8, .f32⟩
  | .hbm, ⟨25, _⟩ => ⟨S32x8, .f32⟩
  | .hbm, ⟨26, _⟩ => ⟨S32x8, .f32⟩
  | .hbm, ⟨27, _⟩ => ⟨S32x8, .f32⟩
  | .hbm, ⟨28, _⟩ => ⟨S1x32x1x8, .f32⟩
  | .hbm, ⟨29, _⟩ => ⟨S32x8, .f32⟩
  | .hbm, ⟨30, _⟩ => ⟨S1x32x1x8, .f32⟩
  | .hbm, ⟨31, _⟩ => ⟨S16x32x16x64, .f32⟩
  | .hbm, ⟨32, _⟩ => ⟨S16x32x16x8, .f32⟩
  | .hbm, ⟨33, _⟩ => ⟨S16x32x16x8, .f32⟩
  | .hbm, ⟨34, _⟩ => ⟨S16x32x16x48, .f32⟩
  | .hbm, ⟨35, _⟩ => ⟨S16x32x16x8, .f32⟩
  | .hbm, ⟨36, _⟩ => ⟨S16x32x16x8, .f32⟩
  | .hbm, ⟨37, _⟩ => ⟨S16x32x16x8, .f32⟩
  | .hbm, ⟨38, _⟩ => ⟨S16x32x16x8, .f32⟩
  | .hbm, ⟨39, _⟩ => ⟨S16x32x16x8, .f32⟩
  | .hbm, ⟨40, _⟩ => ⟨S16x32x16x8, .f32⟩
  | .hbm, ⟨41, _⟩ => ⟨S16x32x16x8, .f32⟩
  | .hbm, ⟨42, _⟩ => ⟨S16x32x16x8, .f32⟩
  | .hbm, ⟨43, _⟩ => ⟨S16x32x16x8, .f32⟩
  | .hbm, ⟨44, _⟩ => ⟨S16x32x16x8, .f32⟩
  | .hbm, ⟨45, _⟩ => ⟨S16x32x16x64, .f32⟩
  | .hbm, ⟨46, _⟩ => ⟨S512x256, .f32⟩
  | .hbm, ⟨47, _⟩ => ⟨S16x32x4x64, .f32⟩
  | .hbm, ⟨48, _⟩ => ⟨S16x32x4x8, .f32⟩
  | .hbm, ⟨49, _⟩ => ⟨S16x32x4x8, .f32⟩
  | .hbm, ⟨50, _⟩ => ⟨S16x32x4x48, .f32⟩
  | .hbm, ⟨51, _⟩ => ⟨S16x32x4x8, .f32⟩
  | .hbm, ⟨52, _⟩ => ⟨S16x32x4x8, .f32⟩
  | .hbm, ⟨53, _⟩ => ⟨S16x32x4x8, .f32⟩
  | .hbm, ⟨54, _⟩ => ⟨S16x32x4x8, .f32⟩
  | .hbm, ⟨55, _⟩ => ⟨S16x32x4x8, .f32⟩
  | .hbm, ⟨56, _⟩ => ⟨S16x32x4x8, .f32⟩
  | .hbm, ⟨57, _⟩ => ⟨S16x32x4x8, .f32⟩
  | .hbm, ⟨58, _⟩ => ⟨S16x32x4x8, .f32⟩
  | .hbm, ⟨59, _⟩ => ⟨S16x32x4x8, .f32⟩
  | .hbm, ⟨60, _⟩ => ⟨S16x32x4x8, .f32⟩
  | .hbm, ⟨61, _⟩ => ⟨S16x32x4x64, .f32⟩
  | .hbm, ⟨62, _⟩ => ⟨S512x256, .f32⟩
  | .hbm, ⟨63, _⟩ => ⟨S16x32x4x64, .f32⟩
  | .hbm, ⟨64, _⟩ => ⟨S16x128x4x64, .f32⟩
  | .hbm, ⟨65, _⟩ => ⟨S16x160x4x64, .f32⟩
  | .hbm, ⟨66, _⟩ => ⟨S16x128x4x64, .f32⟩
  | .hbm, ⟨67, _⟩ => ⟨S16x160x4x64, .f32⟩
  | .hbm, ⟨68, _⟩ => ⟨S16x32x4x4x64, .f32⟩
  | .hbm, ⟨69, _⟩ => ⟨S16x4x160x32x4, .f32⟩
  | .hbm, ⟨70, _⟩ => ⟨S16x4x4x32x160, .f32⟩
  | .hbm, ⟨71, _⟩ => ⟨S_, .f32⟩
  | .hbm, ⟨72, _⟩ => ⟨S16x4x4x32x160, .f32⟩
  | .hbm, ⟨73, _⟩ => ⟨S16x4x4x32x160, .f32⟩
  | .hbm, ⟨74, _⟩ => ⟨S4x4x1x1, .f32⟩
  | .hbm, ⟨75, _⟩ => ⟨S_, .f32⟩
  | .hbm, ⟨76, _⟩ => ⟨S16x4x4x32, .f32⟩
  | .hbm, ⟨77, _⟩ => ⟨S16x4x4x32x1, .f32⟩
  | .hbm, ⟨78, _⟩ => ⟨S1x4x4x1x1, .f32⟩
  | .hbm, ⟨79, _⟩ => ⟨S16x4x4x32x1, .f32⟩
  | .hbm, ⟨80, _⟩ => ⟨S16x4x4x32x1, .f32⟩
  | .hbm, ⟨81, _⟩ => ⟨S16x4x4x32x160, .f32⟩
  | .hbm, ⟨82, _⟩ => ⟨S16x4x4x32x160, .f32⟩
  | .hbm, ⟨83, _⟩ => ⟨S16x4x4x32x160, .f32⟩
  | .hbm, ⟨84, _⟩ => ⟨S_, .f32⟩
  | .hbm, ⟨85, _⟩ => ⟨S16x4x4x32, .f32⟩
  | .hbm, ⟨86, _⟩ => ⟨S16x4x4x32x1, .f32⟩
  | .hbm, ⟨87, _⟩ => ⟨S1x4x4x1x1, .f32⟩
  | .hbm, ⟨88, _⟩ => ⟨S16x4x4x32x1, .f32⟩
  | .hbm, ⟨89, _⟩ => ⟨S16x4x4x32x1, .f32⟩
  | .hbm, ⟨90, _⟩ => ⟨S16x4x4x32x1, .f32⟩
  | .hbm, ⟨91, _⟩ => ⟨S16x4x4x32x1, .f32⟩
  | .hbm, ⟨92, _⟩ => ⟨S16x4x4x32x160, .f32⟩
  | .hbm, ⟨93, _⟩ => ⟨S16x4x4x32x160, .f32⟩
  | .hbm, ⟨94, _⟩ => ⟨S16x4x64x4x32, .f32⟩
  | .hbm, ⟨95, _⟩ => ⟨S16x32x4x4x64, .f32⟩
  | .hbm, ⟨96, _⟩ => ⟨S512x1024, .f32⟩
  | .hbm, ⟨97, _⟩ => ⟨S512x1024, .f32⟩
  | .hbm, ⟨98, _⟩ => ⟨S512x1024, .f32⟩
  | .hbm, ⟨99, _⟩ => ⟨S16x32x256, .f32⟩
  | .hbm, ⟨100, _⟩ => ⟨S16x32x256, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_3 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_4 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_5 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩

abbrev nD : Nat := 1
abbrev τ : Topo := Topo.v7x

variable {F : FTy → Type} [FloatOps F]
-- ==== Inproj.lean ====
abbrev S65536x1024 : Shape := ⟨2, ![65536, 1024]⟩
abbrev S1024 : Shape := ⟨1, ![1024]⟩
abbrev S1024x9760 : Shape := ⟨2, ![1024, 9760]⟩
abbrev S32 : Shape := ⟨1, ![32]⟩
abbrev S1024x7680 : Shape := ⟨2, ![1024, 7680]⟩
abbrev S1024x2048 : Shape := ⟨2, ![1024, 2048]⟩
abbrev S1024x32 : Shape := ⟨2, ![1024, 32]⟩
abbrev S_ : Shape := ⟨0, ![]⟩
abbrev S1024x96 : Shape := ⟨2, ![1024, 96]⟩
abbrev S1024x9856 : Shape := ⟨2, ![1024, 9856]⟩
abbrev S1x1024 : Shape := ⟨2, ![1, 1024]⟩
abbrev S128 : Shape := ⟨1, ![128]⟩
abbrev S1x128 : Shape := ⟨2, ![1, 128]⟩
abbrev S65536x512 : Shape := ⟨2, ![65536, 512]⟩
abbrev S65536x2048 : Shape := ⟨2, ![65536, 2048]⟩
abbrev S65536x3072 : Shape := ⟨2, ![65536, 3072]⟩
abbrev S65536x128 : Shape := ⟨2, ![65536, 128]⟩
abbrev S256x1024 : Shape := ⟨2, ![256, 1024]⟩
abbrev S256x512 : Shape := ⟨2, ![256, 512]⟩
abbrev S256x2048 : Shape := ⟨2, ![256, 2048]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩

abbrev nBuf : Space → Nat
  | .hbm => 23
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x9760, .f32⟩
  | .hbm, ⟨3, _⟩ => ⟨S32, .f32⟩
  | .hbm, ⟨4, _⟩ => ⟨S1024x7680, .f32⟩
  | .hbm, ⟨5, _⟩ => ⟨S1024x2048, .f32⟩
  | .hbm, ⟨6, _⟩ => ⟨S1024x32, .f32⟩
  | .hbm, ⟨7, _⟩ => ⟨S_, .f32⟩
  | .hbm, ⟨8, _⟩ => ⟨S1024x96, .f32⟩
  | .hbm, ⟨9, _⟩ => ⟨S1024x9856, .f32⟩
  | .hbm, ⟨10, _⟩ => ⟨S1024x9856, .bf16⟩
  | .hbm, ⟨11, _⟩ => ⟨S1x1024, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S65536x1024, .f32⟩
  | .hbm, ⟨17, _⟩ => ⟨S65536x512, .f32⟩
  | .hbm, ⟨18, _⟩ => ⟨S65536x1024, .f32⟩
  | .hbm, ⟨19, _⟩ => ⟨S65536x2048, .f32⟩
  | .hbm, ⟨20, _⟩ => ⟨S65536x3072, .f32⟩
  | .hbm, ⟨21, _⟩ => ⟨S65536x2048, .f32⟩
  | .hbm, ⟨22, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x9856, .bf16⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S256x3072, .f32⟩
  | .local _ .vmem, ⟨14, _⟩ => ⟨S256x3072, .f32⟩
  | .local _ .vmem, ⟨15, _⟩ => ⟨S256x2048, .f32⟩
  | .local _ .vmem, ⟨16, _⟩ => ⟨S256x2048, .f32⟩
  | .local _ .vmem, ⟨17, _⟩ => ⟨S256x128, .f32⟩
  | .local _ .vmem, ⟨18, _⟩ => ⟨S256x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9856 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojRefIdeal.lean ====
abbrev S65536x1024 : Shape := ⟨2, ![65536, 1024]⟩
abbrev S1024 : Shape := ⟨1, ![1024]⟩
abbrev S1024x9760 : Shape := ⟨2, ![1024, 9760]⟩
abbrev S32 : Shape := ⟨1, ![32]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x9760 : Shape := ⟨2, ![65536, 9760]⟩
abbrev S65536x256 : Shape := ⟨2, ![65536, 256]⟩
abbrev S65536x2048 : Shape := ⟨2, ![65536, 2048]⟩
abbrev S65536x3072 : Shape := ⟨2, ![65536, 3072]⟩
abbrev S65536x32 : Shape := ⟨2, ![65536, 32]⟩
abbrev S1x32 : Shape := ⟨2, ![1, 32]⟩
abbrev S65536x512 : Shape := ⟨2, ![65536, 512]⟩
abbrev S65536x128 : Shape := ⟨2, ![65536, 128]⟩

abbrev nBuf : Space → Nat
  | .hbm => 86
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x9760, .f32⟩
  | .hbm, ⟨3, _⟩ => ⟨S32, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x9760, .f32⟩
  | .hbm, ⟨21, _⟩ => ⟨S65536x1024, .f32⟩
  | .hbm, ⟨22, _⟩ => ⟨S65536x256, .f32⟩
  | .hbm, ⟨23, _⟩ => ⟨S65536x256, .f32⟩
  | .hbm, ⟨24, _⟩ => ⟨S65536x1024, .f32⟩
  | .hbm, ⟨25, _⟩ => ⟨S65536x2048, .f32⟩
  | .hbm, ⟨26, _⟩ => ⟨S65536x3072, .f32⟩
  | .hbm, ⟨27, _⟩ => ⟨S65536x32, .f32⟩
  | .hbm, ⟨28, _⟩ => ⟨S65536x1024, .f32⟩
  | .hbm, ⟨29, _⟩ => ⟨S65536x1024, .f32⟩
  | .hbm, ⟨30, _⟩ => ⟨S1x32, .f32⟩
  | .hbm, ⟨31, _⟩ => ⟨S65536x32, .f32⟩
  | .hbm, ⟨32, _⟩ => ⟨S65536x32, .f32⟩
  | .hbm, ⟨33, _⟩ => ⟨S_, .f32⟩
  | .hbm, ⟨34, _⟩ => ⟨S65536x32, .f32⟩
  | .hbm, ⟨35, _⟩ => ⟨S65536x32, .f32⟩
  | .hbm, ⟨36, _⟩ => ⟨S65536x32, .f32⟩
  | .hbm, ⟨37, _⟩ => ⟨S65536x32, .f32⟩
  | .hbm, ⟨38, _⟩ => ⟨S65536x32, .i1⟩
  | .hbm, ⟨39, _⟩ => ⟨S65536x32, .f32⟩
  | .hbm, ⟨40, _⟩ => ⟨S65536x32, .f32⟩
  | .hbm, ⟨41, _⟩ => ⟨S65536x32, .f32⟩
  | .hbm, ⟨42, _⟩ => ⟨S65536x32, .f32⟩
  | .hbm, ⟨43, _⟩ => ⟨S65536x32, .f32⟩
  | .hbm, ⟨44, _⟩ => ⟨S65536x32, .f32⟩
  | .hbm, ⟨45, _⟩ => ⟨S65536x32, .f32⟩
  | .hbm, ⟨46, _⟩ => ⟨S65536x32, .f32⟩
  | .hbm, ⟨47, _⟩ => ⟨S65536x512, .f32⟩
  | .hbm, ⟨48, _⟩ => ⟨S65536x1024, .f32⟩
  | .hbm, ⟨49, _⟩ => ⟨S65536x1024, .f32⟩
  | .hbm, ⟨50, _⟩ => ⟨S_, .f32⟩
  | .hbm, ⟨51, _⟩ => ⟨S65536x1024, .f32⟩
  | .hbm, ⟨52, _⟩ => ⟨S65536x1024, .f32⟩
  | .hbm, ⟨53, _⟩ => ⟨S_, .f32⟩
  | .hbm, ⟨54, _⟩ => ⟨S65536x1024, .f32⟩
  | .hbm, ⟨55, _⟩ => ⟨S65536x1024, .f32⟩
  | .hbm, ⟨56, _⟩ => ⟨S65536x1024, .f32⟩
  | .hbm, ⟨57, _⟩ => ⟨S65536x2048, .f32⟩
  | .hbm, ⟨58, _⟩ => ⟨S65536x2048, .f32⟩
  | .hbm, ⟨59, _⟩ => ⟨S_, .f32⟩
  | .hbm, ⟨60, _⟩ => ⟨S65536x2048, .f32⟩
  | .hbm, ⟨61, _⟩ => ⟨S65536x2048, .f32⟩
  | .hbm, ⟨62, _⟩ => ⟨S_, .f32⟩
  | .hbm, ⟨63, _⟩ => ⟨S65536x2048, .f32⟩
  | .hbm, ⟨64, _⟩ => ⟨S65536x2048, .f32⟩
  | .hbm, ⟨65, _⟩ => ⟨S65536x2048, .f32⟩
  | .hbm, ⟨66, _⟩ => ⟨S65536x1024, .f32⟩
  | .hbm, ⟨67, _⟩ => ⟨S65536x1024, .f32⟩
  | .hbm, ⟨68, _⟩ => ⟨S_, .f32⟩
  | .hbm, ⟨69, _⟩ => ⟨S65536x1024, .f32⟩
  | .hbm, ⟨70, _⟩ => ⟨S65536x1024, .f32⟩
  | .hbm, ⟨71, _⟩ => ⟨S_, .f32⟩
  | .hbm, ⟨72, _⟩ => ⟨S65536x1024, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S_, .f32⟩
  | .hbm, ⟨77, _⟩ => ⟨S65536x1024, .f32⟩
  | .hbm, ⟨78, _⟩ => ⟨S65536x1024, .f32⟩
  | .hbm, ⟨79, _⟩ => ⟨S_, .f32⟩
  | .hbm, ⟨80, _⟩ => ⟨S65536x1024, .f32⟩
  | .hbm, ⟨81, _⟩ => ⟨S65536x1024, .f32⟩
  | .hbm, ⟨82, _⟩ => ⟨S65536x2048, .f32⟩
  | .hbm, ⟨83, _⟩ => ⟨S_, .i32⟩
  | .hbm, ⟨84, _⟩ => ⟨S_, .f32⟩
  | .hbm, ⟨85, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v28 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_2 : Ref sig .tc := ⟨.hbm, 68, rfl⟩
abbrev main_v32 : Ref sig .tc := ⟨.hbm, 69, rfl⟩
abbrev main_v33 : Ref sig .tc := ⟨.hbm, 70, rfl⟩
abbrev main_cst_3 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_4 : Ref sig .tc := ⟨.hbm, 76, rfl⟩
abbrev main_v38 : Ref sig .tc := ⟨.hbm, 77, rfl⟩
abbrev main_v39 : Ref sig .tc := ⟨.hbm, 78, rfl⟩
abbrev main_cst_5 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c : Ref sig .tc := ⟨.hbm, 83, rfl⟩
abbrev main_call3_v0 : Ref sig .tc := ⟨.hbm, 84, rfl⟩
abbrev main_v43 : Ref sig .tc := ⟨.hbm, 85, rfl⟩

abbrev nD : Nat := 1
abbrev τ : Topo := Topo.v7x

variable {F : FTy → Type} [FloatOps F]
-- ==== Merge.lean ====
abbrev S65536x1024 : Shape := ⟨2, ![65536, 1024]⟩
abbrev S65536x2048 : Shape := ⟨2, ![65536, 2048]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S65536x2048, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S65536x1024 : Shape := ⟨2, ![65536, 1024]⟩
abbrev S65536x2048 : Shape := ⟨2, ![65536, 2048]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S65536x2048, .f32⟩
  | .hbm, ⟨4, _⟩ => ⟨S1024x1024, .f32⟩
  | .hbm, ⟨5, _⟩ => ⟨S1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Ssd.lean ====
abbrev S512x3072 : Shape := ⟨2, ![512, 3072]⟩
abbrev S512x2048 : Shape := ⟨2, ![512, 2048]⟩
abbrev S512x128 : Shape := ⟨2, ![512, 128]⟩
abbrev S16x3x3072 : Shape := ⟨3, ![16, 3, 3072]⟩
abbrev S16x2048x128 : Shape := ⟨3, ![16, 2048, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2048x1024 : Shape := ⟨2, ![2048, 1024]⟩
abbrev S128 : Shape := ⟨1, ![128]⟩
abbrev S128x1 : Shape := ⟨2, ![128, 1]⟩
abbrev S1x2048 : Shape := ⟨2, ![1, 2048]⟩
abbrev S_ : Shape := ⟨0, ![]⟩
abbrev S128x2048 : Shape := ⟨2, ![128, 2048]⟩
abbrev S16x32x3072 : Shape := ⟨3, ![16, 32, 3072]⟩
abbrev S16x64x3072 : Shape := ⟨3, ![16, 64, 3072]⟩
abbrev S1024x3072 : Shape := ⟨2, ![1024, 3072]⟩
abbrev S16x32x2048 : Shape := ⟨3, ![16, 32, 2048]⟩
abbrev S16x64x2048 : Shape := ⟨3, ![16, 64, 2048]⟩
abbrev S1024x2048 : Shape := ⟨2, ![1024, 2048]⟩
abbrev S16x32x128 : Shape := ⟨3, ![16, 32, 128]⟩
abbrev S16x64x128 : Shape := ⟨3, ![16, 64, 128]⟩
abbrev S1024x128 : Shape := ⟨2, ![1024, 128]⟩
abbrev S1x3072 : Shape := ⟨2, ![1, 3072]⟩
abbrev S1x128 : Shape := ⟨2, ![1, 128]⟩
abbrev S32x64 : Shape := ⟨2, ![32, 64]⟩
abbrev S1024x1024 : Shape := ⟨2, ![1024, 1024]⟩
abbrev S64x3072 : Shape := ⟨2, ![64, 3072]⟩
abbrev S64x2048 : Shape := ⟨2, ![64, 2048]⟩
abbrev S64x128 : Shape := ⟨2, ![64, 128]⟩
abbrev S1x3x3072 : Shape := ⟨3, ![1, 3, 3072]⟩
abbrev S1x2048x128 : Shape := ⟨3, ![1, 2048, 128]⟩
abbrev S64x1024 : Shape := ⟨2, ![64, 1024]⟩
abbrev S72x3072 : Shape := ⟨2, ![72, 3072]⟩
abbrev S3x3072 : Shape := ⟨2, ![3, 3072]⟩
abbrev S2048x128 : Shape := ⟨2, ![2048, 128]⟩
abbrev S64x64 : Shape := ⟨2, ![64, 64]⟩
abbrev S256x256 : Shape := ⟨2, ![256, 256]⟩
abbrev S64x512 : Shape := ⟨2, ![64, 512]⟩
abbrev S256x128 : Shape := ⟨2, ![256, 128]⟩
abbrev S64x256 : Shape := ⟨2, ![64, 256]⟩
abbrev S128x512 : Shape := ⟨2, ![128, 512]⟩
abbrev S1x512 : Shape := ⟨2, ![1, 512]⟩
abbrev S128x64 : Shape := ⟨2, ![128, 64]⟩
abbrev S64 : Shape := ⟨1, ![64]⟩
abbrev S64x1 : Shape := ⟨2, ![64, 1]⟩
abbrev S16x64x1024 : Shape := ⟨3, ![16, 64, 1024]⟩
abbrev S16x32x1024 : Shape := ⟨3, ![16, 32, 1024]⟩
abbrev S512x1024 : Shape := ⟨2, ![512, 1024]⟩

abbrev nBuf : Space → Nat
  | .hbm => 97
  | .vmem => 27
  | .smem => 0
  | _ => 0

abbrev bufTy : (tb : Table) → Fin (tcTables nBuf tb) → BufTy
  | .hbm, ⟨0, _⟩ => ⟨S512x3072, .f32⟩
  | .hbm, ⟨1, _⟩ => ⟨S512x2048, .f32⟩
  | .hbm, ⟨2, _⟩ => ⟨S512x128, .f32⟩
  | .hbm, ⟨3, _⟩ => ⟨S16x3x3072, .f32⟩
  | .hbm, ⟨4, _⟩ => ⟨S16x2048x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S2048, .f32⟩
  | .hbm, ⟨10, _⟩ => ⟨S2048x1024, .f32⟩
  | .hbm, ⟨11, _⟩ => ⟨S128, .i32⟩
  | .hbm, ⟨12, _⟩ => ⟨S128x1, .i32⟩
  | .hbm, ⟨13, _⟩ => ⟨S2048, .i32⟩
  | .hbm, ⟨14, _⟩ => ⟨S1x2048, .i32⟩
  | .hbm, ⟨15, _⟩ => ⟨S_, .i32⟩
  | .hbm, ⟨16, _⟩ => ⟨S128x1, .i32⟩
  | .hbm, ⟨17, _⟩ => ⟨S128x1, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i1⟩
  | .hbm, ⟨29, _⟩ => ⟨S_, .i32⟩
  | .hbm, ⟨30, _⟩ => ⟨S128x1, .i32⟩
  | .hbm, ⟨31, _⟩ => ⟨S128x1, .i1⟩
  | .hbm, ⟨32, _⟩ => ⟨S_, .i32⟩
  | .hbm, ⟨33, _⟩ => ⟨S_, .i1⟩
  | .hbm, ⟨34, _⟩ => ⟨S128x1, .i1⟩
  | .hbm, ⟨35, _⟩ => ⟨S128x1, .i1⟩
  | .hbm, ⟨36, _⟩ => ⟨S128x1, .i1⟩
  | .hbm, ⟨37, _⟩ => ⟨S128x1, .i32⟩
  | .hbm, ⟨38, _⟩ => ⟨S128x1, .i32⟩
  | .hbm, ⟨39, _⟩ => ⟨S128x1, .i32⟩
  | .hbm, ⟨40, _⟩ => ⟨S_, .i32⟩
  | .hbm, ⟨41, _⟩ => ⟨S_, .i32⟩
  | .hbm, ⟨42, _⟩ => ⟨S1x2048, .i32⟩
  | .hbm, ⟨43, _⟩ => ⟨S1x2048, .i32⟩
  | .hbm, ⟨44, _⟩ => ⟨S1x2048, .i32⟩
  | .hbm, ⟨45, _⟩ => ⟨S_, .i32⟩
  | .hbm, ⟨46, _⟩ => ⟨S1x2048, .i32⟩
  | .hbm, ⟨47, _⟩ => ⟨S1x2048, .i1⟩
  | .hbm, ⟨48, _⟩ => ⟨S1x2048, .i32⟩
  | .hbm, ⟨49, _⟩ => ⟨S1x2048, .i32⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S1x2048, .i1⟩
  | .hbm, ⟨54, _⟩ => ⟨S_, .i32⟩
  | .hbm, ⟨55, _⟩ => ⟨S1x2048, .i32⟩
  | .hbm, ⟨56, _⟩ => ⟨S1x2048, .i32⟩
  | .hbm, ⟨57, _⟩ => ⟨S1x2048, .i32⟩
  | .hbm, ⟨58, _⟩ => ⟨S128x2048, .i32⟩
  | .hbm, ⟨59, _⟩ => ⟨S128x2048, .i32⟩
  | .hbm, ⟨60, _⟩ => ⟨S128x2048, .i1⟩
  | .hbm, ⟨61, _⟩ => ⟨S128x2048, .i1⟩
  | .hbm, ⟨62, _⟩ => ⟨S128x2048, .i1⟩
  | .hbm, ⟨63, _⟩ => ⟨S128x2048, .bf16⟩
  | .hbm, ⟨64, _⟩ => ⟨S16x32x3072, .f32⟩
  | .hbm, ⟨65, _⟩ => ⟨S_, .i32⟩
  | .hbm, ⟨66, _⟩ => ⟨S_, .f32⟩
  | .hbm, ⟨67, _⟩ => ⟨S16x64x3072, .f32⟩
  | .hbm, ⟨68, _⟩ => ⟨S1024x3072, .f32⟩
  | .hbm, ⟨69, _⟩ => ⟨S16x32x2048, .f32⟩
  | .hbm, ⟨70, _⟩ => ⟨S_, .i32⟩
  | .hbm, ⟨71, _⟩ => ⟨S_, .f32⟩
  | .hbm, ⟨72, _⟩ => ⟨S16x64x2048, .f32⟩
  | .hbm, ⟨73, _⟩ => ⟨S1024x2048, .f32⟩
  | .hbm, ⟨74, _⟩ => ⟨S16x32x128, .f32⟩
  | .hbm, ⟨75, _⟩ => ⟨S_, .i32⟩
  | .hbm, ⟨76, _⟩ => ⟨S_, .f32⟩
  | .hbm, ⟨77, _⟩ => ⟨S16x64x128, .f32⟩
  | .hbm, ⟨78, _⟩ => ⟨S1024x128, .f32⟩
  | .hbm, ⟨79, _⟩ => ⟨S1x3072, .f32⟩
  | .hbm, ⟨80, _⟩ => ⟨S32, .f32⟩
  | .hbm, ⟨81, _⟩ => ⟨S32, .f32⟩
  | .hbm, ⟨82, _⟩ => ⟨S_, .i32⟩
  | .hbm, ⟨83, _⟩ => ⟨S_, .f32⟩
  | .hbm, ⟨84, _⟩ => ⟨S128, .f32⟩
  | .hbm, ⟨85, _⟩ => ⟨S1x128, .f32⟩
  | .hbm, ⟨86, _⟩ => ⟨S32x64, .f32⟩
  | .hbm, ⟨87, _⟩ => ⟨S2048, .f32⟩
  | .hbm, ⟨88, _⟩ => ⟨S1x2048, .f32⟩
  | .hbm, ⟨89, _⟩ => ⟨S1x2048, .f32⟩
  | .hbm, ⟨90, _⟩ => ⟨S2048x1024, .bf16⟩
  | .hbm, ⟨91, _⟩ => ⟨S1024x1024, .f32⟩
  | .hbm, ⟨92, _⟩ => ⟨S16x3x3072, .f32⟩
  | .hbm, ⟨93, _⟩ => ⟨S16x2048x128, .f32⟩
  | .hbm, ⟨94, _⟩ => ⟨S16x64x1024, .f32⟩
  | .hbm, ⟨95, _⟩ => ⟨S16x32x1024, .f32⟩
  | .hbm, ⟨96, _⟩ => ⟨S512x1024, .f32⟩
  | .local _ .vmem, ⟨0, _⟩ => ⟨S64x3072, .f32⟩
  | .local _ .vmem, ⟨1, _⟩ => ⟨S64x3072, .f32⟩
  | .local _ .vmem, ⟨2, _⟩ => ⟨S64x2048, .f32⟩
  | .local _ .vmem, ⟨3, _⟩ => ⟨S64x2048, .f32⟩
  | .local _ .vmem, ⟨4, _⟩ => ⟨S64x128, .f32⟩
  | .local _ .vmem, ⟨5, _⟩ => ⟨S64x128, .f32⟩
  | .local _ .vmem, ⟨6, _⟩ => ⟨S1x3x3072, .f32⟩
  | .local _ .vmem, ⟨7, _⟩ => ⟨S1x3x3072, .f32⟩
  | .local _ .vmem, ⟨8, _⟩ => ⟨S1x2048x128, .f32⟩
  | .local _ .vmem, ⟨9, _⟩ => ⟨S1x2048x128, .f32⟩
  | .local _ .vmem, ⟨10, _⟩ => ⟨S4x3072, .f32⟩
  | .local _ .vmem, ⟨11, _⟩ => ⟨S1x3072, .f32⟩
  | .local _ .vmem, ⟨12, _⟩ => ⟨S1x128, .f32⟩
  | .local _ .vmem, ⟨13, _⟩ => ⟨S128x2048, .bf16⟩
  | .local _ .vmem, ⟨14, _⟩ => ⟨S1x2048, .f32⟩
  | .local _ .vmem, ⟨15, _⟩ => ⟨S1x2048, .f32⟩
  | .local _ .vmem, ⟨16, _⟩ => ⟨S2048x1024, .bf16⟩
  | .local _ .vmem, ⟨17, _⟩ => ⟨S64x1024, .f32⟩
  | .local _ .vmem, ⟨18, _⟩ => ⟨S64x1024, .f32⟩
  | .local _ .vmem, ⟨19, _⟩ => ⟨S1x3x3072, .f32⟩
  | .local _ .vmem, ⟨20, _⟩ => ⟨S1x3x3072, .f32⟩
  | .local _ .vmem, ⟨21, _⟩ => ⟨S1x2048x128, .f32⟩
  | .local _ .vmem, ⟨22, _⟩ => ⟨S1x2048x128, .f32⟩
  | .local _ .vmem, ⟨23, _⟩ => ⟨S72x3072, .f32⟩
  | .local _ .vmem, ⟨24, _⟩ => ⟨S64x3072, .f32⟩
  | .local _ .vmem, ⟨25, _⟩ => ⟨S128x2048, .f32⟩
  | .local _ .vmem, ⟨26, _⟩ => ⟨S64x2048, .bf16⟩
  | _, _ => ⟨S512x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v6 : Ref sig .tc := ⟨.hbm, 39, rfl⟩
abbrev main_c_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_c_2 : Ref sig .tc := ⟨.hbm, 65, rfl⟩
abbrev main_call2_v0 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_c_3 : Ref sig .tc := ⟨.hbm, 70, rfl⟩
abbrev main_call3_v0 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_c_4 : Ref sig .tc := ⟨.hbm, 75, rfl⟩
abbrev main_call4_v0 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_c_5 : Ref sig .tc := ⟨.hbm, 82, rfl⟩
abbrev main_call5_v0 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33_0 : Ref sig .tc := ⟨.hbm, 91, rfl⟩
abbrev main_v33_1 : Ref sig .tc := ⟨.hbm, 92, rfl⟩
abbrev main_v33_2 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![16, 1], ![false, false]⟩

def k0_mult1 : BitVec 32 :=
  let c0_i32_48 : BitVec 32 := 0#32
  let c64_i32_49 : BitVec 32 := 64#32
  let v130 : BitVec 32 := Scalar.muli c0_i32_48 c64_i32_49
  v130
def k0_off1 : Fin 2 → Nat :=
  let c0_i32_48 : BitVec 32 := 0#32
  let c64_i32_49 : BitVec 32 := 64#32
  let v130 : BitVec 32 := Scalar.muli c0_i32_48 c64_i32_49
  let v131 : BitVec 32 := v130
  let v132 : Index := Scalar.indexCast v131
  let c0_50 : Index := 0#32
  ![v132.toNat, 0]
def k0_off2 : Fin 2 → Nat :=
  let c0_i32_48 : BitVec 32 := 0#32
  let c64_i32_49 : BitVec 32 := 64#32
  let v130 : BitVec 32 := Scalar.muli c0_i32_48 c64_i32_49
  let v131 : BitVec 32 := v130
  let v134 : Index := Scalar.indexCast v131
  let c2048 : Index := 2048#32
  ![v134.toNat, 2048]
def k0_off3 : Fin 2 → Nat :=
  let c0_i32_48 : BitVec 32 := 0#32
  let c64_i32_49 : BitVec 32 := 64#32
  let v130 : BitVec 32 := Scalar.muli c0_i32_48 c64_i32_49
  let v131 : BitVec 32 := v130
  let v137 : Index := Scalar.indexCast v131
  let c2560 : Index := 2560#32
  ![v137.toNat, 2560]
def k0_off4 : Fin 2 → Nat :=
  let c0_i32_48 : BitVec 32 := 0#32
  let c64_i32_49 : BitVec 32 := 64#32
  let v130 : BitVec 32 := Scalar.muli c0_i32_48 c64_i32_49
  let v131 : BitVec 32 := v130
  let v140 : Index := Scalar.indexCast v131
  let c0_51 : Index := 0#32
  ![v140.toNat, 0]
def k0_off5 : Fin 2 → Nat :=
  let c0_i32_48 : BitVec 32 := 0#32
  let c64_i32_49 : BitVec 32 := 64#32
  let v130 : BitVec 32 := Scalar.muli c0_i32_48 c64_i32_49
  let v131 : BitVec 32 := v130
  let v398 : Index := Scalar.indexCast v131
  let c0_119 : Index := 0#32
  ![v398.toNat, 0]
def k0_off6 : Fin 2 → Nat :=
  let c0_i32_48 : BitVec 32 := 0#32
  let c64_i32_49 : BitVec 32 := 64#32
  let v130 : BitVec 32 := Scalar.muli c0_i32_48 c64_i32_49
  let v131 : BitVec 32 := v130
  let v417 : Index := Scalar.indexCast v131
  let c0_123 : Index := 0#32
  ![v417.toNat, 0]
def k0_off7 : Fin 2 → Nat :=
  let c0_i32_48 : BitVec 32 := 0#32
  let c64_i32_49 : BitVec 32 := 64#32
  let v130 : BitVec 32 := Scalar.muli c0_i32_48 c64_i32_49
  let v131 : BitVec 32 := v130
  let v436 : Index := Scalar.indexCast v131
  let c512_127 : Index := 512#32
  ![v436.toNat, 512]
def k0_off8 : Fin 2 → Nat :=
  let c0_i32_48 : BitVec 32 := 0#32
  let c64_i32_49 : BitVec 32 := 64#32
  let v130 : BitVec 32 := Scalar.muli c0_i32_48 c64_i32_49
  let v131 : BitVec 32 := v130
  let v455 : Index := Scalar.indexCast v131
  let c1024_131 : Index := 1024#32
  ![v455.toNat, 1024]
def k0_off9 : Fin 2 → Nat :=
  let c0_i32_48 : BitVec 32 := 0#32
  let c64_i32_49 : BitVec 32 := 64#32
  let v130 : BitVec 32 := Scalar.muli c0_i32_48 c64_i32_49
  let v131 : BitVec 32 := v130
  let v474 : Index := Scalar.indexCast v131
  let c1536_135 : Index := 1536#32
  ![v474.toNat, 1536]
def k0_cond2 (i : grid0.Coords) : BitVec 1 :=
  let arg1 : BitVec 32 := BitVec.ofNat 32 (i 1).val
  let c0_i32_19 : BitVec 32 := 0#32
  let v42 : BitVec 1 := Scalar.cmpi .eq arg1 c0_i32_19
  let v43 : BitVec 32 := Scalar.extui v42
  let c0_i32_20 : BitVec 32 := 0#32
  let v44 : BitVec 1 := Scalar.cmpi .ne v43 c0_i32_20
  v44

def k0_cond3 (i : grid0.Coords) : BitVec 1 :=
  let arg1 : BitVec 32 := BitVec.ofNat 32 (i 1).val
  let c0_i32_144 : BitVec 32 := 0#32
  let v483 : BitVec 1 := Scalar.cmpi .eq arg1 c0_i32_144
  let v484 : BitVec 32 := Scalar.extui v483
  let c0_i32_145 : BitVec 32 := 0#32
  let v485 : BitVec 1 := Scalar.cmpi .ne v484 c0_i32_145
  v485

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x3x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== SsdRefIdeal.lean ====
abbrev S512x3072 : Shape := ⟨2, ![512, 3072]⟩
abbrev S512x2048 : Shape := ⟨2, ![512, 2048]⟩
abbrev S512x128 : Shape := ⟨2, ![512, 128]⟩
abbrev S16x3x3072 : Shape := ⟨3, ![16, 3, 3072]⟩
abbrev S16x2048x128 : Shape := ⟨3, ![16, 2048, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2048x1024 : Shape := ⟨2, ![2048, 1024]⟩
abbrev S16x32x3072 : Shape := ⟨3, ![16, 32, 3072]⟩
abbrev S16x35x3072 : Shape := ⟨3, ![16, 35, 3072]⟩
abbrev S1x1x3072 : Shape := ⟨3, ![1, 1, 3072]⟩
abbrev S1x3072 : Shape := ⟨2, ![1, 3072]⟩
abbrev S_ : Shape := ⟨0, ![]⟩
abbrev S16x32x2048 : Shape := ⟨3, ![16, 32, 2048]⟩
abbrev S16x32x4x8x64 : Shape := ⟨5, ![16, 32, 4, 8, 64]⟩
abbrev S16x32x512 : Shape := ⟨3, ![16, 32, 512]⟩
abbrev S16x32x4x128 : Shape := ⟨4, ![16, 32, 4, 128]⟩
abbrev S512x32 : Shape := ⟨2, ![512, 32]⟩
abbrev S16x32x4x8 : Shape := ⟨4, ![16, 32, 4, 8]⟩
abbrev S16x4x8x64x128 : Shape := ⟨5, ![16, 4, 8, 64, 128]⟩
abbrev S4x8 : Shape := ⟨2, ![4, 8]⟩
abbrev S1x1x4x8 : Shape := ⟨4, ![1, 1, 4, 8]⟩
abbrev S16x32x1x4x8 : Shape := ⟨5, ![16, 32, 1, 4, 8]⟩
abbrev S16x1x32x4x8 : Shape := ⟨5, ![16, 1, 32, 4, 8]⟩
abbrev S16x32x32x4x8 : Shape := ⟨5, ![16, 32, 32, 4, 8]⟩
abbrev S32x32 : Shape := ⟨2, ![32, 32]⟩
abbrev S1x32x32x1x1 : Shape := ⟨5, ![1, 32, 32, 1, 1]⟩
abbrev S16x4x32x32 : Shape := ⟨4, ![16, 4, 32, 32]⟩
abbrev S16x32x32x4 : Shape := ⟨4, ![16, 32, 32, 4]⟩
abbrev S16x32x32x4x1 : Shape := ⟨5, ![16, 32, 32, 4, 1]⟩
abbrev S16x4x8x64x32 : Shape := ⟨5, ![16, 4, 8, 64, 32]⟩
abbrev S16x32x4x8x1 : Shape := ⟨5, ![16, 32, 4, 8, 1]⟩
abbrev S16x1x4x8 : Shape := ⟨4, ![16, 1, 4, 8]⟩
abbrev S16x4x8 : Shape := ⟨3, ![16, 4, 8]⟩
abbrev S16x4x8x1x1 : Shape := ⟨5, ![16, 4, 8, 1, 1]⟩
abbrev S1x1x4x8x1 : Shape := ⟨5, ![1, 1, 4, 8, 1]⟩
abbrev S16x32x4x512 : Shape := ⟨4, ![16, 32, 4, 512]⟩
abbrev S16x32x4 : Shape := ⟨3, ![16, 32, 4]⟩
abbrev S16x32x4x1 : Shape := ⟨4, ![16, 32, 4, 1]⟩
abbrev S1x2048 : Shape := ⟨2, ![1, 2048]⟩
abbrev S512x1024 : Shape := ⟨2, ![512, 1024]⟩

abbrev nBuf : Space → Nat
  | .hbm => 155
  | .vmem => 0
  | .smem => 0
  | _ => 0

abbrev hbmTy0_0 (i : Nat) : BufTy := match i % 128 with
  | 0 => ⟨S512x3072, .f32⟩
  | 1 => ⟨S512x2048, .f32⟩
  | 2 => ⟨S512x128, .f32⟩
  | 3 => ⟨S16x3x3072, .f32⟩
  | 4 => ⟨S16x2048x128, .f32⟩
  | 5 => ⟨S4x3072, .f32⟩
  | 6 => ⟨S3072, .f32⟩
  | 7 => ⟨S32, .f32⟩
  | 8 => ⟨S32, .f32⟩
  | 9 => ⟨S2048, .f32⟩
  | 10 => ⟨S2048x1024, .f32⟩
  | 11 => ⟨S16x32x3072, .f32⟩
  | 12 => ⟨S16x35x3072, .f32⟩
  | 13 => ⟨S1x1x3072, .f32⟩
  | 14 => ⟨S16x32x3072, .f32⟩
  | 15 => ⟨S1x3072, .f32⟩
  | 16 => ⟨S3072, .f32⟩
  | 17 => ⟨S1x1x3072, .f32⟩
  | 18 => ⟨S16x32x3072, .f32⟩
  | 19 => ⟨S16x32x3072, .f32⟩
  | 20 => ⟨S16x32x3072, .f32⟩
  | 21 => ⟨S16x32x3072, .f32⟩
  | 22 => ⟨S16x32x3072, .f32⟩
  | 23 => ⟨S1x3072, .f32⟩
  | 24 => ⟨S3072, .f32⟩
  | 25 => ⟨S1x1x3072, .f32⟩
  | 26 => ⟨S16x32x3072, .f32⟩
  | 27 => ⟨S16x32x3072, .f32⟩
  | 28 => ⟨S16x32x3072, .f32⟩
  | 29 => ⟨S16x32x3072, .f32⟩
  | 30 => ⟨S1x3072, .f32⟩
  | 31 => ⟨S3072, .f32⟩
  | 32 => ⟨S1x1x3072, .f32⟩
  | 33 => ⟨S16x32x3072, .f32⟩
  | 34 => ⟨S16x32x3072, .f32⟩
  | 35 => ⟨S16x32x3072, .f32⟩
  | 36 => ⟨S16x32x3072, .f32⟩
  | 37 => ⟨S1x3072, .f32⟩
  | 38 => ⟨S3072, .f32⟩
  | 39 => ⟨S1x1x3072, .f32⟩
  | 40 => ⟨S16x32x3072, .f32⟩
  | 41 => ⟨S16x32x3072, .f32⟩
  | 42 => ⟨S16x32x3072, .f32⟩
  | 43 => ⟨S16x32x3072, .f32⟩
  | 44 => ⟨S16x32x3072, .f32⟩
  | 45 => ⟨S_, .f32⟩
  | 46 => ⟨S16x32x3072, .f32⟩
  | 47 => ⟨S16x32x3072, .f32⟩
  | 48 => ⟨S_, .f32⟩
  | 49 => ⟨S16x32x3072, .f32⟩
  | 50 => ⟨S16x32x3072, .f32⟩
  | 51 => ⟨S16x32x3072, .f32⟩
  | 52 => ⟨S16x32x2048, .f32⟩
  | 53 => ⟨S16x32x4x8x64, .f32⟩
  | 54 => ⟨S16x32x512, .f32⟩
  | 55 => ⟨S16x32x4x128, .f32⟩
  | 56 => ⟨S16x32x512, .f32⟩
  | 57 => ⟨S16x32x4x128, .f32⟩
  | 58 => ⟨S512x32, .f32⟩
  | 59 => ⟨S16x32x4x8, .f32⟩
  | 60 => ⟨S16x4x8x64x128, .f32⟩
  | 61 => ⟨S32, .f32⟩
  | 62 => ⟨S4x8, .f32⟩
  | 63 => ⟨S4x8, .f32⟩
  | 64 => ⟨S1x1x4x8, .f32⟩
  | 65 => ⟨S16x32x4x8, .f32⟩
  | 66 => ⟨S16x32x4x8, .f32⟩
  | 67 => ⟨S_, .f32⟩
  | 68 => ⟨S_, .f32⟩
  | 69 => ⟨S16x32x4x8, .f32⟩
  | 70 => ⟨S16x32x1x4x8, .f32⟩
  | 71 => ⟨S16x1x32x4x8, .f32⟩
  | 72 => ⟨S16x32x32x4x8, .f32⟩
  | 73 => ⟨S16x32x32x4x8, .f32⟩
  | 74 => ⟨S16x32x32x4x8, .f32⟩
  | 75 => ⟨S_, .i1⟩
  | 76 => ⟨S32x32, .i1⟩
  | 77 => ⟨S32x32, .i32⟩
  | 78 => ⟨S_, .i32⟩
  | 79 => ⟨S32x32, .i32⟩
  | 80 => ⟨S32x32, .i32⟩
  | 81 => ⟨S32x32, .i32⟩
  | 82 => ⟨S32x32, .i1⟩
  | 83 => ⟨S_, .i1⟩
  | 84 => ⟨S32x32, .i1⟩
  | 85 => ⟨S32x32, .i1⟩
  | 86 => ⟨S1x32x32x1x1, .i1⟩
  | 87 => ⟨S_, .f32⟩
  | 88 => ⟨S_, .f32⟩
  | 89 => ⟨S16x32x32x4x8, .i1⟩
  | 90 => ⟨S16x32x32x4x8, .f32⟩
  | 91 => ⟨S16x32x32x4x8, .f32⟩
  | 92 => ⟨S16x32x32x4x8, .f32⟩
  | 93 => ⟨S16x4x32x32, .f32⟩
  | 94 => ⟨S16x32x32x4, .f32⟩
  | 95 => ⟨S16x32x32x4x1, .f32⟩
  | 96 => ⟨S16x32x32x4x8, .f32⟩
  | 97 => ⟨S16x32x32x4x8, .f32⟩
  | 98 => ⟨S16x1x32x4x8, .f32⟩
  | 99 => ⟨S16x32x32x4x8, .f32⟩
  | 100 => ⟨S16x32x32x4x8, .f32⟩
  | 101 => ⟨S16x4x8x64x32, .f32⟩
  | 102 => ⟨S16x32x4x8x64, .f32⟩
  | 103 => ⟨S16x4x8x64x32, .f32⟩
  | 104 => ⟨S16x32x4x8x64, .f32⟩
  | 105 => ⟨S16x32x4x8, .f32⟩
  | 106 => ⟨S16x32x4x8x1, .f32⟩
  | 107 => ⟨S16x32x4x8x64, .f32⟩
  | 108 => ⟨S16x32x4x8x64, .f32⟩
  | 109 => ⟨S16x32x4x8x64, .f32⟩
  | 110 => ⟨S16x1x4x8, .f32⟩
  | 111 => ⟨S16x32x4x8, .f32⟩
  | 112 => ⟨S16x32x4x8, .f32⟩
  | 113 => ⟨S16x32x4x8, .f32⟩
  | 114 => ⟨S16x32x4x8, .f32⟩
  | 115 => ⟨S16x1x4x8, .f32⟩
  | 116 => ⟨S16x4x8, .f32⟩
  | 117 => ⟨S16x4x8, .f32⟩
  | 118 => ⟨S16x4x8x1x1, .f32⟩
  | 119 => ⟨S16x4x8x64x128, .f32⟩
  | 120 => ⟨S16x4x8x64x128, .f32⟩
  | 121 => ⟨S16x32x4x8x1, .f32⟩
  | 122 => ⟨S16x32x4x8x64, .f32⟩
  | 123 => ⟨S16x32x4x8x64, .f32⟩
  | 124 => ⟨S16x4x8x64x128, .f32⟩
  | 125 => ⟨S16x4x8x64x128, .f32⟩
  | 126 => ⟨S4x8, .f32⟩
  | 127 => ⟨S1x1x4x8x1, .f32⟩
  | _ => ⟨S512x3072, .f32⟩

abbrev hbmTy0_1 (i : Nat) : BufTy := match i % 128 with
  | 0 => ⟨S16x32x4x8x64, .f32⟩
  | 1 => ⟨S16x32x4x8x64, .f32⟩
  | 2 => ⟨S16x32x4x8x64, .f32⟩
  | 3 => ⟨S16x32x2048, .f32⟩
  | 4 => ⟨S16x32x2048, .f32⟩
  | 5 => ⟨S16x32x2048, .f32⟩
  | 6 => ⟨S16x32x4x512, .f32⟩
  | 7 => ⟨S16x32x4x512, .f32⟩
  | 8 => ⟨S_, .f32⟩
  | 9 => ⟨S16x32x4, .f32⟩
  | 10 => ⟨S16x32x4x1, .f32⟩
  | 11 => ⟨S_, .f32⟩
  | 12 => ⟨S16x32x4x1, .f32⟩
  | 13 => ⟨S16x32x4x1, .f32⟩
  | 14 => ⟨S_, .f32⟩
  | 15 => ⟨S16x32x4x1, .f32⟩
  | 16 => ⟨S16x32x4x1, .f32⟩
  | 17 => ⟨S16x32x4x1, .f32⟩
  | 18 => ⟨S16x32x4x512, .f32⟩
  | 19 => ⟨S16x32x4x512, .f32⟩
  | 20 => ⟨S512x2048, .f32⟩
  | 21 => ⟨S1x2048, .f32⟩
  | 22 => ⟨S512x2048, .f32⟩
  | 23 => ⟨S512x2048, .f32⟩
  | 24 => ⟨S512x1024, .f32⟩
  | 25 => ⟨S16x3x3072, .f32⟩
  | 26 => ⟨S16x2048x128, .f32⟩
  | _ => ⟨S512x3072, .f32⟩

abbrev hbmTy (i : Nat) : BufTy := match i / 128 with
  | 0 => hbmTy0_0 i
  | 1 => hbmTy0_1 i
  | _ => ⟨S512x3072, .f32⟩

abbrev bufTy : (tb : Table) → Fin (tcTables nBuf tb) → BufTy
  | .hbm, ⟨i, _⟩ => hbmTy i
  | _, _ => ⟨S512x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_call0_cst : Ref sig .tc := ⟨.hbm, 67, rfl⟩
abbrev main_call1_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_0 : Ref sig .tc := ⟨.hbm, 83, rfl⟩
abbrev main_call2_v5 : Ref sig .tc := ⟨.hbm, 84, rfl⟩
abbrev main_v55 : Ref sig .tc := ⟨.hbm, 85, rfl⟩
abbrev main_v56 : Ref sig .tc := ⟨.hbm, 86, rfl⟩
abbrev main_cst : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_0 : Ref sig .tc := ⟨.hbm, 136, rfl⟩
abbrev main_v102 : Ref sig .tc := ⟨.hbm, 137, rfl⟩
abbrev main_v103 : Ref sig .tc := ⟨.hbm, 138, rfl⟩
abbrev main_cst_1 : Ref sig .tc := ⟨.hbm, 139, rfl⟩
abbrev main_v104 : Ref sig .tc := ⟨.hbm, 140, rfl⟩
abbrev main_v105 : Ref sig .tc := ⟨.hbm, 141, rfl⟩
abbrev main_cst_2 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩

abbrev nD : Nat := 1
abbrev τ : Topo := Topo.v7x

variable {F : FTy → Type} [FloatOps F]
-- ==== Proof.Frames.lean ====
/-
  The frames: every program runs, leaves its arguments unchanged and every counter at zero.
-/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Inproj.Frame
public import proofs.«01_k».proof.Proof.Gen.InprojIdeal.Frame
public import proofs.«01_k».proof.Proof.Gen.InprojRefIdeal.Run
public import proofs.«01_k».proof.Proof.Gen.Merge.Frame
public import proofs.«01_k».proof.Proof.Gen.MergeIdeal.Frame
public import proofs.«01_k».proof.Proof.Gen.MergeRefIdeal.Run

@[expose] public section

noncomputable section

namespace Cert.Proof

open Idealize.ShloMosaic Idealize.SL.Sem

/-- The attention call's frame, at the hardware's floats. -/
theorem frame_attn : Cert.quiescent_Attn := fun m ρ _ => Cert.Attn.Gen.frame m ρ

/-- The attention call's frame, at exact values. -/
theorem frame_attnIdeal : Cert.quiescent_AttnIdeal := fun m ρ _ => Cert.AttnIdeal.Gen.frame m ρ

/-- The attention reference's frame. -/
theorem frame_attnRef : Cert.quiescent_AttnRefIdeal := fun m ρ _ =>
  (θ_run Cert.AttnRefIdeal.defs _ _).mono (fun r h => ⟨fun c => (h c).2.2.2,
    sem_eq_zero_of_no_sems (by decide) r.2⟩) (Cert.AttnRefIdeal.Value.run m ρ)

/-- Under the precondition too: it is not needed for the frames. -/
theorem frame_attnIdeal_finite [Cert.Pre_finite.Facts] : Cert.quiescent_AttnIdeal_pre_finite := fun m ρ _ => Cert.AttnIdeal.Gen.frame m ρ

theorem frame_attnRef_finite [Cert.Pre_finite.Facts] : Cert.quiescent_AttnRefIdeal_pre_finite := fun m ρ _ =>
  (θ_run Cert.AttnRefIdeal.defs _ _).mono (fun r h => ⟨fun c => (h c).2.2.2,
    sem_eq_zero_of_no_sems (by decide) r.2⟩) (Cert.AttnRefIdeal.Value.run m ρ)

/-- The input projection's frame, at the hardware's floats. -/
theorem frame_inproj : Cert.quiescent_Inproj := fun m ρ _ => Cert.Inproj.Gen.frame m ρ

/-- The input projection's frame, at exact values. -/
theorem frame_inprojIdeal : Cert.quiescent_InprojIdeal := fun m ρ _ => Cert.InprojIdeal.Gen.frame m ρ

/-- The input projection's reference's frame. -/
theorem frame_inprojRef : Cert.quiescent_InprojRefIdeal := fun m ρ _ =>
  (θ_run Cert.InprojRefIdeal.defs _ _).mono (fun r h => ⟨fun c => (h c).2.2.2.2.2.2.2,
    sem_eq_zero_of_no_sems (by decide) r.2⟩) (Cert.InprojRefIdeal.Value.run m ρ)

/-- The merge's frame, at the hardware's floats. -/
theorem frame_merge : Cert.quiescent_Merge := fun m ρ _ => Cert.Merge.Gen.frame m ρ

/-- The merge's frame, at exact values. -/
theorem frame_mergeIdeal : Cert.quiescent_MergeIdeal := fun m ρ _ => Cert.MergeIdeal.Gen.frame m ρ

/-- The merge's reference's frame. -/
theorem frame_mergeRef : Cert.quiescent_MergeRefIdeal := fun m ρ _ =>
  (θ_run Cert.MergeRefIdeal.defs _ _).mono (fun r h => ⟨fun c => (h c).2,
    sem_eq_zero_of_no_sems (by decide) r.2⟩) (Cert.MergeRefIdeal.Value.run m ρ)

end Cert.Proof
-- ==== Proof.Attn.Scratch.lean ====
/-
  What the attention kernel leaves in its scratch at one grid point: the rotated and scaled queries, the keys (cached, then
  rotated) and the values (cached, then new), element by element.
-/
module

public import proofs.«01_k».proof.Proof.Gen.AttnIdeal.Frame
public import Idealize.ShloMosaic.Lib.Pipeline.ValueKit
public import Idealize.ShloMosaic.Lib.Pointwise

@[expose] public section

set_option maxRecDepth 16384

noncomputable section

namespace Cert.AttnIdeal.Hand

open Cert.AttnIdeal Cert.AttnIdeal.Gen Idealize.ShloMosaic Idealize.ShloMosaic.TcCoe Idealize.SL.Sem

variable (x0 : Vec Ideal S32x1024 .f32) (x1 : Vec Ideal S32x512 .f32) (x3 x4 : Vec Ideal S1x128x256 .f32)
  (c s1 s2 : Vec Ideal S32x128 .f32)

/-- Row `r`, lane `l` of a 128-lane slice (starting at lane `o`) rotated: the lane times its cosine, the lanes eight to
    the right and eight to the left (around the slice) times the two sine tables. -/
def rot (x : ℕ → EReal) (r : Fin 32) (l : Fin 128) : EReal :=
  x l * c (ix2 r l) + x ((l + 128 - 120) % 128) * s1 (ix2 r l) + x ((l + 128 - 8) % 128) * s2 (ix2 r l)

/-- Entry `n` of row `r` of the queries' block. -/
def qrow (r : Fin 32) (n : ℕ) : EReal := if h : n < 1024 then x0 (ix2 r ⟨n, h⟩) else 0

/-- Entry `n` of row `r` of the keys' and values' block. -/
def kvrow (r : Fin 32) (n : ℕ) : EReal := if h : n < 512 then x1 (ix2 r ⟨n, h⟩) else 0

/-- The query scratch: the rotated queries, scaled. -/
def qAt (r : Fin 32) (l : Fin 1024) : EReal :=
  rot c s1 s2 (fun n => qrow x0 r (l.val / 128 * 128 + n)) r ⟨l.val % 128, Nat.mod_lt _ (by decide)⟩
    * Ideal.ofBits .f32 0x3E000000#32

/-- The key scratch: 128 cached rows, then the rotated new ones. -/
def kAt (n : Fin 160) (l : Fin 256) : EReal :=
  if h : n.val < 128 then x3 (ix3 0 ⟨n, h⟩ l)
  else rot c s1 s2 (fun e => kvrow x1 ⟨n.val - 128, by omega⟩ (l.val / 128 * 128 + e)) ⟨n.val - 128, by omega⟩
    ⟨l.val % 128, Nat.mod_lt _ (by decide)⟩

/-- The value scratch: 128 cached rows, then the new ones. -/
def vAt (n : Fin 160) (l : Fin 256) : EReal :=
  if h : n.val < 128 then x4 (ix3 0 ⟨n, h⟩ l) else kvrow x1 ⟨n.val - 128, by omega⟩ (256 + l)

/-- Two indices with equal coordinates are equal. -/
theorem ix2_congr {a b : ℕ} {i i' : Fin a} {j j' : Fin b} (hi : i.val = i'.val) (hj : j.val = j'.val) :
    ix2 i j = ix2 i' j' := by rw [Fin.ext hi, Fin.ext hj]

theorem ix3_congr {a b e : ℕ} {i i' : Fin a} {j j' : Fin b} {k k' : Fin e} (hi : i.val = i'.val) (hj : j.val = j'.val)
    (hk : k.val = k'.val) : ix3 i j k = ix3 i' j' k' := by rw [Fin.ext hi, Fin.ext hj, Fin.ext hk]

theorem rot_congr {a a' b b' d d' p p' q q' s s' : EReal} (ha : a = a') (hp : p = p') (hb : b = b') (hq : q = q')
    (hd : d = d') (hs : s = s') : a * p + b * q + d * s = a' * p' + b' * q' + d' * s' := by
  rw [ha, hp, hb, hq, hd, hs]

/-- The key scratch's three stores leave the keys. -/
theorem canon_k : View.canon (Val := Elt Ideal) (s := S160x256) (e := .f32)
    [⟨Rect.unit ![128, 128] ![32, 128] inb_S160x256_S32x128_128_128, k0_pay22 (k0_pay6 c) (k0_pay7 s1) (k0_pay8 s2)
        (View.ld x1 (Rect.unit ![0, 128] ![32, 128] inb_S32x512_S32x128_0_128))⟩,
      ⟨Rect.unit ![128, 0] ![32, 128] inb_S160x256_S32x128_128_0, k0_pay21 (k0_pay6 c) (k0_pay7 s1) (k0_pay8 s2)
        (View.ld x1 (Rect.unit ![0, 0] ![32, 128] inb_S32x512_S32x128_0_0))⟩,
      ⟨Rect.unit ![0, 0] ![128, 256] inb_S160x256_S128x256_0_0, k0_pay4 x3⟩] = fun y => kAt x1 x3 c s1 s2 (y 0) (y 1) := by
  funext y
  idx_vars y
  show _ = kAt x1 x3 c s1 s2 y0 y1
  canon_tiles i h using by
    simp only [List.mem_cons, List.not_mem_nil, or_false, exists_eq_or_imp, exists_eq_left, Rect.mem_set_unit, Fin.forall_fin_two]
    show (128 ≤ y0.val ∧ y0.val < 128 + 32) ∧ (128 ≤ y1.val ∧ y1.val < 128 + 128) ∨ (128 ≤ y0.val ∧ y0.val < 128 + 32) ∧
      (0 ≤ y1.val ∧ y1.val < 0 + 128) ∨ (0 ≤ y0.val ∧ y0.val < 0 + 128) ∧ (0 ≤ y1.val ∧ y1.val < 0 + 256)
    omega
  all_goals
    idx_vars i
    unfold_payloads
    pointwise [kAt, rot, kvrow]
  · have e0 : y0.val = 128 + i0.val := h0
    have e1 : y1.val = 128 + i1.val := h1
    rw [dif_neg (by omega), dif_pos (by omega), dif_pos (by omega), dif_pos (by omega)]
    refine rot_congr (congrArg x1 (ix2_congr ?_ ?_)) (congrArg c (ix2_congr ?_ ?_)) (congrArg x1 (ix2_congr ?_ ?_))
      (congrArg s1 (ix2_congr ?_ ?_)) (congrArg x1 (ix2_congr ?_ ?_)) (congrArg s2 (ix2_congr ?_ ?_))
    all_goals try dsimp only
    all_goals omega
  · have e0 : y0.val = 128 + i0.val := h0
    have e1 : y1.val = i1.val := h1
    rw [dif_neg (by omega), dif_pos (by omega), dif_pos (by omega), dif_pos (by omega)]
    refine rot_congr (congrArg x1 (ix2_congr ?_ ?_)) (congrArg c (ix2_congr ?_ ?_)) (congrArg x1 (ix2_congr ?_ ?_))
      (congrArg s1 (ix2_congr ?_ ?_)) (congrArg x1 (ix2_congr ?_ ?_)) (congrArg s2 (ix2_congr ?_ ?_))
    all_goals try dsimp only
    all_goals omega
  · have e0 : y0.val = i0.val := h0
    have e1 : y1.val = i1.val := h1
    rw [dif_pos (by omega)]
    exact congrArg x3 (ix3_congr rfl e0.symm e1.symm)

/-- The value scratch's two stores leave the values. -/
theorem canon_v : View.canon (Val := Elt Ideal) (s := S160x256) (e := .f32)
    [⟨Rect.unit ![128, 0] ![32, 256] inb_S160x256_S32x256_128_0,
        k0_pay23 (View.ld x1 (Rect.unit ![0, 256] ![32, 256] inb_S32x512_S32x256_0_256))⟩,
      ⟨Rect.unit ![0, 0] ![128, 256] inb_S160x256_S128x256_0_0, k0_pay5 x4⟩] = fun y => vAt x1 x4 (y 0) (y 1) := by
  funext y
  idx_vars y
  show _ = vAt x1 x4 y0 y1
  canon_tiles i h using by
    simp only [List.mem_cons, List.not_mem_nil, or_false, exists_eq_or_imp, exists_eq_left, Rect.mem_set_unit, Fin.forall_fin_two]
    show (128 ≤ y0.val ∧ y0.val < 128 + 32) ∧ (0 ≤ y1.val ∧ y1.val < 0 + 256) ∨ (0 ≤ y0.val ∧ y0.val < 0 + 128) ∧
      (0 ≤ y1.val ∧ y1.val < 0 + 256)
    omega
  all_goals
    idx_vars i
    unfold_payloads
    pointwise [vAt, kvrow]
  · have e0 : y0.val = 128 + i0.val := h0
    have e1 : y1.val = i1.val := h1
    rw [dif_neg (by omega), dif_pos (by omega)]
    exact congrArg x1 (ix2_congr (by dsimp only; omega) (by dsimp only; omega))
  · have e0 : y0.val = i0.val := h0
    have e1 : y1.val = i1.val := h1
    rw [dif_pos (by omega)]
    exact congrArg x4 (ix3_congr rfl e0.symm e1.symm)

/-- The query scratch's eight stores leave the queries. -/
theorem canon_q : View.canon (Val := Elt Ideal) (s := S32x1024) (e := .bf16)
    [⟨Rect.unit ![0, 896] ![32, 128] inb_S32x1024_S32x128_0_896, k0_pay20 (k0_pay7 s1) (k0_pay8 s2)
        (View.ld x0 (Rect.unit ![0, 896] ![32, 128] inb_S32x1024_S32x128_0_896))
        (k0_pay18 (k0_pay6 c) (View.ld x0 (Rect.unit ![0, 896] ![32, 128] inb_S32x1024_S32x128_0_896)))
        (k0_pay19 (View.ld x0 (Rect.unit ![0, 896] ![32, 128] inb_S32x1024_S32x128_0_896)))⟩,
      ⟨Rect.unit ![0, 768] ![32, 128] inb_S32x1024_S32x128_0_768, k0_pay17 (k0_pay6 c) (k0_pay7 s1) (k0_pay8 s2)
        (View.ld x0 (Rect.unit ![0, 768] ![32, 128] inb_S32x1024_S32x128_0_768))⟩,
      ⟨Rect.unit ![0, 640] ![32, 128] inb_S32x1024_S32x128_0_640, k0_pay16 (k0_pay6 c) (k0_pay7 s1) (k0_pay8 s2)
        (View.ld x0 (Rect.unit ![0, 640] ![32, 128] inb_S32x1024_S32x128_0_640))⟩,
      ⟨Rect.unit ![0, 512] ![32, 128] inb_S32x1024_S32x128_0_512, k0_pay15 (k0_pay14 (k0_pay6 c) (k0_pay7 s1) (k0_pay8 s2)
        (View.ld x0 (Rect.unit ![0, 512] ![32, 128] inb_S32x1024_S32x128_0_512)))⟩,
      ⟨Rect.unit ![0, 384] ![32, 128] inb_S32x1024_S32x128_0_384, k0_pay13 (k0_pay6 c) (k0_pay7 s1) (k0_pay8 s2)
        (View.ld x0 (Rect.unit ![0, 384] ![32, 128] inb_S32x1024_S32x128_0_384))⟩,
      ⟨Rect.unit ![0, 256] ![32, 128] inb_S32x1024_S32x128_0_256, k0_pay12 (k0_pay6 c) (k0_pay7 s1) (k0_pay8 s2)
        (View.ld x0 (Rect.unit ![0, 256] ![32, 128] inb_S32x1024_S32x128_0_256))⟩,
      ⟨Rect.unit ![0, 128] ![32, 128] inb_S32x1024_S32x128_0_128, k0_pay11 (k0_pay10 c s1 s2
        (View.ld x0 (Rect.unit ![0, 128] ![32, 128] inb_S32x1024_S32x128_0_128)))⟩,
      ⟨Rect.unit ![0, 0] ![32, 128] inb_S32x1024_S32x128_0_0, k0_pay9 c s1 s2
        (View.ld x0 (Rect.unit ![0, 0] ![32, 128] inb_S32x1024_S32x128_0_0))⟩] = fun y => qAt x0 c s1 s2 (y 0) (y 1) := by
  funext y
  idx_vars y
  show _ = qAt x0 c s1 s2 y0 y1
  canon_tiles i h
  all_goals
    idx_vars i
    unfold_payloads
    pointwise [qAt, rot, qrow]
    have e0 : y0.val = i0.val := h0
    rw [dif_pos (by omega), dif_pos (by omega), dif_pos (by omega)]
    refine congrArg (· * _) (rot_congr (congrArg x0 (ix2_congr ?_ ?_)) (congrArg c (ix2_congr ?_ ?_)) (congrArg x0 (ix2_congr ?_ ?_))
      (congrArg s1 (ix2_congr ?_ ?_)) (congrArg x0 (ix2_congr ?_ ?_)) (congrArg s2 (ix2_congr ?_ ?_)))
  all_goals try dsimp only
  all_goals omega
end Cert.AttnIdeal.Hand
-- ==== Proof.Attn.Soft.lean ====
/-
  The softmax with a sink on the extended reals: the average of values under the weights `exp (s x - m)`, the sink's weight
  counted in the denominator alone.
-/
module

public import Idealize.ShloMosaic.Lib.Pointwise

@[expose] public section

noncomputable section

namespace Cert.Soft

open Idealize.ShloMosaic

variable {n : ℕ} (s : Fin n → EReal) (sk : EReal) (v : Fin n → EReal)

/-- The greatest of the scores and the sink's. -/
def top : EReal := max (Finset.univ.fold max (Ideal.ofBits .f32 0xFF800000#32) s) sk

/-- The sum of the weights, the sink's with them. -/
def denom : EReal := ∑ x, Ideal.exp (s x - top s sk) + Ideal.exp (sk - top s sk)

/-- The weighted sum of the values, divided once. -/
def after : EReal := Ideal.div (∑ x, Ideal.exp (s x - top s sk) * v x) (denom s sk)

/-- The sum of the values, each weight divided. -/
def before : EReal := ∑ x, v x * Ideal.div (Ideal.exp (s x - top s sk)) (denom s sk)

/-- An extended real that is a real number. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.neg {x : EReal} : IsReal x → IsReal (-x)
  | ⟨a, ha⟩ => ⟨-a, by rw [ha, EReal.coe_neg]⟩

theorem IsReal.sub {x y : EReal} (hx : IsReal x) (hy : IsReal y) : IsReal (x - y) := by
  rw [sub_eq_add_neg]
  exact hx.add hy.neg

theorem IsReal.max {x y : EReal} (hx : IsReal x) (hy : IsReal y) : IsReal (max x y) := by
  rcases max_choice x y with h | h <;> rw [h] <;> assumption

/-- The sum of real numbers, as an extended real. -/
theorem coe_sum {ι : Type} (t : Finset ι) (g : ι → ℝ) : ((∑ i ∈ t, g i : ℝ) : EReal) = ∑ i ∈ t, (g i : EReal) := by
  classical
  induction t using Finset.induction_on with
  | empty => simp
  | insert i t hi ih => rw [Finset.sum_insert hi, Finset.sum_insert hi, EReal.coe_add, ih]

theorem IsReal.sum {ι : Type} (t : Finset ι) {f : ι → EReal} (h : ∀ i, IsReal (f i)) : IsReal (∑ i ∈ t, f i) := by
  choose g hg using h
  exact ⟨∑ i ∈ t, g i, (Finset.sum_congr rfl fun i _ => hg i).trans (coe_sum t g).symm⟩

/-- A number within finite bounds is real. -/
theorem IsReal.of_abs_lt {x : EReal} (h : Max.max x (-x) < ⊤) : IsReal x := by
  induction x with
  | bot => simp at h
  | top => simp at h
  | coe r => exact ⟨r, rfl⟩

/-- The greatest score is real. -/
theorem IsReal.top {s : Fin n → EReal} {sk : EReal} (hs : ∀ x, IsReal (s x)) (hk : IsReal sk) : IsReal (top s sk) := by
  have key : ∀ t : Finset (Fin n), IsReal (Max.max (t.fold Max.max (Ideal.ofBits .f32 0xFF800000#32) s) sk) := by
    intro t
    induction t using Finset.induction_on with
    | empty =>
      rw [Finset.fold_empty]
      have : Ideal.ofBits .f32 0xFF800000#32 = ⊥ := by simp [Ideal.ofBits, Ideal.ieee]
      rw [this, max_eq_right bot_le]
      exact hk
    | insert a t ha ih =>
      rw [Finset.fold_insert ha, max_assoc]
      exact (hs a).max ih
  exact key _

/-- A nonnegative real factor distributes over a sum. -/
theorem sum_mul_real {ι : Type} (t : Finset ι) (f : ι → EReal) {a : ℝ} (ha : 0 ≤ a) :
    (∑ i ∈ t, f i) * (a : EReal) = ∑ i ∈ t, f i * (a : EReal) := by
  classical
  induction t using Finset.induction_on with
  | empty => simp
  | insert i t hi ih =>
    rw [Finset.sum_insert hi, Finset.sum_insert hi,
      EReal.right_distrib_of_nonneg_of_ne_top (EReal.coe_nonneg.mpr ha) (EReal.coe_ne_top a), ih]

/-- Dividing the weighted sum once or each weight before it: the same where the scores are real. -/
theorem after_eq_before {s : Fin n → EReal} {sk : EReal} (v : Fin n → EReal) (hs : ∀ x, IsReal (s x)) (hk : IsReal sk) :
    after s sk v = before s sk v := by
  have hw : ∀ y, IsReal y → ∃ r : ℝ, 0 < r ∧ Ideal.exp (y - top s sk) = r := fun y hy => by
    obtain ⟨r, hr⟩ := hy.sub (IsReal.top hs hk)
    exact ⟨Real.exp r, Real.exp_pos r, by rw [hr, Ideal.exp_coe]⟩
  choose p hp he using fun x => hw (s x) (hs x)
  obtain ⟨z, hz, hez⟩ := hw sk hk
  have hd : denom s sk = ((∑ x, p x + z : ℝ) : EReal) := by
    unfold denom
    rw [EReal.coe_add, coe_sum, hez]
    simp only [he]
  have hpos : 0 < ∑ x, p x + z := add_pos_of_nonneg_of_pos (Finset.sum_nonneg fun x _ => (hp x).le) hz
  unfold after before
  rw [hd, Ideal.div_coe hpos.ne', sum_mul_real _ _ (one_div_pos.mpr hpos).le]
  refine Finset.sum_congr rfl fun x _ => ?_
  rw [Ideal.div_coe hpos.ne', mul_comm (v x), mul_assoc, mul_assoc, mul_comm (v x)]

/-- The scale of the scores is a nonnegative real number. -/
theorem scale_real : ∃ a : ℝ, 0 ≤ a ∧ Ideal.ofBits .f32 0x3E000000#32 = a := by
  refine ⟨1 / 8, by norm_num, ?_⟩
  simp [Ideal.ofBits, Ideal.ieee, -EReal.coe_mul]
  norm_num

/-- A positive real factor of the left operands comes out of a sum of products. -/
theorem sum_scale {ι : Type} [Fintype ι] (f g : ι → EReal) {a : ℝ} (ha : 0 ≤ a) :
    ∑ i, f i * (a : EReal) * g i = (∑ i, g i * f i) * (a : EReal) := by
  rw [sum_mul_real _ _ ha]
  exact Finset.sum_congr rfl fun i _ => by rw [mul_assoc, mul_comm (a : EReal), ← mul_assoc, mul_comm (f i)]

end Cert.Soft
-- ==== Proof.Attn.Heads.lean ====
/-
  The attention kernel's four key heads: the payload stored per query head is the sink softmax of its rows' scores.
-/
module

public import proofs.«01_k».proof.Proof.Attn.Scratch
public import proofs.«01_k».proof.Proof.Attn.Soft

@[expose] public section

set_option maxRecDepth 16384

noncomputable section

namespace Cert.AttnIdeal.Hand

open Cert.AttnIdeal Cert.AttnIdeal.Gen Idealize.ShloMosaic Idealize.ShloMosaic.TcCoe Idealize.SL.Sem

variable (q0 q1 q2 q3 : Vec Ideal S32x64 .bf16) (k v : Vec Ideal S160x64 .f32) (s : Vec Ideal S1x128x128 .f32)

/-- Row `ρ` of the four query heads stacked. -/
def pick (ρ : Fin 128) (e : Fin 64) : EReal :=
  if h : ρ.val < 32 then q0 (ix2 ⟨ρ, h⟩ e)
  else if h : ρ.val - 32 < 32 then q1 (ix2 ⟨ρ.val - 32, h⟩ e)
  else if h : ρ.val - 32 - 32 < 32 then q2 (ix2 ⟨ρ.val - 32 - 32, h⟩ e)
  else q3 (ix2 ⟨ρ.val - 32 - 32 - 32, by omega⟩ e)

/-- Row `ρ`, lane `d` of a key head's output. -/
def headAt (ρ : Fin 128) (d : Fin 64) : EReal :=
  Soft.after (fun x : Fin 160 => ∑ e, pick q0 q1 q2 q3 ρ e * k (ix2 x e)) (s (ix3 0 ρ 0)) fun x => v (ix2 x d)

theorem head0 (ρ : Fin 128) (d : Fin 64) :
    k0_pay24 (F := Ideal) q0 q1 q2 q3 k v s (ix2 ρ d) = headAt q0 q1 q2 q3 k v s ρ d := by
  unfold_payloads
  pointwise [headAt, pick, Soft.after, Soft.denom, Soft.top]

theorem head1 (ρ : Fin 128) (d : Fin 64) :
    k0_pay37 (F := Ideal) (k0_pay30 v) (k0_pay35 q0 q1 q2 q3 k s) (k0_pay36 q0 q1 q2 q3 k s) (constant S128x64 .f32 0x00000000#32) (ix2 ρ d)
      = headAt q0 q1 q2 q3 k v s ρ d := by
  unfold_payloads
  pointwise [headAt, pick, Soft.after, Soft.denom, Soft.top]

theorem head2 (ρ : Fin 128) (d : Fin 64) :
    k0_pay45 (F := Ideal) (k0_pay42 v) (k0_pay43 q0 q1 q2 q3 k) (k0_pay44 s) (ix2 ρ d) = headAt q0 q1 q2 q3 k v s ρ d := by
  unfold_payloads
  pointwise [headAt, pick, Soft.after, Soft.denom, Soft.top]

theorem head3 (ρ : Fin 128) (d : Fin 64) :
    k0_pay51 (F := Ideal) (k0_pay50 q0 q1 q2 q3) k v s (ix2 ρ d) = headAt q0 q1 q2 q3 k v s ρ d := by
  unfold_payloads
  pointwise [headAt, pick, Soft.after, Soft.denom, Soft.top]

end Cert.AttnIdeal.Hand
-- ==== Proof.Attn.Body.lean ====
/-
  What one grid point of the attention kernel leaves in its three outputs, of the point's input blocks.
-/
module

public import proofs.«01_k».proof.Proof.Attn.Heads

@[expose] public section

set_option maxRecDepth 16384

noncomputable section

namespace Cert.AttnIdeal.Hand

open Cert.AttnIdeal Cert.AttnIdeal.Gen Idealize.ShloMosaic Idealize.ShloMosaic.TcCoe Idealize.SL.Sem

/-- A load of a scratch within the point reads what its stores left. -/
theorem readCov_ld {s : Shape} {e : EltTy} (v : View sig .tc .vmem s e) (L : List (View.Piece (Elt Ideal) s e)) (r : Rect s) :
    v.readCov L r.toLoadRect = View.ld (View.canon L) r := View.readCov_eq_canon' v L r.toLoadRect

variable (m : (ℓ : Loc nD τ sig) → Buf (Elt Ideal) ℓ) (c : Dev nD) (t : Fin cfg0.N)

/-- The attention's entry `(r, l)`: query head `l / 64`, its row `r`, over the keys and values of key head `l / 256`. -/
def attAt (Q : Fin 32 → Fin 1024 → EReal) (K V : Fin 160 → Fin 256 → EReal) (S : Vec Ideal S4x128x128 .f32)
    (r : Fin 32) (l : Fin 1024) : EReal :=
  Soft.after (fun x => ∑ e : Fin 64, Q r ⟨l.val / 64 * 64 + e, by omega⟩ * K x ⟨l.val / 256 * 64 + e, by omega⟩)
    (S (ix3 ⟨l.val / 256, by omega⟩ ⟨l.val / 64 % 4 * 32 + r, by omega⟩ 0))
    fun x => V x ⟨l.val / 256 * 64 + l.val % 64, by omega⟩

/-- A key head's entry over the loads of its query heads, keys, values and sinks is the attention's entry. -/
theorem head_att (Q : Fin 32 → Fin 1024 → EReal) (K V : Fin 160 → Fin 256 → EReal) (S : Vec Ideal S4x128x128 .f32)
    (g u : ℕ) (hg : g < 4) (hu : u < 4) {q0 q1 q2 q3 : Vec Ideal S32x64 .bf16} {k v : Vec Ideal S160x64 .f32}
    {s : Vec Ideal S1x128x128 .f32}
    (h0 : ∀ r e, q0 (ix2 r e) = Q r ⟨g * 256 + e, by omega⟩)
    (h1 : ∀ r e, q1 (ix2 r e) = Q r ⟨g * 256 + 64 + e, by omega⟩)
    (h2 : ∀ r e, q2 (ix2 r e) = Q r ⟨g * 256 + 128 + e, by omega⟩)
    (h3 : ∀ r e, q3 (ix2 r e) = Q r ⟨g * 256 + 192 + e, by omega⟩)
    (hk : ∀ x e, k (ix2 x e) = K x ⟨g * 64 + e, by omega⟩) (hv : ∀ x e, v (ix2 x e) = V x ⟨g * 64 + e, by omega⟩)
    (hs : ∀ ρ, s (ix3 0 ρ 0) = S (ix3 ⟨g, hg⟩ ρ 0)) (ρ : Fin 128) (d : Fin 64) (r : Fin 32) (l : Fin 1024)
    (hρ : ρ.val = u * 32 + r) (hl : l.val = g * 256 + u * 64 + d) :
    headAt q0 q1 q2 q3 k v s ρ d = attAt Q K V S r l := by
  have hp : ∀ e : Fin 64, pick q0 q1 q2 q3 ρ e = Q r ⟨l.val / 64 * 64 + e, by omega⟩ := fun e => by
    unfold pick
    split_ifs
    · rw [h0]; exact congrArg₂ Q (Fin.ext (by dsimp only; omega)) (Fin.ext (by dsimp only; omega))
    · rw [h1]; exact congrArg₂ Q (Fin.ext (by dsimp only; omega)) (Fin.ext (by dsimp only; omega))
    · rw [h2]; exact congrArg₂ Q (Fin.ext (by dsimp only; omega)) (Fin.ext (by dsimp only; omega))
    · rw [h3]; exact congrArg₂ Q (Fin.ext (by dsimp only; omega)) (Fin.ext (by dsimp only; omega))
  unfold headAt attAt
  rw [show (fun x : Fin 160 => ∑ e, pick q0 q1 q2 q3 ρ e * k (ix2 x e))
      = fun x => ∑ e : Fin 64, Q r ⟨l.val / 64 * 64 + e, by omega⟩ * K x ⟨l.val / 256 * 64 + e, by omega⟩ from
    funext fun x => Finset.sum_congr rfl fun e _ => congrArg₂ (· * ·) (hp e)
      ((hk x e).trans (congrArg (K x) (Fin.ext (by dsimp only; omega)))),
    show (fun x => v (ix2 x d)) = fun x => V x ⟨l.val / 256 * 64 + l.val % 64, by omega⟩ from
      funext fun x => (hv x d).trans (congrArg (V x) (Fin.ext (by dsimp only; omega))),
    hs, show ix3 (⟨g, hg⟩ : Fin 4) ρ (0 : Fin 128) = ix3 ⟨l.val / 256, by omega⟩ ⟨l.val / 64 % 4 * 32 + r, by omega⟩ 0 from
      ix3_congr (by dsimp only; omega) (by dsimp only; omega) rfl]

/-- A load of the query scratch. -/
theorem ld_q (Q : Fin 32 → Fin 1024 → EReal) (o : ℕ) (h : ∀ a, ![0, o] a + S32x64.size a ≤ S32x1024.size a) (ho : o + 64 ≤ 1024)
    (r : Fin 32) (e : Fin 64) : View.ld (Val := Elt Ideal) (S := S32x1024) (e' := .bf16) (fun y => Q (y 0) (y 1)) (Rect.unit ![0, o] ![32, 64] h) (ix2 r e)
      = Q r ⟨o + e, by omega⟩ :=
  congrArg₂ Q (Fin.ext (by show 0 + 1 * r.val = r.val; omega)) (Fin.ext (by show o + 1 * e.val = o + e.val; omega))

/-- A load of the key or the value scratch. -/
theorem ld_kv (K : Fin 160 → Fin 256 → EReal) (o : ℕ) (h : ∀ a, ![0, o] a + S160x64.size a ≤ S160x256.size a) (ho : o + 64 ≤ 256)
    (x : Fin 160) (e : Fin 64) : View.ld (Val := Elt Ideal) (S := S160x256) (e' := .f32) (fun y => K (y 0) (y 1)) (Rect.unit ![0, o] ![160, 64] h) (ix2 x e)
      = K x ⟨o + e, by omega⟩ :=
  congrArg₂ K (Fin.ext (by show 0 + 1 * x.val = x.val; omega)) (Fin.ext (by show o + 1 * e.val = o + e.val; omega))

/-- A load of a key head's sinks. -/
theorem ld_s (S : Vec Ideal S4x128x128 .f32) (g : ℕ) (hg : g < 4) (h : ∀ a, ![g, 0, 0] a + S1x128x128.size a ≤ S4x128x128.size a)
    (ρ : Fin 128) : View.ld (Val := Elt Ideal) (S := S4x128x128) (e' := .f32) S (Rect.unit ![g, 0, 0] ![1, 128, 128] h) (ix3 0 ρ 0) = S (ix3 ⟨g, hg⟩ ρ 0) :=
  congrArg S (funext fun a => Fin.ext (by
    fin_cases a
    · show g + 1 * 0 = g; omega
    · show 0 + 1 * ρ.val = ρ.val; omega
    · rfl))

/-- The new keys: rows 128 on of the key scratch. -/
theorem out_nk (b : Fin 1) (r : Fin 32) (j : Fin 256) : (outsAt0 m c t).2.1 (ix3 b r j) =
    kAt (iblk m c 1 t) (iblk m c 3 t) (iblk m c 5 t) (iblk m c 6 t) (iblk m c 7 t) ⟨128 + r, by omega⟩ j := by
  unfold outsAt0
  frame_out
  rw [readCov_ld, canon_k]
  pointwise [k0_pay2]

/-- The new values: rows 128 on of the value scratch. -/
theorem out_nv (b : Fin 1) (r : Fin 32) (j : Fin 256) : (outsAt0 m c t).2.2 (ix3 b r j) =
    vAt (iblk m c 1 t) (iblk m c 4 t) ⟨128 + r, by omega⟩ j := by
  unfold outsAt0
  frame_out
  rw [readCov_ld, canon_v]
  pointwise [k0_pay3]

/-- The output: the attention, gated, times the output weight. -/
theorem out_o : (outsAt0 m c t).1 = k0_pay1 (F := Ideal) (fun y => attAt
      (qAt (iblk m c 0 t) (iblk m c 5 t) (iblk m c 6 t) (iblk m c 7 t))
      (kAt (iblk m c 1 t) (iblk m c 3 t) (iblk m c 5 t) (iblk m c 6 t) (iblk m c 7 t))
      (vAt (iblk m c 1 t) (iblk m c 4 t)) (iblk m c 8 t) (y 0) (y 1)) (iblk m c 2 t) (iblk m c 9 t) := by
  unfold outsAt0
  frame_out
  simp only [readCov_ld, canon_q, canon_k, canon_v]
  generalize iblk m c 8 t = S
  generalize qAt (iblk m c 0 t) (iblk m c 5 t) (iblk m c 6 t) (iblk m c 7 t) = Q
  generalize kAt (iblk m c 1 t) (iblk m c 3 t) (iblk m c 5 t) (iblk m c 6 t) (iblk m c 7 t) = K
  generalize vAt (iblk m c 1 t) (iblk m c 4 t) = V
  refine congrArg (fun a => k0_pay1 a _ _) ?_
  funext y
  idx_vars y
  rw [View.ld_unit_lit _ _ (by decide)]
  canon_tiles i h
  all_goals
    idx_vars i
    have e0 : y0.val = i0.val := h0
    simp only [k0_pay25, k0_pay26, k0_pay27, k0_pay28, k0_pay29, k0_pay38, k0_pay39, k0_pay40, k0_pay41, k0_pay46, k0_pay47,
      k0_pay48, k0_pay49, k0_pay52, k0_pay53, k0_pay54, k0_pay55]
    pointwise
    first | rw [head0] | rw [head1] | rw [head2] | rw [head3]
    refine head_att Q K V S (y1.val / 256) (y1.val / 64 % 4) (by omega) (by omega)
      (fun r e => (ld_q Q _ _ (by decide) r e).trans (congrArg (Q r) (Fin.ext ?_)))
      (fun r e => (ld_q Q _ _ (by decide) r e).trans (congrArg (Q r) (Fin.ext ?_)))
      (fun r e => (ld_q Q _ _ (by decide) r e).trans (congrArg (Q r) (Fin.ext ?_)))
      (fun r e => (ld_q Q _ _ (by decide) r e).trans (congrArg (Q r) (Fin.ext ?_)))
      (fun r e => (ld_kv K _ _ (by decide) r e).trans (congrArg (K r) (Fin.ext ?_)))
      (fun r e => (ld_kv V _ _ (by decide) r e).trans (congrArg (V r) (Fin.ext ?_)))
      (fun ρ => (ld_s S _ (by decide) _ ρ).trans (congrArg S (ix3_congr ?_ rfl rfl))) _ _ _ _ ?_ ?_
    all_goals try dsimp only
    all_goals omega
end Cert.AttnIdeal.Hand
-- ==== Proof.Attn.Ref.lean ====
/-
  The attention reference's stages, named, and each of their entries as a plain formula.
-/
module

public import proofs.«01_k».proof.Proof.Gen.AttnRefIdeal
public import proofs.«01_k».proof.Proof.Gen.AttnRefIdeal.Run
public import proofs.«01_k».proof.Proof.Attn.Soft
public import Idealize.ShloMosaic.Lib.Pipeline.ValueKit

@[expose] public section

set_option maxRecDepth 16384

noncomputable section

namespace Cert.AttnRefIdeal.Hand

open Cert.AttnRefIdeal Cert.AttnRefIdeal.Gen Idealize.ShloMosaic Idealize.ShloMosaic.TcCoe Idealize.SL.Sem

/-- The rotation's angles: position times inverse frequency. -/
def angle : FVec Ideal S32x8 .f32 :=
  mulf (broadcastInDim S32x8 ![0, 1] bcast_S32x1_S32x8_0_1 (broadcastInDim S32x1 ![0] bcast_S32_S32x1_0
      (addf (broadcastInDim S32 ![] bcast_S_S32 (constant S_ .f32 0x45000000#32)) (sitofp .f32 (iotaInDim S32 32 0)))))
    (broadcastInDim S32x8 ![0, 1] bcast_S1x8_S32x8_0_1 (broadcastInDim S1x8 ![1] bcast_S8_S1x8_1
      (Host.powf (broadcastInDim S8 ![] bcast_S_S8 (constant S_ .f32 0x48F42400#32))
        (Host.negf (Host.divf (mulf (sitofp .f32 (iotaInDim S8 32 0)) (broadcastInDim S8 ![] bcast_S_S8 (constant S_ .f32 0x40000000#32)))
          (broadcastInDim S8 ![] bcast_S_S8 (constant S_ .f32 0x41800000#32)))))))

/-- The cosines and sines of the angles, one row per position. -/
def cosT : FVec Ideal S1x32x1x8 .f32 := broadcastInDim S1x32x1x8 ![1, 3] bcast_S32x8_S1x32x1x8_1_3 (Host.cos angle)
def sinT : FVec Ideal S1x32x1x8 .f32 := broadcastInDim S1x32x1x8 ![1, 3] bcast_S32x8_S1x32x1x8_1_3 (Host.sin angle)

/-- The rotated queries. -/
def ropeQ (x : FVec Ideal S16x32x16x64 .f32) : FVec Ideal S16x32x16x64 .f32 :=
  concatenate S16x32x16x64 3
    [⟨S16x32x16x8, (subf (mulf (extractStridedSlice S16x32x16x8 ![0, 0, 0, 0] x slices_S16x32x16x64_S16x32x16x8_0_0_0_0)
        (broadcastInDim S16x32x16x8 ![0, 1, 2, 3] bcast_S1x32x1x8_S16x32x16x8_0_1_2_3 cosT))
      (mulf (extractStridedSlice S16x32x16x8 ![0, 0, 0, 8] x slices_S16x32x16x64_S16x32x16x8_0_0_0_8)
        (broadcastInDim S16x32x16x8 ![0, 1, 2, 3] bcast_S1x32x1x8_S16x32x16x8_0_1_2_3 sinT)) : FVec Ideal S16x32x16x8 .f32)⟩,
     ⟨S16x32x16x8, (addf (mulf (extractStridedSlice S16x32x16x8 ![0, 0, 0, 8] x slices_S16x32x16x64_S16x32x16x8_0_0_0_8)
        (broadcastInDim S16x32x16x8 ![0, 1, 2, 3] bcast_S1x32x1x8_S16x32x16x8_0_1_2_3 cosT))
      (mulf (extractStridedSlice S16x32x16x8 ![0, 0, 0, 0] x slices_S16x32x16x64_S16x32x16x8_0_0_0_0)
        (broadcastInDim S16x32x16x8 ![0, 1, 2, 3] bcast_S1x32x1x8_S16x32x16x8_0_1_2_3 sinT)) : FVec Ideal S16x32x16x8 .f32)⟩,
     ⟨S16x32x16x48, extractStridedSlice S16x32x16x48 ![0, 0, 0, 16] x slices_S16x32x16x64_S16x32x16x48_0_0_0_16⟩]
    concatenates_S16x32x16x8_S16x32x16x8_S16x32x16x48_S16x32x16x64_d3

/-- The rotated keys. -/
def ropeK (x : FVec Ideal S16x32x4x64 .f32) : FVec Ideal S16x32x4x64 .f32 :=
  concatenate S16x32x4x64 3
    [⟨S16x32x4x8, (subf (mulf (extractStridedSlice S16x32x4x8 ![0, 0, 0, 0] x slices_S16x32x4x64_S16x32x4x8_0_0_0_0)
        (broadcastInDim S16x32x4x8 ![0, 1, 2, 3] bcast_S1x32x1x8_S16x32x4x8_0_1_2_3 cosT))
      (mulf (extractStridedSlice S16x32x4x8 ![0, 0, 0, 8] x slices_S16x32x4x64_S16x32x4x8_0_0_0_8)
        (broadcastInDim S16x32x4x8 ![0, 1, 2, 3] bcast_S1x32x1x8_S16x32x4x8_0_1_2_3 sinT)) : FVec Ideal S16x32x4x8 .f32)⟩,
     ⟨S16x32x4x8, (addf (mulf (extractStridedSlice S16x32x4x8 ![0, 0, 0, 8] x slices_S16x32x4x64_S16x32x4x8_0_0_0_8)
        (broadcastInDim S16x32x4x8 ![0, 1, 2, 3] bcast_S1x32x1x8_S16x32x4x8_0_1_2_3 cosT))
      (mulf (extractStridedSlice S16x32x4x8 ![0, 0, 0, 0] x slices_S16x32x4x64_S16x32x4x8_0_0_0_0)
        (broadcastInDim S16x32x4x8 ![0, 1, 2, 3] bcast_S1x32x1x8_S16x32x4x8_0_1_2_3 sinT)) : FVec Ideal S16x32x4x8 .f32)⟩,
     ⟨S16x32x4x48, extractStridedSlice S16x32x4x48 ![0, 0, 0, 16] x slices_S16x32x4x64_S16x32x4x48_0_0_0_16⟩]
    concatenates_S16x32x4x8_S16x32x4x8_S16x32x4x48_S16x32x4x64_d3

/-- The queries, and the keys' and the values' halves of the projection, by head. -/
def queries (q : FVec Ideal S512x1024 .f32) : FVec Ideal S16x32x16x64 .f32 := ropeQ (shapeCast _ q shapeCasts_S512x1024_S16x32x16x64)
def newK (kv : FVec Ideal S512x512 .f32) : FVec Ideal S16x32x4x64 .f32 :=
  ropeK (shapeCast _ (extractStridedSlice S512x256 ![0, 0] kv slices_S512x512_S512x256_0_0) shapeCasts_S512x256_S16x32x4x64)
def newV (kv : FVec Ideal S512x512 .f32) : FVec Ideal S16x32x4x64 .f32 :=
  shapeCast _ (extractStridedSlice S512x256 ![0, 256] kv slices_S512x512_S512x256_0_256) shapeCasts_S512x256_S16x32x4x64

/-- The cached rows followed by the new ones. -/
def withCache (cache : FVec Ideal S16x128x256 .f32) (new : FVec Ideal S16x32x4x64 .f32) : FVec Ideal S16x160x4x64 .f32 :=
  concatenate S16x160x4x64 1 [⟨S16x128x4x64, shapeCast _ cache shapeCasts_S16x128x256_S16x128x4x64⟩, ⟨S16x32x4x64, new⟩]
    concatenates_S16x128x4x64_S16x32x4x64_S16x160x4x64_d1

/-- The scaled scores. -/
def scores (Q : FVec Ideal S16x32x16x64 .f32) (K : FVec Ideal S16x160x4x64 .f32) : FVec Ideal S16x4x4x32x160 .f32 :=
  mulf (transpose S16x4x4x32x160 [0, 1, 4, 3, 2] (Host.dotGeneral (F := Ideal) (φ₁ := .f32) (φ₂ := .f32) dot_S16x160x4x64_S16x32x4x4x64_S16x4x160x32x4_3_4_1_13_02_02 none K
      (shapeCast _ Q shapeCasts_S16x32x16x64_S16x32x4x4x64 : FVec Ideal S16x32x4x4x64 .f32)) transposes_S16x4x160x32x4_S16x4x4x32x160_0_1_4_3_2)
    (broadcastInDim S16x4x4x32x160 ![] bcast_S_S16x4x4x32x160 (constant S_ .f32 0x3E000000#32))

/-- The sinks, one per query head, at every row. -/
def sinkT (sk : FVec Ideal S16 .f32) : FVec Ideal S16x4x4x32x1 .f32 :=
  broadcastInDim S16x4x4x32x1 ![0, 1, 2, 3, 4] bcast_S1x4x4x1x1_S16x4x4x32x1_0_1_2_3_4
    (broadcastInDim S1x4x4x1x1 ![1, 2, 3, 4] bcast_S4x4x1x1_S1x4x4x1x1_1_2_3_4 (shapeCast S4x4x1x1 sk shapeCasts_S16_S4x4x1x1))

/-- The larger of a row's greatest score and its sink. -/
def tops (sc : FVec Ideal S16x4x4x32x160 .f32) (sk : FVec Ideal S16 .f32) : FVec Ideal S16x4x4x32x1 .f32 :=
  maximumf (broadcastInDim S16x4x4x32x1 ![0, 1, 2, 3] bcast_S16x4x4x32_S16x4x4x32x1_0_1_2_3
    (Host.reduce FloatOps.maximumf sc (constant S_ .f32 0xFF800000#32) reducesTo_S16x4x4x32x160_S16x4x4x32_d4 h_S_)) (sinkT sk)

/-- The exponentials of the shifted scores. -/
def weights (sc : FVec Ideal S16x4x4x32x160 .f32) (sk : FVec Ideal S16 .f32) : FVec Ideal S16x4x4x32x160 .f32 :=
  Host.exp (subf sc (broadcastInDim S16x4x4x32x160 ![0, 1, 2, 3, 4] bcast_S16x4x4x32x1_S16x4x4x32x160_0_1_2_3_4 (tops sc sk)))

/-- The softmax with the sink in its denominator. -/
def probs (sc : FVec Ideal S16x4x4x32x160 .f32) (sk : FVec Ideal S16 .f32) : FVec Ideal S16x4x4x32x160 .f32 :=
  Host.divf (weights sc sk) (broadcastInDim S16x4x4x32x160 ![0, 1, 2, 3, 4] bcast_S16x4x4x32x1_S16x4x4x32x160_0_1_2_3_4
    (addf (broadcastInDim S16x4x4x32x1 ![0, 1, 2, 3] bcast_S16x4x4x32_S16x4x4x32x1_0_1_2_3
        (Host.reduceAdd (weights sc sk) (constant S_ .f32 0x00000000#32) reducesTo_S16x4x4x32x160_S16x4x4x32_d4 h_S_))
      (Host.exp (subf (sinkT sk) (tops sc sk)))))

/-- The values weighted, one row per token. -/
def mixed (V : FVec Ideal S16x160x4x64 .f32) (P : FVec Ideal S16x4x4x32x160 .f32) : FVec Ideal S512x1024 .f32 :=
  shapeCast _ (transpose S16x32x4x4x64 [0, 4, 1, 3, 2] (Host.dotGeneral (F := Ideal) (φ₁ := .f32) (φ₂ := .f32) dot_S16x160x4x64_S16x4x4x32x160_S16x4x64x4x32_1_4_3_23_02_01 none V P)
    transposes_S16x4x64x4x32_S16x32x4x4x64_0_4_1_3_2) shapeCasts_S16x32x4x4x64_S512x1024

/-- The attention before its gate. -/
def attend (q : FVec Ideal S512x1024 .f32) (kv : FVec Ideal S512x512 .f32) (ck cv : FVec Ideal S16x128x256 .f32) (sk : FVec Ideal S16 .f32) :
    FVec Ideal S512x1024 .f32 :=
  mixed (withCache cv (newV kv)) (probs (scores (queries q) (withCache ck (newK kv))) sk)

/-- The output: gated and projected. -/
def output (q : FVec Ideal S512x1024 .f32) (kv : FVec Ideal S512x512 .f32) (g : FVec Ideal S512x1024 .f32) (ck cv : FVec Ideal S16x128x256 .f32)
    (sk : FVec Ideal S16 .f32) (wo : FVec Ideal S1024x1024 .f32) : FVec Ideal S512x1024 .f32 :=
  Host.dotGeneral (F := Ideal) (φ₁ := .f32) (φ₂ := .f32) dot_S512x1024_S1024x1024_S512x1024_1_0_0_1_n_n none (mulf (attend q kv ck cv sk) g) wo

variable (m : (ℓ : Loc nD τ sig) → Buf (Elt Ideal) ℓ) (c : Dev nD)

/-- What the reference returns first is `output` of its arguments. -/
theorem res_o : Cert.AttnRefIdeal.Value.res_out0 m c = output (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

/-- What it returns second are the rotated new keys. -/
theorem res_nk : Cert.AttnRefIdeal.Value.res_out1 m c =
    shapeCast _ (newK (m ((c.tc : Thread nD τ).loc main_arg1))) shapeCasts_S16x32x4x64_S16x32x256 := rfl

/-! ## Entries -/

/-- The angle at position `r` and frequency `d`. -/
def ang (r : Fin 32) (d : Fin 8) : EReal :=
  (Ideal.ofBits .f32 0x45000000#32 + FloatOps.sitofp (F := Ideal) .f32 (BitVec.ofNat 32 r)) *
    Ideal.pow (Ideal.ofBits .f32 0x48F42400#32)
      (-Ideal.div (FloatOps.sitofp (F := Ideal) .f32 (BitVec.ofNat 32 d) * Ideal.ofBits .f32 0x40000000#32) (Ideal.ofBits .f32 0x41800000#32))

theorem angle_at (r : Fin 32) (d : Fin 8) : angle (ix2 r d) = ang r d := by
  pointwise [angle, ang]

theorem cosT_at (r : Fin 32) (d : Fin 8) : cosT (ix4 0 r 0 d) = Ideal.cos (ang r d) := by
  pointwise [cosT, angle_at]

theorem sinT_at (r : Fin 32) (d : Fin 8) : sinT (ix4 0 r 0 d) = Ideal.sin (ang r d) := by
  pointwise [sinT, angle_at]

/-- The rotation of a head's 64 lanes at position `r`: the first 8 pair with the next 8, the others stay. -/
def rope (x : Fin 64 → EReal) (r : Fin 32) (d : Fin 64) : EReal :=
  if h : d.val < 8 then x d * Ideal.cos (ang r ⟨d, h⟩) - x ⟨d + 8, by omega⟩ * Ideal.sin (ang r ⟨d, h⟩)
  else if h : d.val < 16 then x d * Ideal.cos (ang r ⟨d - 8, by omega⟩) + x ⟨d - 8, by omega⟩ * Ideal.sin (ang r ⟨d - 8, by omega⟩)
  else x d

theorem ropeQ_at (x : FVec Ideal S16x32x16x64 .f32) (b : Fin 16) (r : Fin 32) (h : Fin 16) (d : Fin 64) :
    ropeQ x (ix4 b r h d) = rope (fun e => x (ix4 b r h e)) r d := by
  pointwise [ropeQ, cosT_at, sinT_at]
  unfold rope
  by_cases h1 : d.val < 8
  · rw [dif_pos h1, dif_pos h1]
    exact congrArg (fun e => _ - x (ix4 b r h e) * _) (Fin.ext (Nat.add_comm 8 d.val))
  · by_cases h2 : d.val < 16
    · rw [dif_neg h1, dif_neg h1, dif_pos (by omega), dif_pos h2]
      exact congrArg (fun e => x (ix4 b r h e) * _ + _) (Fin.ext (by dsimp only; omega))
    · rw [dif_neg h1, dif_neg h1, dif_neg (by omega), dif_neg h2]
      exact congrArg (fun e => x (ix4 b r h e)) (Fin.ext (by dsimp only; omega))

theorem ropeK_at (x : FVec Ideal S16x32x4x64 .f32) (b : Fin 16) (r : Fin 32) (h : Fin 4) (d : Fin 64) :
    ropeK x (ix4 b r h d) = rope (fun e => x (ix4 b r h e)) r d := by
  pointwise [ropeK, cosT_at, sinT_at]
  unfold rope
  by_cases h1 : d.val < 8
  · rw [dif_pos h1, dif_pos h1]
    exact congrArg (fun e => _ - x (ix4 b r h e) * _) (Fin.ext (Nat.add_comm 8 d.val))
  · by_cases h2 : d.val < 16
    · rw [dif_neg h1, dif_neg h1, dif_pos (by omega), dif_pos h2]
      exact congrArg (fun e => x (ix4 b r h e) * _ + _) (Fin.ext (by dsimp only; omega))
    · rw [dif_neg h1, dif_neg h1, dif_neg (by omega), dif_neg h2]
      exact congrArg (fun e => x (ix4 b r h e)) (Fin.ext (by dsimp only; omega))

theorem scores_at (Q : FVec Ideal S16x32x16x64 .f32) (K : FVec Ideal S16x160x4x64 .f32) (b : Fin 16) (g u : Fin 4) (r : Fin 32) (x : Fin 160) :
    scores Q K (ix5 b g u r x) = (∑ e, K (ix4 b x g e) * Q (ix4 b r ⟨g * 4 + u, by omega⟩ e)) * Ideal.ofBits .f32 0x3E000000#32 := by
  pointwise [scores]

theorem withCache_at (ck : FVec Ideal S16x128x256 .f32) (k : FVec Ideal S16x32x4x64 .f32) (b : Fin 16) (x : Fin 160) (g : Fin 4) (d : Fin 64) :
    withCache ck k (ix4 b x g d) = if h : x.val < 128 then ck (ix3 b ⟨x, h⟩ ⟨g * 64 + d, by omega⟩) else k (ix4 b ⟨x - 128, by omega⟩ g d) := by
  pointwise [withCache]

theorem probs_at (sc : FVec Ideal S16x4x4x32x160 .f32) (sk : FVec Ideal S16 .f32) (b : Fin 16) (g u : Fin 4) (r : Fin 32) (x : Fin 160) :
    probs sc sk (ix5 b g u r x) = Ideal.div
      (Ideal.exp (sc (ix5 b g u r x) - Soft.top (fun x => sc (ix5 b g u r x)) (sk (ix1 ⟨g * 4 + u, by omega⟩))))
      (Soft.denom (fun x => sc (ix5 b g u r x)) (sk (ix1 ⟨g * 4 + u, by omega⟩))) := by
  pointwise [probs, weights, tops, sinkT, Soft.denom, Soft.top]

theorem mixed_at (V : FVec Ideal S16x160x4x64 .f32) (P : FVec Ideal S16x4x4x32x160 .f32) (n : Fin 512) (l : Fin 1024) :
    mixed V P (ix2 n l) = ∑ x, V (ix4 ⟨n / 32, by omega⟩ x ⟨l / 256, by omega⟩ ⟨l % 64, by omega⟩)
      * P (ix5 ⟨n / 32, by omega⟩ ⟨l / 256, by omega⟩ ⟨l / 64 % 4, by omega⟩ ⟨n % 32, by omega⟩ x) := by
  pointwise [mixed]

end Cert.AttnRefIdeal.Hand
-- ==== Proof.Attn.Ref2.lean ====
/-
  The attention reference's results entry by entry, of its arguments.
-/
module

public import proofs.«01_k».proof.Proof.Attn.Ref

@[expose] public section

set_option maxRecDepth 16384

noncomputable section

namespace Cert.AttnRefIdeal.Hand

open Cert.AttnRefIdeal Cert.AttnRefIdeal.Gen Idealize.ShloMosaic Idealize.ShloMosaic.TcCoe Idealize.SL.Sem

theorem queries_at (q : FVec Ideal S512x1024 .f32) (b : Fin 16) (r : Fin 32) (h : Fin 16) (d : Fin 64) :
    queries q (ix4 b r h d) = rope (fun e => q (ix2 ⟨b * 32 + r, by omega⟩ ⟨h * 64 + e, by omega⟩)) r d := by
  unfold queries
  rw [ropeQ_at]
  refine congrArg (fun f => rope f r d) (funext fun e => ?_)
  pointwise

theorem newK_at (kv : FVec Ideal S512x512 .f32) (b : Fin 16) (r : Fin 32) (g : Fin 4) (d : Fin 64) :
    newK kv (ix4 b r g d) = rope (fun e => kv (ix2 ⟨b * 32 + r, by omega⟩ ⟨g * 64 + e, by omega⟩)) r d := by
  unfold newK
  rw [ropeK_at]
  refine congrArg (fun f => rope f r d) (funext fun e => ?_)
  pointwise

theorem newV_at (kv : FVec Ideal S512x512 .f32) (b : Fin 16) (r : Fin 32) (g : Fin 4) (d : Fin 64) :
    newV kv (ix4 b r g d) = kv (ix2 ⟨b * 32 + r, by omega⟩ ⟨256 + (g * 64 + d), by omega⟩) := by
  pointwise [newV]

/-- Key row `x` of batch `b`. -/
def keyAt (kv : FVec Ideal S512x512 .f32) (ck : FVec Ideal S16x128x256 .f32) (b : Fin 16) (x : Fin 160) (g : Fin 4) (d : Fin 64) : EReal :=
  if h : x.val < 128 then ck (ix3 b ⟨x, h⟩ ⟨g * 64 + d, by omega⟩)
  else rope (fun e => kv (ix2 ⟨b * 32 + (x - 128), by omega⟩ ⟨g * 64 + e, by omega⟩)) ⟨x - 128, by omega⟩ d

/-- Value row `x` of batch `b`. -/
def valAt (kv : FVec Ideal S512x512 .f32) (cv : FVec Ideal S16x128x256 .f32) (b : Fin 16) (x : Fin 160) (g : Fin 4) (d : Fin 64) : EReal :=
  if h : x.val < 128 then cv (ix3 b ⟨x, h⟩ ⟨g * 64 + d, by omega⟩)
  else kv (ix2 ⟨b * 32 + (x - 128), by omega⟩ ⟨256 + (g * 64 + d), by omega⟩)

/-- Query head `h`'s row `r` of batch `b`. -/
def queryAt (q : FVec Ideal S512x1024 .f32) (b : Fin 16) (r : Fin 32) (h : Fin 16) (d : Fin 64) : EReal :=
  rope (fun e => q (ix2 ⟨b * 32 + r, by omega⟩ ⟨h * 64 + e, by omega⟩)) r d

theorem keys_at (kv : FVec Ideal S512x512 .f32) (ck : FVec Ideal S16x128x256 .f32) (b : Fin 16) (x : Fin 160) (g : Fin 4) (d : Fin 64) :
    withCache ck (newK kv) (ix4 b x g d) = keyAt kv ck b x g d := by
  rw [withCache_at]; unfold keyAt; split_ifs
  · rfl
  · rw [newK_at]

theorem vals_at (kv : FVec Ideal S512x512 .f32) (cv : FVec Ideal S16x128x256 .f32) (b : Fin 16) (x : Fin 160) (g : Fin 4) (d : Fin 64) :
    withCache cv (newV kv) (ix4 b x g d) = valAt kv cv b x g d := by
  rw [withCache_at]; unfold valAt; split_ifs
  · rfl
  · rw [newV_at]

/-- The attention's entry: the softmax over the 160 rows, divided before it weighs the values. -/
theorem attend_at (q : FVec Ideal S512x1024 .f32) (kv : FVec Ideal S512x512 .f32) (ck cv : FVec Ideal S16x128x256 .f32) (sk : FVec Ideal S16 .f32)
    (b : Fin 16) (r : Fin 32) (l : Fin 1024) : attend q kv ck cv sk (ix2 ⟨b * 32 + r, by omega⟩ l) =
      Soft.before (fun x => (∑ e, keyAt kv ck b x ⟨l / 256, by omega⟩ e * queryAt q b r ⟨l / 64, by omega⟩ e) * Ideal.ofBits .f32 0x3E000000#32)
        (sk (ix1 ⟨l / 64, by omega⟩)) fun x => valAt kv cv b x ⟨l / 256, by omega⟩ ⟨l % 64, by omega⟩ := by
  have hb : (⟨(b.val * 32 + r.val) / 32, by omega⟩ : Fin 16) = b := Fin.ext (by dsimp only; omega)
  have hr : (⟨(b.val * 32 + r.val) % 32, by omega⟩ : Fin 32) = r := Fin.ext (by dsimp only; omega)
  have hh : (⟨l.val / 256 * 4 + l.val / 64 % 4, by omega⟩ : Fin 16) = ⟨l.val / 64, by omega⟩ := Fin.ext (by dsimp only; omega)
  unfold attend Soft.before
  rw [mixed_at]
  refine Finset.sum_congr rfl fun x _ => ?_
  dsimp only
  rw [probs_at, vals_at]
  simp only [scores_at, keys_at, queries_at, hb, hr, hh]
  rfl

/-- The new keys' rows are the rotated projection. -/
theorem res_nk_at (kv : FVec Ideal S512x512 .f32) (b : Fin 16) (r : Fin 32) (j : Fin 256) :
    (shapeCast _ (newK kv) shapeCasts_S16x32x4x64_S16x32x256 : FVec Ideal S16x32x256 .f32) (ix3 b r j)
      = rope (fun e => kv (ix2 ⟨b * 32 + r, by omega⟩ ⟨j / 64 * 64 + e, by omega⟩)) r ⟨j % 64, by omega⟩ := by
  pointwise [newK_at]

theorem res_nv_at (kv : FVec Ideal S512x512 .f32) (b : Fin 16) (r : Fin 32) (j : Fin 256) :
    (shapeCast _ (newV kv) shapeCasts_S16x32x4x64_S16x32x256 : FVec Ideal S16x32x256 .f32) (ix3 b r j)
      = kv (ix2 ⟨b * 32 + r, by omega⟩ ⟨256 + j, by omega⟩) := by
  pointwise [newV_at]
  exact congrArg (fun e => kv (ix2 _ e)) (Fin.ext (by dsimp only; omega))

/-! ## Real numbers -/

theorem ang_real (r : Fin 32) (d : Fin 8) : Soft.IsReal (ang r d) := by
  have h1 : Soft.IsReal (Ideal.ofBits .f32 0x45000000#32) := ⟨2048, by
    simp [Ideal.ofBits, Ideal.ieee, -EReal.coe_mul]; norm_num⟩
  have h2 : Ideal.ofBits .f32 0x48F42400#32 = ((500000 : ℝ) : EReal) := by
    simp [Ideal.ofBits, Ideal.ieee, -EReal.coe_mul]; norm_num
  have h3 : Soft.IsReal (Ideal.ofBits .f32 0x40000000#32) := ⟨2, by
    simp [Ideal.ofBits, Ideal.ieee, -EReal.coe_mul]; norm_num⟩
  have h4 : Ideal.ofBits .f32 0x41800000#32 = ((16 : ℝ) : EReal) := by
    simp [Ideal.ofBits, Ideal.ieee, -EReal.coe_mul]; norm_num
  have hi : ∀ n : ℕ, Soft.IsReal (FloatOps.sitofp (F := Ideal) .f32 (BitVec.ofNat 32 n)) := fun n => ⟨_, rfl⟩
  unfold ang
  rw [h2, h4, Ideal.div_coe (by norm_num)]
  obtain ⟨y, hy⟩ : Soft.IsReal (-(FloatOps.sitofp (F := Ideal) .f32 (BitVec.ofNat 32 d) * Ideal.ofBits .f32 0x40000000#32 * ((1 / 16 : ℝ) : EReal))) :=
    (((hi _).mul h3).mul ⟨_, rfl⟩).neg
  rw [hy]
  exact (h1.add (hi _)).mul ⟨_, rfl⟩

theorem rope_real (x : Fin 64 → EReal) (hx : ∀ e, Soft.IsReal (x e)) (r : Fin 32) (d : Fin 64) : Soft.IsReal (rope x r d) := by
  unfold rope
  have hc : ∀ d, Soft.IsReal (Ideal.cos (ang r d)) := fun d => by obtain ⟨a, ha⟩ := ang_real r d; rw [ha]; exact ⟨Real.cos a, rfl⟩
  have hs : ∀ d, Soft.IsReal (Ideal.sin (ang r d)) := fun d => by obtain ⟨a, ha⟩ := ang_real r d; rw [ha]; exact ⟨Real.sin a, rfl⟩
  split_ifs
  · exact ((hx _).mul (hc _)).sub ((hx _).mul (hs _))
  · exact ((hx _).mul (hc _)).add ((hx _).mul (hs _))
  · exact hx _

end Cert.AttnRefIdeal.Hand
-- ==== Proof.Attn.Host.lean ====
/-
  What the attention's one region finds in its input blocks: the rotation's tables, the sinks by row, and the arguments' rows.
-/
module

public import proofs.«01_k».proof.Proof.Attn.Body
public import proofs.«01_k».proof.Proof.Attn.Ref2

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnRefIdeal.Hand (ang rope)

variable (m : (ℓ : Loc nD τ sig) → Buf (Elt Ideal) ℓ) (c : Dev nD)

/-- The rotation's angles as the kernel's host computes them. -/
def angle : FVec Ideal S32x8 .f32 :=
  mulf (broadcastInDim S32x8 ![0, 1] bcast_S32x1_S32x8_0_1 (broadcastInDim S32x1 ![0] bcast_S32_S32x1_0
      (addf (broadcastInDim S32 ![] bcast_S_S32 (constant S_ .f32 0x45000000#32)) (sitofp .f32 (iotaInDim S32 32 0)))))
    (broadcastInDim S32x8 ![0, 1] bcast_S1x8_S32x8_0_1 (broadcastInDim S1x8 ![1] bcast_S8_S1x8_1
      (Host.powf (broadcastInDim S8 ![] bcast_S_S8 (constant S_ .f32 0x48F42400#32))
        (Host.negf (Host.divf (mulf (sitofp .f32 (iotaInDim S8 32 0)) (broadcastInDim S8 ![] bcast_S_S8 (constant S_ .f32 0x40000000#32)))
          (broadcastInDim S8 ![] bcast_S_S8 (constant S_ .f32 0x41800000#32)))))))

theorem angle_at (r : Fin 32) (d : Fin 8) : angle (ix2 r d) = ang r d := by
  pointwise [angle, ang]

/-- The host's table of 64 lanes, written twice side by side. -/
def twice (x : FVec Ideal S32x64 .f32) : FVec Ideal S32x128 .f32 :=
  shapeCast S32x128 (broadcastInDim S1x32x2x64 ![0, 1, 2, 3] bcast_S1x32x1x64_S1x32x2x64_0_1_2_3
    (shapeCast S1x32x1x64 x shapeCasts_S32x64_S1x32x1x64)) shapeCasts_S1x32x2x64_S32x128

theorem twice_at (x : FVec Ideal S32x64 .f32) (r : Fin 32) (l : Fin 128) : twice x (ix2 r l) = x (ix2 r ⟨l % 64, by omega⟩) := by
  pointwise [twice]

/-- The cosine table, -/
def cosL : FVec Ideal S32x64 .f32 :=
  concatenate S32x64 1 [⟨S32x8, (Host.cos angle : FVec Ideal S32x8 .f32)⟩, ⟨S32x8, (Host.cos angle : FVec Ideal S32x8 .f32)⟩,
    ⟨S32x48, broadcastInDim S32x48 ![] bcast_S_S32x48 (constant (F := Ideal) S_ .f32 0x3F800000#32)⟩] concatenates_S32x8_S32x8_S32x48_S32x64_d1

/-- the sine table of the first 8 lanes, negated, -/
def sinA : FVec Ideal S32x64 .f32 :=
  concatenate S32x64 1 [⟨S32x8, (Host.negf (Host.sin angle) : FVec Ideal S32x8 .f32)⟩,
    ⟨S32x56, broadcastInDim S32x56 ![] bcast_S_S32x56 (constant (F := Ideal) S_ .f32 0x00000000#32)⟩] concatenates_S32x8_S32x56_S32x64_d1

/-- and that of the next 8. -/
def sinB : FVec Ideal S32x64 .f32 :=
  concatenate S32x64 1 [⟨S32x8, broadcastInDim S32x8 ![] bcast_S_S32x8 (constant (F := Ideal) S_ .f32 0x00000000#32)⟩,
    ⟨S32x8, (Host.sin angle : FVec Ideal S32x8 .f32)⟩,
    ⟨S32x48, broadcastInDim S32x48 ![] bcast_S_S32x48 (constant (F := Ideal) S_ .f32 0x00000000#32)⟩] concatenates_S32x8_S32x8_S32x48_S32x64_d1

theorem V_main_v33 (i : S32x128.Idx) : V m c main_v33 i = twice cosL i := by
  unfold V
  simp only [hostOps0, List.flatten_cons, List.flatten_nil, List.append_nil, List.cons_append, List.nil_append]
  after_results
  rfl

theorem V_main_v36 (i : S32x128.Idx) : V m c main_v36 i = twice sinA i := by
  unfold V
  simp only [hostOps0, List.flatten_cons, List.flatten_nil, List.append_nil, List.cons_append, List.nil_append]
  after_results
  rfl

theorem V_main_v39 (i : S32x128.Idx) : V m c main_v39 i = twice sinB i := by
  unfold V
  simp only [hostOps0, List.flatten_cons, List.flatten_nil, List.append_nil, List.cons_append, List.nil_append]
  after_results
  rfl

/-- The output weight, rounded. -/
theorem V_main_v40 (i : S1024x1024.Idx) : V m c main_v40 i = m ((c : Thread nD τ).loc main_arg6) i := by
  unfold V
  simp only [hostOps0, List.flatten_cons, List.flatten_nil, List.append_nil, List.cons_append, List.nil_append]
  after_results
  rfl

/-- The sinks as the kernel's host lays them out: one per row of a key head's 128. -/
def sinkRows (s : FVec Ideal S16 .f32) : FVec Ideal S4x128x128 .f32 :=
  broadcastInDim S4x128x128 ![0, 1, 2] bcast_S4x128x1_S4x128x128_0_1_2 (broadcastInDim S4x128x1 ![0, 1] bcast_S4x128_S4x128x1_0_1
    (shapeCast S4x128 (broadcastInDim S4x4x32 ![0, 1] bcast_S4x4_S4x4x32_0_1 (shapeCast S4x4 s shapeCasts_S16_S4x4)) shapeCasts_S4x4x32_S4x128))

theorem sinkRows_at (s : FVec Ideal S16 .f32) (g : Fin 4) (ρ j : Fin 128) : sinkRows s (ix3 g ρ j) = s (ix1 ⟨g * 4 + ρ / 32, by omega⟩) := by
  pointwise [sinkRows]

theorem V_main_v7 (i : S4x128x128.Idx) : V m c main_v7 i = sinkRows (m ((c : Thread nD τ).loc main_arg5)) i := by
  unfold V
  simp only [hostOps0, List.flatten_cons, List.flatten_nil, List.append_nil, List.cons_append, List.nil_append]
  after_results
  rfl

theorem one_f32 : Ideal.ofBits .f32 0x3F800000#32 = 1 := by
  rw [← EReal.coe_one]
  simp [Ideal.ofBits, Ideal.ieee, -EReal.coe_mul, -EReal.coe_one]
  norm_num

/-- The kernel's rotation over its tables is the reference's over a head's 64 lanes. -/
theorem rot_rope (x : ℕ → EReal) (x' : Fin 64 → EReal) (r : Fin 32) (l : Fin 128)
    (h : ∀ e : Fin 64, x (l / 64 * 64 + e) = x' e) :
    rot (twice cosL) (twice sinA) (twice sinB) x r l = rope x' r ⟨l % 64, by omega⟩ := by
  have h0 := h ⟨l % 64, by omega⟩
  have el : l.val / 64 * 64 + l.val % 64 = l.val := by omega
  simp only [el] at h0
  simp only [rot, twice_at, rope]
  by_cases h1 : l.val % 64 < 8
  · have h2 := h ⟨l % 64 + 8, by omega⟩
    have e2 : l.val / 64 * 64 + (l.val % 64 + 8) = (l.val + 128 - 120) % 128 := by omega
    simp only [e2] at h2
    rw [dif_pos h1, h0, h2]
    pointwise [cosL, sinA, sinB, angle_at]
    rw [dif_pos h1, dif_pos h1, dif_pos h1, mul_zero, add_zero, mul_neg, ← sub_eq_add_neg]
  · by_cases h3 : l.val % 64 < 16
    · have h2 := h ⟨l % 64 - 8, by omega⟩
      have e2 : l.val / 64 * 64 + (l.val % 64 - 8) = (l.val + 128 - 8) % 128 := by omega
      simp only [e2] at h2
      rw [dif_neg h1, dif_pos h3, h0, h2]
      pointwise [cosL, sinA, sinB, angle_at]
      rw [dif_neg h1, dif_pos (by omega), dif_neg h1, dif_neg h1, dif_pos (by omega), mul_zero, add_zero]
    · rw [dif_neg h1, dif_neg h3, h0]
      pointwise [cosL, sinA, sinB, angle_at]
      rw [dif_neg h1, dif_neg (by omega), dif_neg h1, dif_neg h1, dif_neg (by omega), mul_zero, mul_zero, add_zero, add_zero, mul_one]

/-- Indices of three axes agree when their coordinates do. -/
theorem idx3_ext {n₀ n₁ n₂ : ℕ} {i j : (⟨3, ![n₀, n₁, n₂]⟩ : Shape).Idx} (h0 : (i 0).val = (j 0).val) (h1 : (i 1).val = (j 1).val)
    (h2 : (i 2).val = (j 2).val) : i = j :=
  funext fun a => Fin.ext (by fin_cases a <;> assumption)

/-- The block indices: the rows and the caches move with the point, the tables and the weight stay. -/
theorem idx_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0)
      ∧ (win0_3.index t 0 = t.val ∧ win0_3.index t 1 = 0 ∧ win0_3.index t 2 = 0)
      ∧ (win0_4.index t 0 = t.val ∧ win0_4.index t 1 = 0 ∧ win0_4.index t 2 = 0)
      ∧ (win0_5.index t 0 = 0 ∧ win0_5.index t 1 = 0) ∧ (win0_6.index t 0 = 0 ∧ win0_6.index t 1 = 0)
      ∧ (win0_7.index t 0 = 0 ∧ win0_7.index t 1 = 0)
      ∧ (win0_8.index t 0 = 0 ∧ win0_8.index t 1 = 0 ∧ win0_8.index t 2 = 0)
      ∧ (win0_9.index t 0 = 0 ∧ win0_9.index t 1 = 0)
      ∧ (win0_10.index t 0 = t.val ∧ win0_10.index t 1 = 0)
      ∧ (win0_11.index t 0 = t.val ∧ win0_11.index t 1 = 0 ∧ win0_11.index t 2 = 0)
      ∧ (win0_12.index t 0 = t.val ∧ win0_12.index t 1 = 0 ∧ win0_12.index t 2 = 0) := by decide +kernel

/-- The batch of a point. -/
def batch (t : Fin cfg0.N) : Fin 16 := ⟨t.val, by have := t.isLt; have h : cfg0.N = 16 := N_0; omega⟩

/-- Row `r` of a batch, as a row of the whole arrays. -/
def row (t : Fin cfg0.N) (r : Fin 32) : Fin 512 := ⟨(batch t).val * 32 + r.val, by omega⟩

variable (t : Fin cfg0.N)

theorem blk0 (r : Fin 32) (l : Fin 1024) : (iblk m c 0 t : Vec Ideal S32x1024 .f32) (ix2 r l)
    = m ((c : Thread nD τ).loc main_arg0) (ix2 (row t r) l : S512x1024.Idx) := by
  have h := (idx_facts t).1
  rw [← V_main_arg0 m c]
  exact congrArg (V m c main_arg0) (Shape.idx_ext₂ (by blk_simp [h.1, row, batch]) (by blk_simp [h.2]))

theorem blk1 (r : Fin 32) (l : Fin 512) : (iblk m c 1 t : Vec Ideal S32x512 .f32) (ix2 r l)
    = m ((c : Thread nD τ).loc main_arg1) (ix2 (row t r) l : S512x512.Idx) := by
  have h := (idx_facts t).2.1
  rw [← V_main_arg1 m c]
  exact congrArg (V m c main_arg1) (Shape.idx_ext₂ (by blk_simp [h.1, row, batch]) (by blk_simp [h.2]))

theorem blk2 (r : Fin 32) (l : Fin 1024) : (iblk m c 2 t : Vec Ideal S32x1024 .f32) (ix2 r l)
    = m ((c : Thread nD τ).loc main_arg2) (ix2 (row t r) l : S512x1024.Idx) := by
  have h := (idx_facts t).2.2.1
  rw [← V_main_arg2 m c]
  exact congrArg (V m c main_arg2) (Shape.idx_ext₂ (by blk_simp [h.1, row, batch]) (by blk_simp [h.2]))

theorem blk3 (b : Fin 1) (n : Fin 128) (l : Fin 256) : (iblk m c 3 t : Vec Ideal S1x128x256 .f32) (ix3 b n l)
    = m ((c : Thread nD τ).loc main_arg3) (ix3 (batch t) n l : S16x128x256.Idx) := by
  have h := (idx_facts t).2.2.2.1
  rw [← V_main_arg3 m c]
  exact congrArg (V m c main_arg3) (idx3_ext (by blk_simp [h.1, batch]) (by blk_simp [h.2.1]) (by blk_simp [h.2.2]))

theorem blk4 (b : Fin 1) (n : Fin 128) (l : Fin 256) : (iblk m c 4 t : Vec Ideal S1x128x256 .f32) (ix3 b n l)
    = m ((c : Thread nD τ).loc main_arg4) (ix3 (batch t) n l : S16x128x256.Idx) := by
  have h := (idx_facts t).2.2.2.2.1
  rw [← V_main_arg4 m c]
  exact congrArg (V m c main_arg4) (idx3_ext (by blk_simp [h.1, batch]) (by blk_simp [h.2.1]) (by blk_simp [h.2.2]))

theorem blk5 (r : Fin 32) (l : Fin 128) : (iblk m c 5 t : Vec Ideal S32x128 .f32) (ix2 r l) = twice cosL (ix2 r l) := by
  have h := (idx_facts t).2.2.2.2.2.1
  rw [← V_main_v33 m c]
  exact congrArg (V m c main_v33) (Shape.idx_ext₂ (by blk_simp [h.1]) (by blk_simp [h.2]))

theorem blk6 (r : Fin 32) (l : Fin 128) : (iblk m c 6 t : Vec Ideal S32x128 .f32) (ix2 r l) = twice sinA (ix2 r l) := by
  have h := (idx_facts t).2.2.2.2.2.2.1
  rw [← V_main_v36 m c]
  exact congrArg (V m c main_v36) (Shape.idx_ext₂ (by blk_simp [h.1]) (by blk_simp [h.2]))

theorem blk7 (r : Fin 32) (l : Fin 128) : (iblk m c 7 t : Vec Ideal S32x128 .f32) (ix2 r l) = twice sinB (ix2 r l) := by
  have h := (idx_facts t).2.2.2.2.2.2.2.1
  rw [← V_main_v39 m c]
  exact congrArg (V m c main_v39) (Shape.idx_ext₂ (by blk_simp [h.1]) (by blk_simp [h.2]))

theorem blk8 (g : Fin 4) (ρ j : Fin 128) : (iblk m c 8 t : Vec Ideal S4x128x128 .f32) (ix3 g ρ j)
    = m ((c : Thread nD τ).loc main_arg5) (ix1 (⟨g * 4 + ρ / 32, by omega⟩ : Fin 16) : S16.Idx) := by
  have h := (idx_facts t).2.2.2.2.2.2.2.2.1
  rw [← sinkRows_at (m ((c : Thread nD τ).loc main_arg5)) g ρ j, ← V_main_v7 m c]
  exact congrArg (V m c main_v7) (idx3_ext (by blk_simp [h.1]) (by blk_simp [h.2.1]) (by blk_simp [h.2.2]))

theorem blk9 (k j : Fin 1024) : (iblk m c 9 t : Vec Ideal S1024x1024 .bf16) (ix2 k j)
    = m ((c : Thread nD τ).loc main_arg6) (ix2 k j : S1024x1024.Idx) := by
  have h := (idx_facts t).2.2.2.2.2.2.2.2.2.1
  rw [← V_main_v40 m c]
  exact congrArg (V m c main_v40) (Shape.idx_ext₂ (by blk_simp [h.1]) (by blk_simp [h.2]))

end Cert.AttnIdeal.Hand
-- ==== Proof.Attn.Value.lean ====
/-
  What the attention call leaves in its three result arrays: the reference's results, of the same arguments.
-/
module

public import proofs.«01_k».proof.Defs
public import proofs.«01_k».proof.Proof.Attn.Host
public import Idealize.ShloMosaic.Lib.ReduceAll

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnRefIdeal.Hand (ang rope queryAt keyAt valAt attend output newK newV)

variable (m : (ℓ : Loc nD τ sig) → Buf (Elt Ideal) ℓ) (c : Dev nD) (t : Fin cfg0.N)

/-- The call's arguments. -/
abbrev q : FVec Ideal S512x1024 .f32 := m ((c : Thread nD τ).loc main_arg0)
abbrev kv : FVec Ideal S512x512 .f32 := m ((c : Thread nD τ).loc main_arg1)
abbrev gate : FVec Ideal S512x1024 .f32 := m ((c : Thread nD τ).loc main_arg2)
abbrev ck : FVec Ideal S16x128x256 .f32 := m ((c : Thread nD τ).loc main_arg3)
abbrev cv : FVec Ideal S16x128x256 .f32 := m ((c : Thread nD τ).loc main_arg4)
abbrev sk : FVec Ideal S16 .f32 := m ((c : Thread nD τ).loc main_arg5)
abbrev wo : FVec Ideal S1024x1024 .f32 := m ((c : Thread nD τ).loc main_arg6)

theorem tab5 : (iblk m c 5 t : Vec Ideal S32x128 .f32) = twice cosL := funext fun i => by rw [eq_ix2 i]; exact blk5 m c t _ _
theorem tab6 : (iblk m c 6 t : Vec Ideal S32x128 .f32) = twice sinA := funext fun i => by rw [eq_ix2 i]; exact blk6 m c t _ _
theorem tab7 : (iblk m c 7 t : Vec Ideal S32x128 .f32) = twice sinB := funext fun i => by rw [eq_ix2 i]; exact blk7 m c t _ _

/-- The query scratch holds the rotated queries, scaled. -/
theorem q_eq (r : Fin 32) (l : Fin 1024) (h : Fin 16) (e : Fin 64) (hl : l.val = h * 64 + e) :
    qAt (iblk m c 0 t) (iblk m c 5 t) (iblk m c 6 t) (iblk m c 7 t) r l
      = queryAt (q m c) (batch t) r h e * Ideal.ofBits .f32 0x3E000000#32 := by
  rw [tab5, tab6, tab7]
  unfold qAt queryAt
  rw [rot_rope _ (fun e => q m c (ix2 (row t r) ⟨h * 64 + e, by omega⟩)) r _ fun e => ?_]
  · exact congrArg (fun d => rope _ r d * _) (Fin.ext (by dsimp only; omega))
  · dsimp only [qrow]
    rw [dif_pos (by omega), blk0]
    exact congrArg (fun l => q m c (ix2 (row t r) l)) (Fin.ext (by dsimp only; omega))

/-- The key scratch holds the cached keys, then the new ones, rotated. -/
theorem k_eq (x : Fin 160) (l : Fin 256) (g : Fin 4) (e : Fin 64) (hl : l.val = g * 64 + e) :
    kAt (iblk m c 1 t) (iblk m c 3 t) (iblk m c 5 t) (iblk m c 6 t) (iblk m c 7 t) x l = keyAt (kv m c) (ck m c) (batch t) x g e := by
  rw [tab5, tab6, tab7]
  unfold kAt keyAt
  split_ifs with h
  · rw [blk3]
    exact congrArg (fun l => ck m c (ix3 _ _ l)) (Fin.ext hl)
  · rw [rot_rope _ (fun e => kv m c (ix2 (row t ⟨x - 128, by omega⟩) ⟨g * 64 + e, by omega⟩)) _ _ fun e => ?_]
    · exact congrArg (fun d => rope _ _ d) (Fin.ext (by dsimp only; omega))
    · dsimp only [kvrow]
      rw [dif_pos (by omega), blk1]
      exact congrArg (fun l => kv m c (ix2 _ l)) (Fin.ext (by dsimp only; omega))

/-- The value scratch holds the cached values, then the new ones. -/
theorem v_eq (x : Fin 160) (l : Fin 256) (g : Fin 4) (e : Fin 64) (hl : l.val = g * 64 + e) :
    vAt (iblk m c 1 t) (iblk m c 4 t) x l = valAt (kv m c) (cv m c) (batch t) x g e := by
  unfold vAt valAt
  split_ifs with h
  · rw [blk4]
    exact congrArg (fun l => cv m c (ix3 _ _ l)) (Fin.ext hl)
  · rw [kvrow, dif_pos (by omega), blk1]
    exact congrArg (fun l => kv m c (ix2 _ l)) (Fin.ext (by dsimp only; omega))

/-- What the value claim asks of the arguments: the queries, the keys, the cached keys and the sinks are real numbers. -/
structure Real : Prop where
  q : ∀ i, Soft.IsReal (q m c i)
  k : ∀ (n : Fin 512) (l : Fin 512), l.val < 256 → Soft.IsReal (kv m c (ix2 n l))
  ck : ∀ i, Soft.IsReal (ck m c i)
  sk : ∀ i, Soft.IsReal (sk m c i)

variable (hr : Real m c)
include hr

/-- The body's attention is the reference's. -/
theorem att_eq (r : Fin 32) (l : Fin 1024) :
    attAt (qAt (iblk m c 0 t) (iblk m c 5 t) (iblk m c 6 t) (iblk m c 7 t))
      (kAt (iblk m c 1 t) (iblk m c 3 t) (iblk m c 5 t) (iblk m c 6 t) (iblk m c 7 t))
      (vAt (iblk m c 1 t) (iblk m c 4 t)) (iblk m c 8 t) r l
      = attend (q m c) (kv m c) (ck m c) (cv m c) (sk m c) (ix2 (row t r) l) := by
  obtain ⟨a, ha, ea⟩ := Soft.scale_real
  have hs : ∀ x, Soft.IsReal ((∑ e, keyAt (kv m c) (ck m c) (batch t) x ⟨l / 256, by omega⟩ e
      * queryAt (q m c) (batch t) r ⟨l / 64, by omega⟩ e) * (a : EReal)) := fun x => by
    refine (Soft.IsReal.sum _ fun e => Soft.IsReal.mul ?_ ?_).mul ⟨a, rfl⟩
    · unfold keyAt
      split_ifs
      · exact hr.ck _
      · exact Cert.AttnRefIdeal.Hand.rope_real _ (fun e => hr.k _ _ (by dsimp only; omega)) _ _
    · exact Cert.AttnRefIdeal.Hand.rope_real _ (fun e => hr.q _) _ _
  refine Eq.trans ?_ (Cert.AttnRefIdeal.Hand.attend_at _ _ _ _ _ (batch t) r l).symm
  rw [ea, ← Soft.after_eq_before _ hs (hr.sk _)]
  unfold attAt
  refine congr (congr (congrArg Soft.after (funext fun x => ?_)) ?_) (funext fun x => v_eq m c t x _ _ _ rfl)
  · rw [← Soft.sum_scale _ _ ha]
    refine Finset.sum_congr rfl fun e _ => ?_
    rw [q_eq m c t r _ ⟨l / 64, by omega⟩ e rfl, k_eq m c t x _ ⟨l / 256, by omega⟩ e rfl, ea]
  · rw [blk8]
    exact congrArg (fun i => sk m c (ix1 i)) (Fin.ext (by dsimp only; omega))

/-- After the run the first result array is the reference's. -/
theorem final10 : (dats m 0 c).arrAt 10 cfg0.N = output (q m c) (kv m c) (gate m c) (ck m c) (cv m c) (sk m c) (wo m c) := by
  refine (dats m 0 c).arrAt_eq_of_covers 10 _ (by decide +kernel) fun t hf y => ?_
  obtain ⟨r, j, rfl⟩ : ∃ (r : Fin 32) (j : Fin 1024), y = (ix2 r j : S32x1024.Idx) := ⟨y 0, y 1, eq_ix2 y⟩
  have h := (idx_facts t).2.2.2.2.2.2.2.2.2.2.1
  rw [show ((cfg0.win 10).blk t).view.emb (ix2 r j : S32x1024.Idx) = (ix2 (row t r) j : S512x1024.Idx) from
    Shape.idx_ext₂ (by blk_simp [h.1, row, batch]) (by blk_simp [h.2])]
  blk_simp
  rw [after0_10, out_o]
  have hk := fun k => att_eq m c t hr r k
  unfold output
  unfold_payloads
  pointwise
  refine Finset.sum_congr (M := EReal) rfl fun k _ => ?_
  rw [hk k]
  exact congrArg₂ (fun x y : EReal => attend (q m c) (kv m c) (ck m c) (cv m c) (sk m c) (ix2 (row t r) k) * x * y)
    (blk2 m c t r k) (blk9 m c t k j)

omit hr

/-- The second result array is the rotated new keys, -/
theorem final11 : (dats m 0 c).arrAt 11 cfg0.N = (shapeCast _ (newK (kv m c)) Cert.AttnRefIdeal.Gen.facts₀.shapeCasts_S16x32x4x64_S16x32x256 : FVec Ideal S16x32x256 .f32) := by
  refine (dats m 0 c).arrAt_eq_of_covers 11 _ (by decide +kernel) fun t hf y => ?_
  obtain ⟨b, r, j, rfl⟩ : ∃ (b : Fin 1) (r : Fin 32) (j : Fin 256), y = (ix3 b r j : S1x32x256.Idx) := ⟨y 0, y 1, y 2, eq_ix3 y⟩
  have h := (idx_facts t).2.2.2.2.2.2.2.2.2.2.2.1
  rw [show ((cfg0.win 11).blk t).view.emb (ix3 b r j : S1x32x256.Idx) = (ix3 (batch t) r j : S16x32x256.Idx) from
    idx3_ext (by blk_simp [h.1, batch]) (by blk_simp [h.2.1]) (by blk_simp [h.2.2])]
  blk_simp
  rw [after0_11, out_nk, k_eq m c t _ j ⟨j / 64, by omega⟩ ⟨j % 64, by omega⟩ (by dsimp only; omega)]
  refine Eq.trans ?_ (Cert.AttnRefIdeal.Hand.res_nk_at (kv m c) (batch t) r j).symm
  rw [keyAt, dif_neg (by dsimp only; omega)]
  simp only [Nat.add_sub_cancel_left]

/-- and the third the new values. -/
theorem final12 : (dats m 0 c).arrAt 12 cfg0.N = (shapeCast _ (newV (kv m c)) Cert.AttnRefIdeal.Gen.facts₀.shapeCasts_S16x32x4x64_S16x32x256 : FVec Ideal S16x32x256 .f32) := by
  refine (dats m 0 c).arrAt_eq_of_covers 12 _ (by decide +kernel) fun t hf y => ?_
  obtain ⟨b, r, j, rfl⟩ : ∃ (b : Fin 1) (r : Fin 32) (j : Fin 256), y = (ix3 b r j : S1x32x256.Idx) := ⟨y 0, y 1, y 2, eq_ix3 y⟩
  have h := (idx_facts t).2.2.2.2.2.2.2.2.2.2.2.2
  rw [show ((cfg0.win 12).blk t).view.emb (ix3 b r j : S1x32x256.Idx) = (ix3 (batch t) r j : S16x32x256.Idx) from
    idx3_ext (by blk_simp [h.1, batch]) (by blk_simp [h.2.1]) (by blk_simp [h.2.2])]
  blk_simp
  rw [after0_12, out_nv, v_eq m c t _ j ⟨j / 64, by omega⟩ ⟨j % 64, by omega⟩ (by dsimp only; omega)]
  refine Eq.trans ?_ (Cert.AttnRefIdeal.Hand.res_nv_at (kv m c) (batch t) r j).symm
  rw [valAt, dif_neg (by dsimp only; omega)]
  exact congrArg (kv m c) (ix2_congr (by dsimp only; omega) (by dsimp only; omega))

end Cert.AttnIdeal.Hand

namespace Cert.Proof

open Idealize.ShloMosaic Idealize.SL.Sem

/-- The side conditions of the printed precondition. -/
theorem finite_facts : Cert.Pre_finite.Facts where
  bcast_S_S512x1024 := by decide
  reducesTo_S512x1024_S_d0_1 := by decide
  h_S_ := by decide
  slices_S512x512_S512x256_0_0 := by decide
  bcast_S_S512x256 := by decide
  reducesTo_S512x256_S_d0_1 := by decide
  bcast_S_S16x128x256 := by decide
  reducesTo_S16x128x256_S_d0_1_2 := by decide
  bcast_S_S16 := by decide
  reducesTo_S16_S_d0 := by decide

instance : Cert.Pre_finite.Facts := finite_facts

/-- An element whose magnitude compares below infinity is a real number. -/
theorem isReal_of_cmp {x : EReal} (h : Ideal.cmp .olt (Max.max x (-x)) (Ideal.ofBits .f32 0x7F800000#32) = 1#1) : Cert.Soft.IsReal x := by
  have ht : Ideal.ofBits .f32 0x7F800000#32 = ⊤ := by simp [Ideal.ofBits, Ideal.ieee]
  rw [ht] at h
  refine Cert.Soft.IsReal.of_abs_lt ?_
  by_contra hn
  simp [Ideal.cmp, hn] at h

/-- The precondition, read: the queries, the keys, the cached keys and the sinks are real numbers. -/
theorem real_of_pre (m : (ℓ : Loc Cert.AttnIdeal.nD Cert.AttnIdeal.τ Cert.AttnIdeal.sig) → Buf (Elt Ideal) ℓ)
    (h : Cert.Pre_AttnIdeal_finite m) (c : Dev Cert.AttnIdeal.nD) : Cert.AttnIdeal.Hand.Real m c := by
  have h := congrFun (h c) (fun a => a.elim0)
  dsimp only [Cert.Pre_finite.fn, Cert.Pre_finite.fn_part1] at h
  obtain ⟨h, h5⟩ := IntOp.andi_eq_one.1 h
  obtain ⟨h, h3⟩ := IntOp.andi_eq_one.1 h
  obtain ⟨h0, h1⟩ := IntOp.andi_eq_one.1 h
  refine ⟨fun i => isReal_of_cmp (Host.reduce_andi_all _ _ _ _ _ h0 i), fun n l hl => ?_,
    fun i => isReal_of_cmp (Host.reduce_andi_all _ _ _ _ _ h3 i), fun i => isReal_of_cmp (Host.reduce_andi_all _ _ _ _ _ h5 i)⟩
  have h := Host.reduce_andi_all _ _ _ _ _ h1 (ix2 n ⟨l, hl⟩)
  refine isReal_of_cmp (x := Cert.AttnIdeal.Hand.kv m c (ix2 n l)) ?_
  refine Eq.trans ?_ h
  pointwise
  rfl

/-- The attention and its reference end with equal results, where the precondition holds. -/
theorem attn_algebraic : Cert.algebraic_AttnIdeal_AttnRefIdeal_pre_finite := by
  intro m g m' g' hp hag
  refine ⟨fun c => Cert.AttnRefIdeal.Hand.output (Cert.AttnIdeal.Hand.q m c) (Cert.AttnIdeal.Hand.kv m c) (Cert.AttnIdeal.Hand.gate m c)
      (Cert.AttnIdeal.Hand.ck m c) (Cert.AttnIdeal.Hand.cv m c) (Cert.AttnIdeal.Hand.sk m c) (Cert.AttnIdeal.Hand.wo m c),
    fun c => (shapeCast _ (Cert.AttnRefIdeal.Hand.newK (Cert.AttnIdeal.Hand.kv m c)) Cert.AttnRefIdeal.Gen.facts₀.shapeCasts_S16x32x4x64_S16x32x256 :
      FVec Ideal Cert.AttnRefIdeal.S16x32x256 .f32),
    fun c => (shapeCast _ (Cert.AttnRefIdeal.Hand.newV (Cert.AttnIdeal.Hand.kv m c)) Cert.AttnRefIdeal.Gen.facts₀.shapeCasts_S16x32x4x64_S16x32x256 :
      FVec Ideal Cert.AttnRefIdeal.S16x32x256 .f32),
    (θ_run _ _ _).mono (fun r h c => ?_) (θ_run_and (Cert.AttnIdeal.Gen.run_main m g) (Cert.AttnIdeal.Gen.unchanged m g)),
    (θ_run _ _ _).mono (fun r h c => ?_) (Cert.AttnRefIdeal.Value.run m' g')⟩
  · exact ⟨((h.1 c).1 10).trans (Cert.AttnIdeal.Hand.final10 m c (real_of_pre m hp c)), ((h.1 c).1 11).trans (Cert.AttnIdeal.Hand.final11 m c),
      ((h.1 c).1 12).trans (Cert.AttnIdeal.Hand.final12 m c), h.2 c⟩
  · obtain ⟨e0, e1, e2, e3, e4, e5, e6⟩ := hag c
    obtain ⟨h0, h1, h2, hargs⟩ := h c
    refine ⟨h0.trans ?_, h1.trans ?_, h2.trans ?_, hargs⟩
    · refine (Cert.AttnRefIdeal.Hand.res_o m' c).trans ?_
      rw [e0, e1, e2, e3, e4, e5, e6]
    · refine (Cert.AttnRefIdeal.Hand.res_nk m' c).trans ?_
      rw [e1]
    · rw [e1]; rfl

end Cert.Proof
-- ==== Proof.Inproj.Func.lean ====
/-
  The two activations of the input projection at exact values.
-/
module

public import Idealize.ShloMosaic.Lib.Pointwise

@[expose] public section

noncomputable section

namespace Cert.Func

open Idealize.ShloMosaic

/-- The logistic function. -/
def sigmoid (v : EReal) : EReal := Ideal.div 1 (1 + Ideal.exp (-v))

/-- The softplus. -/
def softplus (v : EReal) : EReal := max v 0 + Ideal.log1p (Ideal.exp (-max v (-v)))

/-- The integer zero as a float. -/
theorem sitofp_zero : (FloatOps.sitofp (F := Ideal) .f32 (0#32) : EReal) = 0 := by
  simp [FloatOps.sitofp]

end Cert.Func
-- ==== Proof.Ssd.Step.lean ====
/-
  One chunk of the state-space recurrence as plain formulas: the convolution over the rows before, the decays, the outputs and
  the state after the chunk.
-/
module

public import proofs.«01_k».proof.Proof.Inproj.Func

@[expose] public section

noncomputable section

namespace Cert.Step

open Idealize.ShloMosaic Cert.Func

/-- A channel's head, and its group of heads. -/
def head (c : Fin 2048) : Fin 32 := ⟨c.val / 64, by omega⟩
def group (c : Fin 2048) : Fin 4 := ⟨c.val / 512, by omega⟩

section Conv
variable (X : ℕ → Fin 3072 → EReal) (w : Fin 4 → Fin 3072 → EReal) (b : Fin 3072 → EReal)

/-- The convolution over four rows, and its silu. -/
def conv (i : ℕ) (l : Fin 3072) : EReal :=
  b l + X i l * w 0 l + X (i + 1) l * w 1 l + X (i + 2) l * w 2 l + X (i + 3) l * w 3 l
def act (i : ℕ) (l : Fin 3072) : EReal := conv X w b i l * sigmoid (conv X w b i l)

end Conv

section Scan
variable (A : ℕ → Fin 3072 → EReal) (D : ℕ → Fin 32 → EReal) (a : Fin 32 → EReal) (h : Fin 2048 → Fin 128 → EReal)

/-- The three parts of the channels: the inputs, and each group's two projections. -/
def xs (i : ℕ) (c : Fin 2048) : EReal := A i ⟨c.val, by omega⟩
def bm (i : ℕ) (g : Fin 4) (n : Fin 128) : EReal := A i ⟨2048 + (128 * g.val + n.val), by omega⟩
def cm (i : ℕ) (g : Fin 4) (n : Fin 128) : EReal := A i ⟨2560 + (128 * g.val + n.val), by omega⟩

/-- The running sum of step times rate. -/
def cum (i : ℕ) (k : Fin 32) : EReal := ∑ j ∈ Finset.range (i + 1), D j k * a k

/-- The decay from row `j` to row `i`, zero above the diagonal. -/
def decay (i j : ℕ) (k : Fin 32) : EReal := Ideal.exp (if j ≤ i then cum D a i k - cum D a j k else ⊥)

/-- The products of the two projections. -/
def cb (i j : ℕ) (g : Fin 4) : EReal := ∑ n : Fin 128, cm A i g n * bm A j g n

/-- A row's output over `Q` rows, and the state after them. -/
def out (Q i : ℕ) (c : Fin 2048) : EReal :=
  ∑ j : Fin Q, cb A i j (group c) * decay D a i j (head c) * (xs A j c * D j (head c))
    + (∑ n : Fin 128, cm A i (group c) n * h c n) * Ideal.exp (cum D a i (head c))
def state (Q : ℕ) (c : Fin 2048) (n : Fin 128) : EReal :=
  h c n * Ideal.exp (cum D a (Q - 1) (head c))
    + ∑ j : Fin Q, bm A j (group c) n * (xs A j c * D j (head c) * Ideal.exp (cum D a (Q - 1) (head c) - cum D a j (head c)))

end Scan

section Norm
variable (G : Fin 2048 → EReal)

/-- The reciprocal root of a group's mean square. -/
def scale (g : Fin 4) : EReal :=
  Ideal.rsqrt (Ideal.div (∑ e : Fin 512, G ⟨512 * g.val + e.val, by omega⟩ * G ⟨512 * g.val + e.val, by omega⟩) (Ideal.ofBits .f32 0x44000000#32)
    + Ideal.ofBits .f32 0x358637BD#32)

/-- The normed row times its weights, projected. -/
def project (nw : Fin 2048 → EReal) (wo : Fin 2048 → Fin 1024 → EReal) (o : Fin 1024) : EReal :=
  ∑ c : Fin 2048, G c * scale G (group c) * nw c * wo c o

end Norm

end Cert.Step
-- ==== Proof.Ssd.Stage.lean ====
/-
  What one grid point of the recurrence kernel leaves in its three outputs, by named stages of the point's input blocks.
-/
module

public import proofs.«01_k».proof.Proof.Gen.SsdIdeal
public import proofs.«01_k».proof.Proof.Gen.SsdIdeal.Frame
public import proofs.«01_k».proof.Proof.Ssd.Step
public import Idealize.ShloMosaic.Lib.Pipeline.ValueKit

@[expose] public section

set_option maxRecDepth 16384

noncomputable section

namespace Cert.SsdIdeal.Hand

open Cert.SsdIdeal Cert.SsdIdeal.Gen Idealize.ShloMosaic Idealize.ShloMosaic.TcCoe Idealize.SL.Sem

/-- A load of a scratch within the point reads what its stores left. -/
theorem readCov_ld {s : Shape} {e : EltTy} (v : View sig .tc .vmem s e) (L : List (View.Piece (Elt Ideal) s e)) (r : Rect s) :
    v.readCov L r.toLoadRect = View.ld (View.canon L) r := View.readCov_eq_canon' v L r.toLoadRect

/-- The rows behind the three before them. -/
def xpad (x0 : Vec Ideal S64x3072 .f32) (x3 : Vec Ideal S1x3x3072 .f32) : Vec Ideal S72x3072 .f32 :=
  View.canon [⟨Rect.unit ![8, 0] ![64, 3072] inb_S72x3072_S64x3072_8_0, k0_pay4 x0⟩,
    ⟨Rect.unit ![5, 0] ![3, 3072] inb_S72x3072_S3x3072_5_0, k0_pay2 x3⟩]

/-- The convolution, and the activated rows. -/
def convK (X : Vec Ideal S72x3072 .f32) (x5 : Vec Ideal S4x3072 .f32) (x6 : Vec Ideal S1x3072 .f32) : Vec Ideal S64x3072 .f32 :=
  k0_pay5 x6 (View.ld X (Rect.unit ![5, 0] ![64, 3072] inb_S72x3072_S64x3072_5_0)) (View.ld x5 (Rect.unit ![0, 0] ![1, 3072] inb_S4x3072_S1x3072_0_0))
    (View.ld X (Rect.unit ![6, 0] ![64, 3072] inb_S72x3072_S64x3072_6_0)) (View.ld x5 (Rect.unit ![1, 0] ![1, 3072] inb_S4x3072_S1x3072_1_0))
    (View.ld X (Rect.unit ![7, 0] ![64, 3072] inb_S72x3072_S64x3072_7_0)) (View.ld x5 (Rect.unit ![2, 0] ![1, 3072] inb_S4x3072_S1x3072_2_0))
    (View.ld X (Rect.unit ![8, 0] ![64, 3072] inb_S72x3072_S64x3072_8_0)) (View.ld x5 (Rect.unit ![3, 0] ![1, 3072] inb_S4x3072_S1x3072_3_0))
def actK (v : Vec Ideal S64x3072 .f32) : Vec Ideal S64x3072 .f32 :=
  View.canon [⟨Rect.unit ![0, 0] ![64, 3072] inb_S64x3072_S64x3072_0_0, k0_pay6 v (FloatOps.ofBits (F := Ideal) .f32 0x00000000#32)⟩]

/-- The three parts of the channels. -/
def xsK (A : Vec Ideal S64x3072 .f32) : Vec Ideal S64x2048 .f32 := View.ld A (Rect.unit k0_off1 ![64, 2048] k0_off1_inb)
def bK (A : Vec Ideal S64x3072 .f32) : FVec Ideal S64x512 .bf16 := k0_pay22 (View.ld A (Rect.unit k0_off2 ![64, 512] k0_off2_inb))
def cK (A : Vec Ideal S64x3072 .f32) : FVec Ideal S64x512 .bf16 := k0_pay23 (View.ld A (Rect.unit k0_off3 ![64, 512] k0_off3_inb))

/-- The lanes below 32; rows and lanes by block. -/
def lanes : IVec S64x128 1 := k0_pay26 (iota Kind.tc S64x128 32 [1] iota_S64x128_d1_w32)
def idx : IVec S64x2048 32 := iota Kind.tc S64x2048 32 [0] iota_S64x2048_d0_w32
def jdx : IVec S64x2048 32 := k0_pay13 k0_pay10 k0_pay11 k0_pay12
def blk : IVec S256x256 32 := k0_pay19 k0_pay15 k0_pay16 k0_pay17 k0_pay18

/-- The running sums by lane and by channel, their exponentials, and the inputs times the steps. -/
def sumK (x2 : Vec Ideal S64x128 .f32) (x7 : Vec Ideal S1x128 .f32) : FVec Ideal S64x128 .f32 := k0_pay25 k0_pay9 x7 x2
def cumK (s : FVec Ideal S64x128 .f32) (x8 : Vec Ideal S128x2048 .bf16) : FVec Ideal S64x2048 .f32 := k0_pay27 s lanes 96#32 x8
def expK (s : FVec Ideal S64x128 .f32) (x8 : Vec Ideal S128x2048 .bf16) : FVec Ideal S64x2048 .f32 := k0_pay28 s lanes 96#32 x8
def xdtK (X : Vec Ideal S64x2048 .f32) (x2 : Vec Ideal S64x128 .f32) (x8 : Vec Ideal S128x2048 .bf16) : FVec Ideal S64x2048 .f32 :=
  k0_pay29 X (k0_pay24 x2) x8
def xwK (X : Vec Ideal S64x2048 .f32) (x2 : Vec Ideal S64x128 .f32) (s : FVec Ideal S64x128 .f32) (x8 : Vec Ideal S128x2048 .bf16) :
    FVec Ideal S64x2048 .bf16 := k0_pay30 X (k0_pay24 x2) s lanes 96#32 x8 x8
def decK (cum : FVec Ideal S64x2048 .f32) : FVec Ideal S64x2048 .f32 :=
  k0_pay32 idx jdx cum (k0_pay31 idx jdx) (FloatOps.ofBits (F := Ideal) .f32 0x00000000#32)

/-- A group's columns of the state. -/
def cols0 (H : Vec Ideal S128x2048 .f32) : Vec Ideal S128x512 .f32 := View.ld H (Rect.unit ![0, 0] ![128, 512] inb_S128x2048_S128x512_0_0)
def cols1 (H : Vec Ideal S128x2048 .f32) : Vec Ideal S128x512 .f32 := View.ld H (Rect.unit ![0, 512] ![128, 512] inb_S128x2048_S128x512_0_512)
def cols2 (H : Vec Ideal S128x2048 .f32) : Vec Ideal S128x512 .f32 := View.ld H (Rect.unit ![0, 1024] ![128, 512] inb_S128x2048_S128x512_0_1024)
def cols3 (H : Vec Ideal S128x2048 .f32) : Vec Ideal S128x512 .f32 := View.ld H (Rect.unit ![0, 1536] ![128, 512] inb_S128x2048_S128x512_0_1536)

section Scan
variable (x4 : Vec Ideal S1x2048x128 .f32) (B C : FVec Ideal S64x512 .bf16) (cum ec xdt : FVec Ideal S64x2048 .f32) (xw : FVec Ideal S64x2048 .bf16)

/-- The state's stores, one group after another. -/
def hts0 : List (View.Piece (Elt Ideal) S128x2048 .f32) := [⟨Rect.unit ![0, 0] ![128, 2048] inb_S128x2048_S128x2048_0_0, k0_pay3 x4⟩]
def hts1 : List (View.Piece (Elt Ideal) S128x2048 .f32) :=
  ⟨Rect.unit ![0, 0] ![128, 512] inb_S128x2048_S128x512_0_0, k0_pay41 xw (k0_pay39 ec (cols0 (View.canon (hts0 x4)))) (k0_pay40 B)⟩ :: hts0 x4
def hts2 : List (View.Piece (Elt Ideal) S128x2048 .f32) :=
  ⟨Rect.unit ![0, 512] ![128, 512] inb_S128x2048_S128x512_0_512,
    k0_pay51 (k0_pay48 ec (cols1 (View.canon (hts1 x4 B ec xw)))) (k0_pay49 B) (k0_pay50 xw) (constant S128x512 .f32 0x00000000#32)⟩ :: hts1 x4 B ec xw
def hts3 : List (View.Piece (Elt Ideal) S128x2048 .f32) :=
  ⟨Rect.unit ![0, 1024] ![128, 512] inb_S128x2048_S128x512_0_1024, k0_pay59 (k0_pay58 B ec xw (cols2 (View.canon (hts2 x4 B ec xw))))⟩ :: hts2 x4 B ec xw
def hts4 : List (View.Piece (Elt Ideal) S128x2048 .f32) :=
  ⟨Rect.unit ![0, 1536] ![128, 512] inb_S128x2048_S128x512_0_1536, k0_pay67 (k0_pay66 B ec xw (cols3 (View.canon (hts3 x4 B ec xw))))⟩ :: hts3 x4 B ec xw

/-- The gated outputs. -/
def gatedK (X : Vec Ideal S64x2048 .f32) (x9 : Vec Ideal S1x2048 .f32) (x1 : Vec Ideal S64x2048 .f32) : FVec Ideal S64x2048 .f32 :=
  k0_pay68 (k0_pay20 x9) X
    (k0_pay37 idx jdx k0_pay14 blk B C cum ec xdt (k0_pay31 idx jdx) (FloatOps.ofBits (F := Ideal) .f32 0x00000000#32) (cols0 (View.canon (hts0 x4))))
    (k0_pay38 idx jdx k0_pay14 blk B C cum ec xdt (k0_pay31 idx jdx) (FloatOps.ofBits (F := Ideal) .f32 0x00000000#32) (cols0 (View.canon (hts0 x4))))
    (k0_pay46 k0_pay14 blk B C ec xdt (decK cum) (cols1 (View.canon (hts1 x4 B ec xw))))
    (k0_pay47 k0_pay14 blk B C ec xdt (decK cum) (cols1 (View.canon (hts1 x4 B ec xw))))
    (k0_pay56 k0_pay14 blk B C ec xdt (decK cum) (cols2 (View.canon (hts2 x4 B ec xw))))
    (k0_pay57 k0_pay14 blk B C ec xdt (decK cum) (cols2 (View.canon (hts2 x4 B ec xw))))
    (k0_pay64 k0_pay14 blk B C ec xdt (decK cum) (cols3 (View.canon (hts3 x4 B ec xw))))
    (k0_pay65 k0_pay14 blk B C ec xdt (decK cum) (cols3 (View.canon (hts3 x4 B ec xw)))) x1

/-- The normed rows. -/
def normK (X : Vec Ideal S64x2048 .f32) (x9 : Vec Ideal S1x2048 .f32) (x1 : Vec Ideal S64x2048 .f32) (x10 : Vec Ideal S1x2048 .f32) : Vec Ideal S64x2048 .bf16 :=
  View.canon [⟨Rect.unit k0_off9 ![64, 512] k0_off9_inb, k0_pay72 (k0_pay21 x10) (gatedK x4 B C cum ec xdt xw X x9 x1)⟩,
    ⟨Rect.unit k0_off8 ![64, 512] k0_off8_inb, k0_pay71 (k0_pay21 x10) (gatedK x4 B C cum ec xdt xw X x9 x1)⟩,
    ⟨Rect.unit k0_off7 ![64, 512] k0_off7_inb, k0_pay70 (k0_pay20 x9) (k0_pay21 x10) X
    (k0_pay37 idx jdx k0_pay14 blk B C cum ec xdt (k0_pay31 idx jdx) (FloatOps.ofBits (F := Ideal) .f32 0x00000000#32) (cols0 (View.canon (hts0 x4))))
    (k0_pay38 idx jdx k0_pay14 blk B C cum ec xdt (k0_pay31 idx jdx) (FloatOps.ofBits (F := Ideal) .f32 0x00000000#32) (cols0 (View.canon (hts0 x4))))
    (k0_pay46 k0_pay14 blk B C ec xdt (decK cum) (cols1 (View.canon (hts1 x4 B ec xw))))
    (k0_pay47 k0_pay14 blk B C ec xdt (decK cum) (cols1 (View.canon (hts1 x4 B ec xw))))
    (k0_pay56 k0_pay14 blk B C ec xdt (decK cum) (cols2 (View.canon (hts2 x4 B ec xw))))
    (k0_pay57 k0_pay14 blk B C ec xdt (decK cum) (cols2 (View.canon (hts2 x4 B ec xw))))
    (k0_pay64 k0_pay14 blk B C ec xdt (decK cum) (cols3 (View.canon (hts3 x4 B ec xw))))
    (k0_pay65 k0_pay14 blk B C ec xdt (decK cum) (cols3 (View.canon (hts3 x4 B ec xw)))) x1⟩,
    ⟨Rect.unit k0_off6 ![64, 512] k0_off6_inb, k0_pay69 (k0_pay20 x9) (k0_pay21 x10) X
    (k0_pay37 idx jdx k0_pay14 blk B C cum ec xdt (k0_pay31 idx jdx) (FloatOps.ofBits (F := Ideal) .f32 0x00000000#32) (cols0 (View.canon (hts0 x4))))
    (k0_pay38 idx jdx k0_pay14 blk B C cum ec xdt (k0_pay31 idx jdx) (FloatOps.ofBits (F := Ideal) .f32 0x00000000#32) (cols0 (View.canon (hts0 x4))))
    (k0_pay46 k0_pay14 blk B C ec xdt (decK cum) (cols1 (View.canon (hts1 x4 B ec xw))))
    (k0_pay47 k0_pay14 blk B C ec xdt (decK cum) (cols1 (View.canon (hts1 x4 B ec xw))))
    (k0_pay56 k0_pay14 blk B C ec xdt (decK cum) (cols2 (View.canon (hts2 x4 B ec xw))))
    (k0_pay57 k0_pay14 blk B C ec xdt (decK cum) (cols2 (View.canon (hts2 x4 B ec xw))))
    (k0_pay64 k0_pay14 blk B C ec xdt (decK cum) (cols3 (View.canon (hts3 x4 B ec xw))))
    (k0_pay65 k0_pay14 blk B C ec xdt (decK cum) (cols3 (View.canon (hts3 x4 B ec xw)))) x1⟩]

end Scan

variable (m : (ℓ : Loc nD τ sig) → Buf (Elt Ideal) ℓ) (c : Dev nD) (t : Fin cfg0.N)

/-- The activated rows of a point's blocks. -/
def actP : Vec Ideal S64x3072 .f32 := actK (convK (xpad (iblk m c 0 t) (iblk m c 3 t)) (iblk m c 5 t) (iblk m c 6 t))
def sumP : FVec Ideal S64x128 .f32 := sumK (iblk m c 2 t) (iblk m c 7 t)

/-- The kept rows of the convolution. -/
theorem conv_eq : (outsAt0 m c t).2.1
    = k0_pay7 (View.ld (xpad (iblk m c 0 t) (iblk m c 3 t)) (Rect.unit ![37, 0] ![3, 3072] inb_S72x3072_S3x3072_37_0)) := by
  unfold outsAt0; frame_out
  simp only [readCov_ld, xpad]

/-- The new state. -/
theorem state_eq : (outsAt0 m c t).2.2
    = k0_pay1 (View.canon (hts4 (iblk m c 4 t) (bK (actP m c t)) (expK (sumP m c t) (iblk m c 8 t))
        (xwK (xsK (actP m c t)) (iblk m c 2 t) (sumP m c t) (iblk m c 8 t)))) := by
  unfold outsAt0; frame_out
  simp only [readCov_ld]
  simp only [← xpad.eq_1, ← convK.eq_1]
  simp only [← actK.eq_1]
  simp only [← actP.eq_1]
  simp only [← xsK.eq_1, ← bK.eq_1, ← cK.eq_1, ← lanes.eq_1, ← idx.eq_1, ← jdx.eq_1, ← blk.eq_1, ← sumK.eq_1]
  simp only [← sumP.eq_1, ← cumK.eq_1, ← expK.eq_1, ← xdtK.eq_1, ← xwK.eq_1]
  simp only [← decK.eq_1, ← hts0.eq_1, ← cols0.eq_1]
  simp only [← hts1.eq_1, ← cols1.eq_1]
  simp only [← hts2.eq_1, ← cols2.eq_1]
  simp only [← hts3.eq_1, ← cols3.eq_1]
  rw [View.ld_unit_lit _ _ (by decide)]
  rfl
/-- The output rows. -/
theorem out_eq : (outsAt0 m c t).1
    = k0_pay73 (normK (iblk m c 4 t) (bK (actP m c t)) (cK (actP m c t)) (cumK (sumP m c t) (iblk m c 8 t)) (expK (sumP m c t) (iblk m c 8 t))
        (xdtK (xsK (actP m c t)) (iblk m c 2 t) (iblk m c 8 t)) (xwK (xsK (actP m c t)) (iblk m c 2 t) (sumP m c t) (iblk m c 8 t))
        (xsK (actP m c t)) (iblk m c 9 t) (iblk m c 1 t) (iblk m c 10 t)) (iblk m c 11 t) := by
  unfold outsAt0; frame_out
  simp only [readCov_ld]
  simp only [← xpad.eq_1, ← convK.eq_1]
  simp only [← actK.eq_1]
  simp only [← actP.eq_1]
  simp only [← xsK.eq_1, ← bK.eq_1, ← cK.eq_1, ← lanes.eq_1, ← idx.eq_1, ← jdx.eq_1, ← blk.eq_1, ← sumK.eq_1]
  simp only [← sumP.eq_1, ← cumK.eq_1, ← expK.eq_1, ← xdtK.eq_1, ← xwK.eq_1]
  simp only [← decK.eq_1, ← hts0.eq_1, ← cols0.eq_1]
  simp only [← hts1.eq_1, ← cols1.eq_1]
  simp only [← hts2.eq_1, ← cols2.eq_1]
  simp only [← hts3.eq_1, ← cols3.eq_1]
  rw [View.ld_unit_lit _ _ (by decide)]
  rfl
end Cert.SsdIdeal.Hand
-- ==== Proof.Ssd.Point.lean ====
/-
  The recurrence kernel's stages entry by entry.
-/
module

public import proofs.«01_k».proof.Proof.Ssd.Stage

@[expose] public section

set_option maxRecDepth 16384

noncomputable section

namespace Cert.SsdIdeal.Hand

open Cert.SsdIdeal Cert.SsdIdeal.Gen Idealize.ShloMosaic Idealize.ShloMosaic.TcCoe Idealize.SL.Sem

/-! The integer tables. -/

theorem rowBlk_at (l q : Fin 256) : k0_pay14 (ix2 l q) = BitVec.ofNat 32 (l.val / 64) := by
  unfold_payloads
  pointwise
  revert l
  decide +kernel

theorem blk_at (l q : Fin 256) : blk (ix2 l q) = BitVec.ofNat 32 (q.val / 64) := by
  unfold blk
  unfold_payloads
  pointwise
  revert q
  decide +kernel

theorem jdx_at (i : Fin 64) (c : Fin 2048) : jdx (ix2 i c) = BitVec.ofNat 32 (c.val % 64) := by
  unfold jdx
  unfold_payloads
  pointwise
  revert c
  decide +kernel

theorem idx_at (i : Fin 64) (c : Fin 2048) : idx (ix2 i c) = BitVec.ofNat 32 i.val := by
  pointwise [idx]

theorem lanes_at (i : Fin 64) (k : Fin 128) : lanes (ix2 i k) = if k.val < 32 then 1#1 else 0#1 := by
  unfold lanes
  unfold_payloads
  pointwise
  revert k
  decide +kernel

theorem sge_at : ∀ i j : Fin 64, IntOp.cmpi .sge (BitVec.ofNat 32 i.val) (BitVec.ofNat 32 j.val) = if j.val ≤ i.val then 1#1 else 0#1 := by
  decide +kernel
theorem eq_at : ∀ i j : Fin 64, IntOp.cmpi .eq (BitVec.ofNat 32 i.val) (BitVec.ofNat 32 j.val) = if i.val = j.val then 1#1 else 0#1 := by
  decide +kernel
theorem eq_at4 : ∀ i j : Fin 4, IntOp.cmpi .eq (BitVec.ofNat 32 i.val) (BitVec.ofNat 32 j.val) = if i.val = j.val then 1#1 else 0#1 := by
  decide +kernel

theorem select_if {α : Type} (p : Prop) [Decidable p] (x y : α) : Scalar.select (if p then 1#1 else 0#1) x y = if p then x else y := by
  split_ifs <;> rfl

theorem bits_zero : Ideal.ofBits .f32 0x00000000#32 = 0 := by simp [Ideal.ofBits, Ideal.ieee]
theorem bits_one : Ideal.ofBits .f32 0x3F800000#32 = 1 := by
  simp [Ideal.ofBits, Ideal.ieee, -EReal.coe_mul]
  norm_num
theorem bits_bot : Ideal.ofBits .f32 0xFF800000#32 = ⊥ := by simp [Ideal.ofBits, Ideal.ieee]

theorem tri_at (i j : Fin 64) : k0_pay9 (F := Ideal) (ix2 i j) = if j.val ≤ i.val then 1 else 0 := by
  unfold_payloads
  pointwise
  rw [sge_at]
  split_ifs <;> simp [FloatOps.sitofp]

/-- The decay's entry: a channel's column less its row of the block, cut above the diagonal. -/
theorem decK_at (cum : FVec Ideal S64x2048 .f32) (i : Fin 64) (c : Fin 2048) :
    decK cum (ix2 i c) = Ideal.exp (if c.val % 64 ≤ i.val then cum (ix2 i c) - cum (ix2 ⟨c.val % 64, by omega⟩ c) else ⊥) := by
  unfold decK
  unfold_payloads
  pointwise [idx_at, jdx_at]
  rw [sge_at i ⟨c.val % 64, by omega⟩, select_if, bits_bot]
  refine congrArg Ideal.exp ?_
  dsimp only
  refine if_congr Iff.rfl (congrArg (cum (ix2 i c) - ·) ?_) rfl
  refine (Finset.sum_eq_single (⟨c.val % 64, by omega⟩ : Fin 64) (fun x _ hx => ?_) (fun hx => absurd (Finset.mem_univ _) hx)).trans ?_
  · rw [eq_at x ⟨c.val % 64, by omega⟩, select_if]
    exact if_neg fun e => hx (Fin.ext e)
  · rw [eq_at ⟨c.val % 64, by omega⟩ ⟨c.val % 64, by omega⟩, select_if]
    exact if_pos rfl

/-- A sum of the three parts of a real row, zero behind its 32 entries, against the table of a channel's head. -/
theorem spread_sum (f : Fin 128 → ℝ) (e : Fin 128 → EReal) (h : Fin 32) (hf : ∀ k : Fin 128, 32 ≤ k.val → f k = 0)
    (he : ∀ k : Fin 128, e k = if k.val < 96 ∧ k.val % 32 = h.val then 1 else 0) :
    ∑ x : Fin 128, (((f x : ℝ) : EReal) + ((f ⟨(x.val + 128 - 32) % 128, by omega⟩ : ℝ) - (f ⟨(x.val + 128 - 32) % 128, by omega⟩ : ℝ))
      + ((f ⟨(x.val + 128 - 64) % 128, by omega⟩ : ℝ) - (f ⟨(x.val + 128 - 64) % 128, by omega⟩ : ℝ)
        - ((f ⟨(x.val + 128 - 64) % 128, by omega⟩ : ℝ) - (f ⟨(x.val + 128 - 64) % 128, by omega⟩ : ℝ)))) * e x = (f ⟨h, by omega⟩ : ℝ) := by
  simp only [← EReal.coe_sub, sub_self, EReal.coe_zero, sub_zero, add_zero]
  refine (Finset.sum_eq_single (⟨h.val, by omega⟩ : Fin 128) (fun x _ hx => ?_) (fun hx => absurd (Finset.mem_univ _) hx)).trans ?_
  · by_cases h32 : 32 ≤ x.val
    · rw [hf x h32, EReal.coe_zero, zero_mul]
    · rw [he, if_neg fun e => hx (Fin.ext (by show x.val = h.val; omega)), mul_zero]
  · rw [he, if_pos ⟨by show h.val < 96; omega, Nat.mod_eq_of_lt h.isLt⟩, mul_one]

/-- The table of heads. -/
def Table (e : Vec Ideal S128x2048 .bf16) : Prop :=
  ∀ (k : Fin 128) (c : Fin 2048), e (ix2 k c) = if k.val < 96 ∧ k.val % 32 = (Step.head c).val then 1 else 0

theorem xdt_at (X : Vec Ideal S64x2048 .f32) (v : FVec Ideal S64x128 .f32) (e : Vec Ideal S128x2048 .bf16) (he : Table e)
    (i : Fin 64) (c : Fin 2048) (f : Fin 32 → ℝ)
    (hf : ∀ k : Fin 128, v (ix2 i k) = if h : k.val < 32 then ((f ⟨k, h⟩ : ℝ) : EReal) else 0) :
    k0_pay29 X v e (ix2 i c) = X (ix2 i c) * (f (Step.head c) : ℝ) := by
  unfold_payloads
  pointwise
  refine congrArg (X (ix2 i c) * ·) ?_
  have hv : ∀ k : Fin 128, v (ix2 i k) = (((if h : k.val < 32 then f ⟨k, h⟩ else 0 : ℝ)) : EReal) := fun k => by
    rw [hf]
    split_ifs <;> rfl
  simp only [hv]
  refine (spread_sum (fun k => if h : k.val < 32 then f ⟨k, h⟩ else 0) (fun k => e (ix2 k c)) (Step.head c)
    (fun k hk => dif_neg (by omega)) (fun k => he k c)).trans ?_
  exact congrArg _ (dif_pos (Step.head c).isLt)

/-- The running sums by lane, the lanes behind 32 cleared. -/
def maskK (s : FVec Ideal S64x128 .f32) : FVec Ideal S64x128 .f32 :=
  select lanes (addf (addf s (dynamicRotate 1 96#32 none s rotates_S64x128_d1)) (dynamicRotate 1 64#32 none s rotates_S64x128_d1))
    (broadcast S64x128 (Scalar.ofBits (F := Ideal) .f32 0x00000000#32))

theorem mask_at (s : FVec Ideal S64x128 .f32) (i : Fin 64) (f : Fin 32 → ℝ)
    (hf : ∀ k : Fin 128, s (ix2 i k) = if h : k.val < 32 then ((f ⟨k, h⟩ : ℝ) : EReal) else 0) (k : Fin 128) :
    maskK s (ix2 i k) = if h : k.val < 32 then ((f ⟨k, h⟩ : ℝ) : EReal) else 0 := by
  pointwise [maskK, lanes_at]
  simp only [hf]
  by_cases h : k.val < 32
  · rw [dif_pos h, dif_neg (by omega), dif_neg (by omega), if_pos h, add_zero, add_zero]
    rfl
  · rw [if_neg h, dif_neg h]
    rfl

theorem cum_spread (X : Vec Ideal S64x2048 .f32) (s : FVec Ideal S64x128 .f32) (e : Vec Ideal S128x2048 .bf16) (y : S64x2048.Idx) :
    k0_pay29 X (maskK s) e y = X y * cumK s e y := rfl

theorem cumK_at (s : FVec Ideal S64x128 .f32) (e : Vec Ideal S128x2048 .bf16) (he : Table e)
    (i : Fin 64) (c : Fin 2048) (f : Fin 32 → ℝ)
    (hf : ∀ k : Fin 128, s (ix2 i k) = if h : k.val < 32 then ((f ⟨k, h⟩ : ℝ) : EReal) else 0) :
    cumK s e (ix2 i c) = (f (Step.head c) : ℝ) := by
  have key := (cum_spread (fun _ => (1 : EReal)) s e (ix2 i c)).symm.trans (xdt_at _ _ e he i c f (mask_at s i f hf))
  rwa [one_mul, one_mul] at key

theorem expK_at (s : FVec Ideal S64x128 .f32) (e : Vec Ideal S128x2048 .bf16) (y : S64x2048.Idx) : expK s e y = Ideal.exp (cumK s e y) := rfl

theorem xwK_at (X : Vec Ideal S64x2048 .f32) (x2 : Vec Ideal S64x128 .f32) (s : FVec Ideal S64x128 .f32) (e : Vec Ideal S128x2048 .bf16)
    (i : Fin 64) (c : Fin 2048) :
    xwK X x2 s e (ix2 i c) = xdtK X x2 e (ix2 i c) * Ideal.exp (cumK s e (ix2 63 c) - cumK s e (ix2 i c)) := by
  unfold xwK xdtK cumK k0_pay30
  pointwise

/-- The running sums by lane. -/
theorem sumK_at (x2 : Vec Ideal S64x128 .f32) (x7 : Vec Ideal S1x128 .f32) (D : ℕ → Fin 32 → ℝ) (a : Fin 32 → ℝ)
    (hD : ∀ (i : Fin 64) (k : Fin 128), x2 (ix2 i k) = if h : k.val < 32 then ((D i ⟨k, h⟩ : ℝ) : EReal) else 0)
    (ha : ∀ k : Fin 32, x7 (ix2 0 ⟨k, by omega⟩) = (a k : ℝ)) (hz : ∀ k : Fin 128, 32 ≤ k.val → x7 (ix2 0 k) = 0) (i : Fin 64) (k : Fin 128) :
    sumK x2 x7 (ix2 i k) = if h : k.val < 32 then ((∑ j ∈ Finset.range (i.val + 1), D j ⟨k, h⟩ * a ⟨k, h⟩ : ℝ) : EReal) else 0 := by
  unfold sumK
  generalize hT : k0_pay9 (F := Ideal) = T
  unfold_payloads
  pointwise
  have hu : ∀ (j : Fin 64) (k : Fin 128), x2 (ix2 j k) * x7 (ix2 0 k)
      = ((if h : k.val < 32 then D j ⟨k, h⟩ * a ⟨k, h⟩ else 0 : ℝ) : EReal) := fun j k => by
    rw [hD]
    split_ifs with h
    · rw [ha ⟨k, h⟩, EReal.coe_mul]
    · rw [zero_mul]; rfl
  simp only [hu, ← EReal.coe_sub, sub_self, EReal.coe_zero, sub_zero, add_zero]
  subst hT
  simp only [tri_at]
  have e : (if h : k.val < 32 then ((∑ j ∈ Finset.range (i.val + 1), D j ⟨k, h⟩ * a ⟨k, h⟩ : ℝ) : EReal) else 0)
      = ∑ j ∈ Finset.range (i.val + 1), ((if h : k.val < 32 then D j ⟨k, h⟩ * a ⟨k, h⟩ else 0 : ℝ) : EReal) := by
    split_ifs with h
    · exact map_sum (⟨⟨fun r : ℝ => (r : EReal), rfl⟩, EReal.coe_add⟩ : ℝ →+ EReal) _ _
    · exact (Finset.sum_eq_zero fun _ _ => rfl).symm
  rw [e]
  refine (Fin.sum_univ_eq_sum_range (fun j : ℕ => (if j ≤ i.val then (1 : EReal) else 0)
    * ((if h : k.val < 32 then D j ⟨k, h⟩ * a ⟨k, h⟩ else 0 : ℝ) : EReal)) 64).trans ?_
  refine (Finset.sum_subset (Finset.range_mono (show i.val + 1 ≤ 64 by omega)) fun j _ hj => ?_).symm.trans
    (Finset.sum_congr rfl fun j hj => ?_)
  · rw [if_neg fun h => hj (Finset.mem_range.2 (by omega)), zero_mul]
  · rw [if_pos (by have := Finset.mem_range.1 hj; omega), one_mul]

end Cert.SsdIdeal.Hand
-- ==== Proof.Ssd.Quads.lean ====
/-
  The recurrence kernel's outputs and states by channel, gathered from its quarters.
-/
module

public import proofs.«01_k».proof.Proof.Ssd.Point

@[expose] public section

set_option maxRecDepth 16384

noncomputable section

namespace Cert.SsdIdeal.Hand

open Cert.SsdIdeal Cert.SsdIdeal.Gen Idealize.ShloMosaic Idealize.ShloMosaic.TcCoe Idealize.SL.Sem

variable (B C : FVec Ideal S64x512 .bf16) (cum dec ec xdt : FVec Ideal S64x2048 .f32) (xw : FVec Ideal S64x2048 .bf16)

/-- A channel's place in its group. -/
def place (c : Fin 2048) : Fin 512 := ⟨c.val % 512, by omega⟩

/-- A channel's output at row `i`, its column of the state before given. -/
def chan (H : Fin 128 → EReal) (i : Fin 64) (c : Fin 2048) : EReal :=
  ∑ j : Fin 64, (∑ n : Fin 128, C (ix2 i ⟨128 * (c.val / 512) + n.val, by omega⟩) * B (ix2 j ⟨128 * (c.val / 512) + n.val, by omega⟩))
      * dec (ix2 i ⟨64 * (c.val / 64) + j.val, by omega⟩) * xdt (ix2 j c)
    + (∑ n : Fin 128, C (ix2 i ⟨128 * (c.val / 512) + n.val, by omega⟩) * H n) * ec (ix2 i c)

/-- Four copies of 64 rows, one behind another. -/
theorem copies {α : Type} (f : Fin 64 → α) (x : Fin 256) :
    (if h : x.val < 64 then f ⟨x.val, h⟩ else if h : x.val - 64 < 64 then f ⟨x.val - 64, h⟩
      else if h : x.val - 64 - 64 < 64 then f ⟨x.val - 64 - 64, h⟩ else f ⟨x.val - 64 - 64 - 64, by omega⟩) = f ⟨x.val % 64, by omega⟩ := by
  split_ifs <;> exact congrArg f (Fin.ext (by dsimp only; omega))

/-- A row and a column of one copy. -/
theorem sameBlk (q : Fin 256) (x : Fin 256) : IntOp.cmpi .eq (k0_pay14 (ix2 x q)) (blk (ix2 x q)) = if x.val / 64 = q.val / 64 then 1#1 else 0#1 := by
  rw [rowBlk_at, blk_at, eq_at4 ⟨x.val / 64, by omega⟩ ⟨q.val / 64, by omega⟩]

/-- A sum over four copies of 64 rows, cut to the copy of `q`. -/
theorem copy_sum (F : Fin 256 → EReal) (q : Fin 256) (P Q : IVec S256x256 32)
    (hPQ : ∀ x : Fin 256, IntOp.cmpi .eq (P (ix2 x q)) (Q (ix2 x q)) = if x.val / 64 = q.val / 64 then 1#1 else 0#1) :
    ∑ x : Fin 256, Scalar.select (IntOp.cmpi .eq (P (ix2 x q)) (Q (ix2 x q))) (F x) 0
      = ∑ j : Fin 64, F ⟨64 * (q.val / 64) + j.val, by omega⟩ := by
  simp only [hPQ, select_if]
  refine (Finset.sum_of_injOn (fun j : Fin 64 => (⟨64 * (q.val / 64) + j.val, by omega⟩ : Fin 256)) (fun a _ b _ e => ?_)
    (fun _ _ => Finset.mem_coe.2 (Finset.mem_univ _)) (fun x _ hx => ?_) fun j _ => ?_).symm
  · exact Fin.ext (by have := congrArg Fin.val e; dsimp only at this; omega)
  · exact if_neg fun e => hx ⟨⟨x.val % 64, by omega⟩, Finset.mem_coe.2 (Finset.mem_univ _), Fin.ext (by dsimp only; omega)⟩
  · exact (if_pos (by dsimp only; omega)).symm

theorem copies_B (v : FVec Ideal S64x128 .bf16) (x : Fin 256) (n : Fin 128) :
    concatenate S256x128 0 [⟨S64x128, v⟩, ⟨S64x128, v⟩, ⟨S64x128, v⟩, ⟨S64x128, v⟩] concatenates_S64x128_S64x128_S64x128_S64x128_S256x128_d0 (ix2 x n)
      = v (ix2 ⟨x.val % 64, by omega⟩ n) := by
  pointwise
  exact copies (fun j => v (ix2 j n)) x

theorem copies_x (v : FVec Ideal S64x256 .f32) (x : Fin 256) (n : Fin 256) :
    concatenate S256x256 0 [⟨S64x256, v⟩, ⟨S64x256, v⟩, ⟨S64x256, v⟩, ⟨S64x256, v⟩] concatenates_S64x256_S64x256_S64x256_S64x256_S256x256_d0 (ix2 x n)
      = v (ix2 ⟨x.val % 64, by omega⟩ n) := by
  pointwise
  exact copies (fun j => v (ix2 j n)) x

/-- A channel's output from its indices. -/
theorem chan_of (H : Vec Ideal S128x512 .f32) (i : Fin 64) (c : Fin 2048) (bn : Fin 128 → Fin 512) (jn : Fin 64 → Fin 64) (dn : Fin 64 → Fin 2048) (xc xe : Fin 2048)
    (hc : Fin 512) (hb : ∀ n, (bn n).val = 128 * (c.val / 512) + n.val) (hj : ∀ j, (jn j).val = j.val) (hd : ∀ j, (dn j).val = 64 * (c.val / 64) + j.val)
    (hx : xc.val = c.val) (he : xe.val = c.val) (hh : hc.val = c.val % 512) :
    ∑ j : Fin 64, (∑ n : Fin 128, (C (ix2 i (bn n)) : EReal) * B (ix2 (jn j) (bn n))) * dec (ix2 i (dn j)) * xdt (ix2 (jn j) xc)
      + (∑ n : Fin 128, (C (ix2 i (bn n)) : EReal) * H (ix2 n hc)) * ec (ix2 i xe)
    = chan B C dec ec xdt (fun n => H (ix2 n (place c))) i c := by
  refine congrArg₂ (· + ·) (Finset.sum_congr (M := EReal) rfl fun j _ => ?_) ?_
  · rw [show xc = c from Fin.ext hx, show jn j = j from Fin.ext (hj j), show dn j = ⟨64 * (c.val / 64) + j.val, by omega⟩ from Fin.ext (hd j)]
    refine congrArg (· * dec _ * xdt _) (Finset.sum_congr (M := EReal) rfl fun n _ => ?_)
    rw [show bn n = ⟨128 * (c.val / 512) + n.val, by omega⟩ from Fin.ext (hb n)]
  · rw [show xe = c from Fin.ext he, show hc = place c from Fin.ext hh]
    refine congrArg (· * ec _) (Finset.sum_congr (M := EReal) rfl fun n _ => ?_)
    rw [show bn n = ⟨128 * (c.val / 512) + n.val, by omega⟩ from Fin.ext (hb n)]

theorem quarter0 (H : Vec Ideal S128x512 .f32) (i : Fin 64) (q : Fin 256) (c : Fin 2048) (hc : c.val = 0 + q.val) :
    k0_pay37 idx jdx k0_pay14 blk B C cum ec xdt (k0_pay31 idx jdx) (FloatOps.ofBits (F := Ideal) .f32 0x00000000#32) H (ix2 i q)
      = chan B C (decK cum) ec xdt (fun n => H (ix2 n (place c))) i c := by
  have e : k0_pay32 idx jdx cum (k0_pay31 idx jdx) (FloatOps.ofBits (F := Ideal) .f32 0x00000000#32) = decK cum := rfl
  have hPQ := sameBlk q
  generalize k0_pay14 = P at hPQ ⊢
  unfold k0_pay37 k0_pay35 k0_pay36 k0_pay33 k0_pay34
  rw [e]
  generalize decK cum = dec
  generalize blk = Q at hPQ ⊢
  pointwise [copies_B, copies_x]
  rw [copy_sum _ q P Q hPQ]
  dsimp only
  refine chan_of B C dec ec xdt H i c (fun n => ⟨n.val, by omega⟩) (fun j => ⟨(64 * (q.val / 64) + j.val) % 64, by omega⟩)
    (fun j => ⟨64 * (q.val / 64) + j.val, by omega⟩) ⟨q.val, by omega⟩ ⟨q.val, by omega⟩ ⟨q.val, by omega⟩ ?_ ?_ ?_ ?_ ?_ ?_
  all_goals
    intros
    dsimp only
    omega

theorem quarter1 (H : Vec Ideal S128x512 .f32) (i : Fin 64) (q : Fin 256) (c : Fin 2048) (hc : c.val = 256 + q.val) :
    k0_pay38 idx jdx k0_pay14 blk B C cum ec xdt (k0_pay31 idx jdx) (FloatOps.ofBits (F := Ideal) .f32 0x00000000#32) H (ix2 i q)
      = chan B C (decK cum) ec xdt (fun n => H (ix2 n (place c))) i c := by
  have e : k0_pay32 idx jdx cum (k0_pay31 idx jdx) (FloatOps.ofBits (F := Ideal) .f32 0x00000000#32) = decK cum := rfl
  have hPQ := sameBlk q
  generalize k0_pay14 = P at hPQ ⊢
  unfold k0_pay38 k0_pay35 k0_pay36 k0_pay33 k0_pay34
  rw [e]
  generalize decK cum = dec
  generalize blk = Q at hPQ ⊢
  pointwise [copies_B, copies_x]
  rw [copy_sum _ q P Q hPQ]
  dsimp only
  refine chan_of B C dec ec xdt H i c (fun n => ⟨n.val, by omega⟩) (fun j => ⟨(64 * (q.val / 64) + j.val) % 64, by omega⟩)
    (fun j => ⟨256 + (64 * (q.val / 64) + j.val), by omega⟩) ⟨256 + q.val, by omega⟩ ⟨256 + q.val, by omega⟩ ⟨256 + q.val, by omega⟩ ?_ ?_ ?_ ?_ ?_ ?_
  all_goals
    intros
    dsimp only
    omega

theorem quarter2 (H : Vec Ideal S128x512 .f32) (i : Fin 64) (q : Fin 256) (c : Fin 2048) (hc : c.val = 512 + q.val) :
    k0_pay46 (F := Ideal) k0_pay14 blk B C ec xdt dec H (ix2 i q) = chan B C dec ec xdt (fun n => H (ix2 n (place c))) i c := by
  have hPQ := sameBlk q
  generalize k0_pay14 = P at hPQ ⊢
  generalize blk = Q at hPQ ⊢
  unfold_payloads
  pointwise [copies_B, copies_x]
  rw [copy_sum _ q P Q hPQ]
  dsimp only
  refine chan_of B C dec ec xdt H i c (fun n => ⟨128 + n.val, by omega⟩) (fun j => ⟨(64 * (q.val / 64) + j.val) % 64, by omega⟩)
    (fun j => ⟨512 + (64 * (q.val / 64) + j.val), by omega⟩) ⟨512 + q.val, by omega⟩ ⟨512 + q.val, by omega⟩ ⟨q.val, by omega⟩ ?_ ?_ ?_ ?_ ?_ ?_
  all_goals
    intros
    dsimp only
    omega

theorem quarter3 (H : Vec Ideal S128x512 .f32) (i : Fin 64) (q : Fin 256) (c : Fin 2048) (hc : c.val = 768 + q.val) :
    k0_pay47 (F := Ideal) k0_pay14 blk B C ec xdt dec H (ix2 i q) = chan B C dec ec xdt (fun n => H (ix2 n (place c))) i c := by
  have hPQ := sameBlk q
  generalize k0_pay14 = P at hPQ ⊢
  generalize blk = Q at hPQ ⊢
  unfold_payloads
  pointwise [copies_B, copies_x]
  rw [copy_sum _ q P Q hPQ]
  dsimp only
  refine chan_of B C dec ec xdt H i c (fun n => ⟨128 + n.val, by omega⟩) (fun j => ⟨(64 * (q.val / 64) + j.val) % 64, by omega⟩)
    (fun j => ⟨768 + (64 * (q.val / 64) + j.val), by omega⟩) ⟨768 + q.val, by omega⟩ ⟨512 + (256 + q.val), by omega⟩ ⟨256 + q.val, by omega⟩ ?_ ?_ ?_ ?_ ?_ ?_
  all_goals
    intros
    dsimp only
    omega

theorem quarter4 (H : Vec Ideal S128x512 .f32) (i : Fin 64) (q : Fin 256) (c : Fin 2048) (hc : c.val = 1024 + q.val) :
    k0_pay56 (F := Ideal) k0_pay14 blk B C ec xdt dec H (ix2 i q) = chan B C dec ec xdt (fun n => H (ix2 n (place c))) i c := by
  have hPQ := sameBlk q
  generalize k0_pay14 = P at hPQ ⊢
  generalize blk = Q at hPQ ⊢
  unfold_payloads
  pointwise [copies_B, copies_x]
  rw [copy_sum _ q P Q hPQ]
  dsimp only
  refine chan_of B C dec ec xdt H i c (fun n => ⟨256 + n.val, by omega⟩) (fun j => ⟨(64 * (q.val / 64) + j.val) % 64, by omega⟩)
    (fun j => ⟨1024 + (64 * (q.val / 64) + j.val), by omega⟩) ⟨1024 + q.val, by omega⟩ ⟨1024 + q.val, by omega⟩ ⟨q.val, by omega⟩ ?_ ?_ ?_ ?_ ?_ ?_
  all_goals
    intros
    dsimp only
    omega

theorem quarter5 (H : Vec Ideal S128x512 .f32) (i : Fin 64) (q : Fin 256) (c : Fin 2048) (hc : c.val = 1280 + q.val) :
    k0_pay57 (F := Ideal) k0_pay14 blk B C ec xdt dec H (ix2 i q) = chan B C dec ec xdt (fun n => H (ix2 n (place c))) i c := by
  have hPQ := sameBlk q
  generalize k0_pay14 = P at hPQ ⊢
  generalize blk = Q at hPQ ⊢
  unfold_payloads
  pointwise [copies_B, copies_x]
  rw [copy_sum _ q P Q hPQ]
  dsimp only
  refine chan_of B C dec ec xdt H i c (fun n => ⟨256 + n.val, by omega⟩) (fun j => ⟨(64 * (q.val / 64) + j.val) % 64, by omega⟩)
    (fun j => ⟨1280 + (64 * (q.val / 64) + j.val), by omega⟩) ⟨1280 + q.val, by omega⟩ ⟨1024 + (256 + q.val), by omega⟩ ⟨256 + q.val, by omega⟩ ?_ ?_ ?_ ?_ ?_ ?_
  all_goals
    intros
    dsimp only
    omega

theorem quarter6 (H : Vec Ideal S128x512 .f32) (i : Fin 64) (q : Fin 256) (c : Fin 2048) (hc : c.val = 1536 + q.val) :
    k0_pay64 (F := Ideal) k0_pay14 blk B C ec xdt dec H (ix2 i q) = chan B C dec ec xdt (fun n => H (ix2 n (place c))) i c := by
  have hPQ := sameBlk q
  generalize k0_pay14 = P at hPQ ⊢
  generalize blk = Q at hPQ ⊢
  unfold_payloads
  pointwise [copies_B, copies_x]
  rw [copy_sum _ q P Q hPQ]
  dsimp only
  refine chan_of B C dec ec xdt H i c (fun n => ⟨384 + n.val, by omega⟩) (fun j => ⟨(64 * (q.val / 64) + j.val) % 64, by omega⟩)
    (fun j => ⟨1536 + (64 * (q.val / 64) + j.val), by omega⟩) ⟨1536 + q.val, by omega⟩ ⟨1536 + q.val, by omega⟩ ⟨q.val, by omega⟩ ?_ ?_ ?_ ?_ ?_ ?_
  all_goals
    intros
    dsimp only
    omega

theorem quarter7 (H : Vec Ideal S128x512 .f32) (i : Fin 64) (q : Fin 256) (c : Fin 2048) (hc : c.val = 1792 + q.val) :
    k0_pay65 (F := Ideal) k0_pay14 blk B C ec xdt dec H (ix2 i q) = chan B C dec ec xdt (fun n => H (ix2 n (place c))) i c := by
  have hPQ := sameBlk q
  generalize k0_pay14 = P at hPQ ⊢
  generalize blk = Q at hPQ ⊢
  unfold_payloads
  pointwise [copies_B, copies_x]
  rw [copy_sum _ q P Q hPQ]
  dsimp only
  refine chan_of B C dec ec xdt H i c (fun n => ⟨384 + n.val, by omega⟩) (fun j => ⟨(64 * (q.val / 64) + j.val) % 64, by omega⟩)
    (fun j => ⟨1792 + (64 * (q.val / 64) + j.val), by omega⟩) ⟨1792 + q.val, by omega⟩ ⟨1536 + (256 + q.val), by omega⟩ ⟨256 + q.val, by omega⟩ ?_ ?_ ?_ ?_ ?_ ?_
  all_goals
    intros
    dsimp only
    omega

/-- A channel's column of the state after. -/
def stateK (H : Fin 128 → EReal) (c : Fin 2048) (n : Fin 128) : EReal :=
  H n * ec (ix2 63 c) + ∑ j : Fin 64, B (ix2 j ⟨128 * (c.val / 512) + n.val, by omega⟩) * xw (ix2 j c)

theorem column0 (H : Vec Ideal S128x512 .f32) (n : Fin 128) (q : Fin 512) (c : Fin 2048) (hc : c.val = 0 + q.val) :
    (k0_pay41 xw (k0_pay39 ec H) (k0_pay40 B) : FVec Ideal S128x512 .f32) (ix2 n q) = stateK B ec xw (fun n => H (ix2 n q)) c n := by
  unfold_payloads
  pointwise [stateK]
  refine congrArg₂ (· + ·) (congrArg (fun a => _ * ec (ix2 63 a)) (Fin.ext ?_)) (Finset.sum_congr (M := EReal) rfl fun j _ =>
    congrArg₂ (fun a b => B (ix2 j a) * xw (ix2 j b)) (Fin.ext ?_) (Fin.ext ?_)) <;> dsimp only <;> omega

theorem column1 (H : Vec Ideal S128x512 .f32) (n : Fin 128) (q : Fin 512) (c : Fin 2048) (hc : c.val = 512 + q.val) :
    (k0_pay51 (k0_pay48 ec H) (k0_pay49 B) (k0_pay50 xw) (constant S128x512 .f32 0x00000000#32) : FVec Ideal S128x512 .f32) (ix2 n q) = stateK B ec xw (fun n => H (ix2 n q)) c n := by
  unfold_payloads
  pointwise [stateK]
  refine congrArg₂ (· + ·) (congrArg (fun a => _ * ec (ix2 63 a)) (Fin.ext ?_)) (Finset.sum_congr (M := EReal) rfl fun j _ =>
    congrArg₂ (fun a b => B (ix2 j a) * xw (ix2 j b)) (Fin.ext ?_) (Fin.ext ?_)) <;> dsimp only <;> omega

theorem column2 (H : Vec Ideal S128x512 .f32) (n : Fin 128) (q : Fin 512) (c : Fin 2048) (hc : c.val = 1024 + q.val) :
    (k0_pay59 (k0_pay58 B ec xw H) : FVec Ideal S128x512 .f32) (ix2 n q) = stateK B ec xw (fun n => H (ix2 n q)) c n := by
  unfold_payloads
  pointwise [stateK]
  refine congrArg₂ (· + ·) (congrArg (fun a => _ * ec (ix2 63 a)) (Fin.ext ?_)) (Finset.sum_congr (M := EReal) rfl fun j _ =>
    congrArg₂ (fun a b => B (ix2 j a) * xw (ix2 j b)) (Fin.ext ?_) (Fin.ext ?_)) <;> dsimp only <;> omega

theorem column3 (H : Vec Ideal S128x512 .f32) (n : Fin 128) (q : Fin 512) (c : Fin 2048) (hc : c.val = 1536 + q.val) :
    (k0_pay67 (k0_pay66 B ec xw H) : FVec Ideal S128x512 .f32) (ix2 n q) = stateK B ec xw (fun n => H (ix2 n q)) c n := by
  unfold_payloads
  pointwise [stateK]
  refine congrArg₂ (· + ·) (congrArg (fun a => _ * ec (ix2 63 a)) (Fin.ext ?_)) (Finset.sum_congr (M := EReal) rfl fun j _ =>
    congrArg₂ (fun a b => B (ix2 j a) * xw (ix2 j b)) (Fin.ext ?_) (Fin.ext ?_)) <;> dsimp only <;> omega

/-- A group of the normed rows. -/
def normG (G : FVec Ideal S64x2048 .f32) (nw : Vec Ideal S1x2048 .f32) (i : Fin 64) (c : Fin 2048) : EReal :=
  G (ix2 i c) * Step.scale (fun c => G (ix2 i c)) (Step.group c) * nw (ix2 0 c)

theorem norm_group (G : FVec Ideal S64x2048 .f32) (nw : Vec Ideal S1x2048 .f32) (i : Fin 64) (c c' c'' : Fin 2048) (o : Fin 512 → Fin 2048)
    (h : c'.val = c.val) (h' : c''.val = c.val) (ho : ∀ e, (o e).val = 512 * (c.val / 512) + e.val) :
    G (ix2 i c') * Ideal.rsqrt (Ideal.div (∑ x, G (ix2 i (o x)) * G (ix2 i (o x))) (Ideal.ofBits .f32 0x44000000#32) + Ideal.ofBits .f32 0x358637BD#32)
      * nw (ix2 0 c'') = normG G nw i c := by
  obtain rfl : c' = c := Fin.ext h
  obtain rfl : c'' = c' := Fin.ext h'
  obtain rfl : o = fun e => ⟨512 * (c''.val / 512) + e.val, by omega⟩ := funext fun e => Fin.ext (ho e)
  rfl

theorem norm0 (nw : Vec Ideal S1x2048 .f32) (x9 : Vec Ideal S1x2048 .f32) (X x1 : Vec Ideal S64x2048 .f32) (v0 v1 v2 v3 v4 v5 v6 v7 : FVec Ideal S64x256 .f32) (i : Fin 64) (q : Fin 512) (c : Fin 2048) (hc : c.val = 0 + q.val) :
    (k0_pay69 (k0_pay20 x9) (k0_pay21 nw) X v0 v1 v2 v3 v4 v5 v6 v7 x1 : FVec Ideal S64x512 .bf16) (ix2 i q) = normG (k0_pay68 (k0_pay20 x9) X v0 v1 v2 v3 v4 v5 v6 v7 x1) nw i c := by
  unfold k0_pay69 k0_pay21
  generalize (k0_pay68 (k0_pay20 x9) X v0 v1 v2 v3 v4 v5 v6 v7 x1 : FVec Ideal S64x2048 .f32) = G
  pointwise
  exact norm_group G nw i c _ _ _ (by dsimp only; omega) (by dsimp only; omega) (fun x => by dsimp only; omega)

theorem norm1 (nw : Vec Ideal S1x2048 .f32) (x9 : Vec Ideal S1x2048 .f32) (X x1 : Vec Ideal S64x2048 .f32) (v0 v1 v2 v3 v4 v5 v6 v7 : FVec Ideal S64x256 .f32) (i : Fin 64) (q : Fin 512) (c : Fin 2048) (hc : c.val = 512 + q.val) :
    (k0_pay70 (k0_pay20 x9) (k0_pay21 nw) X v0 v1 v2 v3 v4 v5 v6 v7 x1 : FVec Ideal S64x512 .bf16) (ix2 i q) = normG (k0_pay68 (k0_pay20 x9) X v0 v1 v2 v3 v4 v5 v6 v7 x1) nw i c := by
  unfold k0_pay70 k0_pay21
  generalize (k0_pay68 (k0_pay20 x9) X v0 v1 v2 v3 v4 v5 v6 v7 x1 : FVec Ideal S64x2048 .f32) = G
  pointwise
  exact norm_group G nw i c _ _ _ (by dsimp only; omega) (by dsimp only; omega) (fun x => by dsimp only; omega)

theorem norm2 (nw : Vec Ideal S1x2048 .f32) (G : FVec Ideal S64x2048 .f32) (i : Fin 64) (q : Fin 512) (c : Fin 2048) (hc : c.val = 1024 + q.val) :
    (k0_pay71 (k0_pay21 nw) G : FVec Ideal S64x512 .bf16) (ix2 i q) = normG G nw i c := by
  unfold k0_pay71 k0_pay21
  pointwise
  exact norm_group G nw i c _ _ _ (by dsimp only; omega) (by dsimp only; omega) (fun x => by dsimp only; omega)

theorem norm3 (nw : Vec Ideal S1x2048 .f32) (G : FVec Ideal S64x2048 .f32) (i : Fin 64) (q : Fin 512) (c : Fin 2048) (hc : c.val = 1536 + q.val) :
    (k0_pay72 (k0_pay21 nw) G : FVec Ideal S64x512 .bf16) (ix2 i q) = normG G nw i c := by
  unfold k0_pay72 k0_pay21
  pointwise
  exact norm_group G nw i c _ _ _ (by dsimp only; omega) (by dsimp only; omega) (fun x => by dsimp only; omega)

end Cert.SsdIdeal.Hand
-- ==== Proof.Ssd.Whole.lean ====
/-
  The recurrence kernel's whole stages by row and channel: the state's columns, the gated outputs and the normed rows.
-/
module

public import proofs.«01_k».proof.Proof.Ssd.Quads

@[expose] public section

set_option maxRecDepth 16384

noncomputable section

namespace Cert.SsdIdeal.Hand

open Cert.SsdIdeal Cert.SsdIdeal.Gen Idealize.ShloMosaic Idealize.ShloMosaic.TcCoe Idealize.SL.Sem

variable (x4 : Vec Ideal S1x2048x128 .f32) (B C : FVec Ideal S64x512 .bf16) (cum ec xdt : FVec Ideal S64x2048 .f32) (xw : FVec Ideal S64x2048 .bf16)

/-- Equal indices from equal numbers. -/
theorem ix3_congr {a b e : ℕ} {i i' : Fin a} {j j' : Fin b} {k k' : Fin e} (hi : i.val = i'.val) (hj : j.val = j'.val)
    (hk : k.val = k'.val) : ix3 i j k = ix3 i' j' k' := by
  rw [Fin.ext hi, Fin.ext hj, Fin.ext hk]

/-- A store of a group's columns read within them, and read beside them. -/
theorem canon_in (o : ℕ) (inb) (w : FVec Ideal S128x512 .f32) (L : List (View.Piece (Elt Ideal) S128x2048 .f32)) (n : Fin 128) (q : Fin 512) (c : Fin 2048)
    (hc : c.val = o + q.val) :
    View.canon (⟨Rect.unit ![0, o] ![128, 512] inb, w⟩ :: L) (ix2 n c) = w (ix2 n q) := by
  have e : (ix2 n c : S128x2048.Idx) = (Rect.unit ![0, o] ![128, 512] inb).emb (ix2 n q) := by
    funext a
    refine Fin.ext ?_
    rw [ValueKit.rect_emb_unit_val]
    match a with
    | ⟨0, _⟩ => show n.val = 0 + n.val; omega
    | ⟨1, _⟩ => exact hc
  rw [e]
  exact View.canon_cons_emb _ _ _ _

theorem canon_out (o : ℕ) (inb) (w : FVec Ideal S128x512 .f32) (L : List (View.Piece (Elt Ideal) S128x2048 .f32)) (n : Fin 128) (c : Fin 2048)
    (hc : c.val < o ∨ o + 512 ≤ c.val) :
    View.canon (⟨Rect.unit ![0, o] ![128, 512] inb, w⟩ :: L) (ix2 n c) = View.canon L (ix2 n c) := by
  refine View.canon_cons_of_not_mem _ _ fun h => ?_
  have h1 := (Rect.mem_set_unit (inb := inb)).1 h 1
  have h2 : o ≤ c.val ∧ c.val < o + 512 := h1
  omega

/-- The state before, and by group. -/
theorem base_at (n : Fin 128) (c : Fin 2048) : View.canon (hts0 x4) (ix2 n c) = x4 (ix3 0 c n) := by
  unfold hts0
  canon_tiles i h
  idx_vars i
  pointwise [k0_pay3]
  refine congrArg x4 (ix3_congr rfl ?_ ?_) <;> omega

theorem before0 (n : Fin 128) (q : Fin 512) (c : Fin 2048) (hc : c.val = 0 + q.val) : cols0 (View.canon (hts0 x4)) (ix2 n q) = x4 (ix3 0 c n) := by
  pointwise [cols0]
  rw [base_at]
  exact congrArg (fun a => x4 (ix3 0 a n)) (Fin.ext (by dsimp only; omega))

theorem before1 (n : Fin 128) (q : Fin 512) (c : Fin 2048) (hc : c.val = 512 + q.val) :
    cols1 (View.canon (hts1 x4 B ec xw)) (ix2 n q) = x4 (ix3 0 c n) := by
  pointwise [cols1]
  unfold hts1
  rw [canon_out 0 _ _ _ _ _ (by dsimp only; omega), base_at]
  exact congrArg (fun a => x4 (ix3 0 a n)) (Fin.ext (by dsimp only; omega))

theorem before2 (n : Fin 128) (q : Fin 512) (c : Fin 2048) (hc : c.val = 1024 + q.val) :
    cols2 (View.canon (hts2 x4 B ec xw)) (ix2 n q) = x4 (ix3 0 c n) := by
  pointwise [cols2]
  unfold hts2 hts1
  rw [canon_out 512 _ _ _ _ _ (by dsimp only; omega), canon_out 0 _ _ _ _ _ (by dsimp only; omega), base_at]
  exact congrArg (fun a => x4 (ix3 0 a n)) (Fin.ext (by dsimp only; omega))

theorem before3 (n : Fin 128) (q : Fin 512) (c : Fin 2048) (hc : c.val = 1536 + q.val) :
    cols3 (View.canon (hts3 x4 B ec xw)) (ix2 n q) = x4 (ix3 0 c n) := by
  pointwise [cols3]
  unfold hts3 hts2 hts1
  rw [canon_out 1024 _ _ _ _ _ (by dsimp only; omega), canon_out 512 _ _ _ _ _ (by dsimp only; omega), canon_out 0 _ _ _ _ _ (by dsimp only; omega), base_at]
  exact congrArg (fun a => x4 (ix3 0 a n)) (Fin.ext (by dsimp only; omega))

/-- The state after. -/
theorem after_at (c : Fin 2048) (n : Fin 128) : View.canon (hts4 x4 B ec xw) (ix2 n c) = stateK B ec xw (fun n => x4 (ix3 0 c n)) c n := by
  have fin : ∀ (H : Vec Ideal S128x512 .f32) (q : Fin 512), (∀ n, H (ix2 n q) = x4 (ix3 0 c n)) →
      stateK B ec xw (fun n => H (ix2 n q)) c n = stateK B ec xw (fun n => x4 (ix3 0 c n)) c n := fun H q h => by simp only [h]
  unfold hts4
  by_cases h3 : 1536 ≤ c.val
  · rw [canon_in 1536 _ _ _ n ⟨c.val - 1536, by omega⟩ c (by dsimp only; omega), column3 B ec xw _ n _ c (by dsimp only; omega)]
    exact fin _ _ fun n => before3 x4 B ec xw n _ c (by dsimp only; omega)
  rw [canon_out 1536 _ _ _ _ _ (by omega)]
  unfold hts3
  by_cases h2 : 1024 ≤ c.val
  · rw [canon_in 1024 _ _ _ n ⟨c.val - 1024, by omega⟩ c (by dsimp only; omega), column2 B ec xw _ n _ c (by dsimp only; omega)]
    exact fin _ _ fun n => before2 x4 B ec xw n _ c (by dsimp only; omega)
  rw [canon_out 1024 _ _ _ _ _ (by omega)]
  unfold hts2
  by_cases h1 : 512 ≤ c.val
  · rw [canon_in 512 _ _ _ n ⟨c.val - 512, by omega⟩ c (by dsimp only; omega), column1 B ec xw _ n _ c (by dsimp only; omega)]
    exact fin _ _ fun n => before1 x4 B ec xw n _ c (by dsimp only; omega)
  rw [canon_out 512 _ _ _ _ _ (by omega)]
  unfold hts1
  rw [canon_in 0 _ _ _ n ⟨c.val, by omega⟩ c (by dsimp only; omega), column0 B ec xw _ n _ c (by dsimp only; omega)]
  exact fin _ _ fun n => before0 x4 n _ c (by dsimp only; omega)

/-- Eight quarters of 256 channels side by side, each holding the entries of `Y`, gated. -/
theorem gate_of (x9 : Vec Ideal S1x2048 .f32) (X x1 : Vec Ideal S64x2048 .f32) (v0 v1 v2 v3 v4 v5 v6 v7 : FVec Ideal S64x256 .f32) (i : Fin 64) (c : Fin 2048)
    (Y : EReal) (h0 : ∀ q : Fin 256, c.val = 0 + q.val → v0 (ix2 i q) = Y) (h1 : ∀ q : Fin 256, c.val = 256 + q.val → v1 (ix2 i q) = Y)
    (h2 : ∀ q : Fin 256, c.val = 512 + q.val → v2 (ix2 i q) = Y) (h3 : ∀ q : Fin 256, c.val = 768 + q.val → v3 (ix2 i q) = Y)
    (h4 : ∀ q : Fin 256, c.val = 1024 + q.val → v4 (ix2 i q) = Y) (h5 : ∀ q : Fin 256, c.val = 1280 + q.val → v5 (ix2 i q) = Y)
    (h6 : ∀ q : Fin 256, c.val = 1536 + q.val → v6 (ix2 i q) = Y) (h7 : ∀ q : Fin 256, c.val = 1792 + q.val → v7 (ix2 i q) = Y) :
    k0_pay68 (k0_pay20 x9) X v0 v1 v2 v3 v4 v5 v6 v7 x1 (ix2 i c) = (Y + X (ix2 i c) * x9 (ix2 0 c)) * x1 (ix2 i c) := by
  unfold k0_pay68 k0_pay20
  pointwise
  refine congrArg (fun a => (a + _) * _) ?_
  split_ifs
  all_goals first
    | exact h0 _ (by dsimp only; omega) | exact h1 _ (by dsimp only; omega) | exact h2 _ (by dsimp only; omega) | exact h3 _ (by dsimp only; omega)
    | exact h4 _ (by dsimp only; omega) | exact h5 _ (by dsimp only; omega) | exact h6 _ (by dsimp only; omega) | exact h7 _ (by dsimp only; omega)

/-- The gated output. -/
theorem gatedK_at (X : Vec Ideal S64x2048 .f32) (x9 : Vec Ideal S1x2048 .f32) (x1 : Vec Ideal S64x2048 .f32) (i : Fin 64) (c : Fin 2048) :
    gatedK x4 B C cum ec xdt xw X x9 x1 (ix2 i c)
      = (chan B C (decK cum) ec xdt (fun n => x4 (ix3 0 c n)) i c + X (ix2 i c) * x9 (ix2 0 c)) * x1 (ix2 i c) := by
  have fin : ∀ H : Vec Ideal S128x512 .f32, (∀ n, H (ix2 n (place c)) = x4 (ix3 0 c n)) →
      chan B C (decK cum) ec xdt (fun n => H (ix2 n (place c))) i c = chan B C (decK cum) ec xdt (fun n => x4 (ix3 0 c n)) i c := fun H h => by simp only [h]
  unfold gatedK
  refine gate_of x9 X x1 _ _ _ _ _ _ _ _ i c _ (fun q hq => ?_) (fun q hq => ?_) (fun q hq => ?_) (fun q hq => ?_) (fun q hq => ?_) (fun q hq => ?_)
    (fun q hq => ?_) (fun q hq => ?_)
  · exact (quarter0 B C cum ec xdt _ i q c hq).trans (fin _ fun n => before0 x4 n _ c (by unfold place; dsimp only; omega))
  · exact (quarter1 B C cum ec xdt _ i q c hq).trans (fin _ fun n => before0 x4 n _ c (by unfold place; dsimp only; omega))
  · exact (quarter2 B C (decK cum) ec xdt _ i q c hq).trans (fin _ fun n => before1 x4 B ec xw n _ c (by unfold place; dsimp only; omega))
  · exact (quarter3 B C (decK cum) ec xdt _ i q c hq).trans (fin _ fun n => before1 x4 B ec xw n _ c (by unfold place; dsimp only; omega))
  · exact (quarter4 B C (decK cum) ec xdt _ i q c hq).trans (fin _ fun n => before2 x4 B ec xw n _ c (by unfold place; dsimp only; omega))
  · exact (quarter5 B C (decK cum) ec xdt _ i q c hq).trans (fin _ fun n => before2 x4 B ec xw n _ c (by unfold place; dsimp only; omega))
  · exact (quarter6 B C (decK cum) ec xdt _ i q c hq).trans (fin _ fun n => before3 x4 B ec xw n _ c (by unfold place; dsimp only; omega))
  · exact (quarter7 B C (decK cum) ec xdt _ i q c hq).trans (fin _ fun n => before3 x4 B ec xw n _ c (by unfold place; dsimp only; omega))

/-- The normed row. -/
theorem normK_at (X : Vec Ideal S64x2048 .f32) (x9 : Vec Ideal S1x2048 .f32) (x1 : Vec Ideal S64x2048 .f32) (x10 : Vec Ideal S1x2048 .f32)
    (i : Fin 64) (c : Fin 2048) :
    normK x4 B C cum ec xdt xw X x9 x1 x10 (ix2 i c) = normG (gatedK x4 B C cum ec xdt xw X x9 x1) x10 i c := by
  unfold normK
  canon_tiles j h
  all_goals
    idx_vars j
    have e : i = j0 := Fin.ext h0
    subst e
  · exact norm3 x10 _ i j1 c h1
  · exact norm2 x10 _ i j1 c h1
  · exact norm1 x10 x9 X x1 _ _ _ _ _ _ _ _ i j1 c h1
  · exact norm0 x10 x9 X x1 _ _ _ _ _ _ _ _ i j1 c (by omega)

/-- The rows behind the three before. -/
theorem xpad_at (x0 : Vec Ideal S64x3072 .f32) (x3 : Vec Ideal S1x3x3072 .f32) (r : Fin 67) (l : Fin 3072) :
    xpad x0 x3 (ix2 ⟨5 + r.val, by omega⟩ l) = if h : r.val < 3 then x3 (ix3 0 ⟨r.val, h⟩ l) else x0 (ix2 ⟨r.val - 3, by omega⟩ l) := by
  unfold xpad
  canon_tiles i h using by
    simp only [List.mem_cons, List.not_mem_nil, or_false, exists_eq_or_imp, exists_eq_left, Rect.mem_set_unit, Fin.forall_fin_two]
    show (8 ≤ 5 + r.val ∧ 5 + r.val < 8 + 64) ∧ (0 ≤ l.val ∧ l.val < 0 + 3072) ∨ (5 ≤ 5 + r.val ∧ 5 + r.val < 5 + 3) ∧ (0 ≤ l.val ∧ l.val < 0 + 3072)
    omega
  all_goals idx_vars i
  · pointwise [k0_pay4]
    rw [dif_neg (by omega)]
    exact congrArg x0 (congrArg₂ ix2 (Fin.ext (by dsimp only; omega)) (Fin.ext h1.symm))
  · pointwise [k0_pay2]
    rw [dif_pos (by omega)]
    exact congrArg x3 (ix3_congr rfl (by dsimp only; omega) h1.symm)

/-- The convolution and the activated rows. -/
theorem convK_at (X : Vec Ideal S72x3072 .f32) (x5 : Vec Ideal S4x3072 .f32) (x6 : Vec Ideal S1x3072 .f32) (i : Fin 64) (l : Fin 3072) :
    convK X x5 x6 (ix2 i l) = x6 (ix2 0 l) + X (ix2 ⟨5 + i.val, by omega⟩ l) * x5 (ix2 0 l) + X (ix2 ⟨6 + i.val, by omega⟩ l) * x5 (ix2 1 l)
      + X (ix2 ⟨7 + i.val, by omega⟩ l) * x5 (ix2 2 l) + X (ix2 ⟨8 + i.val, by omega⟩ l) * x5 (ix2 3 l) := by
  unfold convK k0_pay5
  pointwise

theorem actK_at (v : Vec Ideal S64x3072 .f32) (i : Fin 64) (l : Fin 3072) : actK v (ix2 i l) = v (ix2 i l) * Func.sigmoid (v (ix2 i l)) := by
  unfold actK
  rw [View.canon_unit_zero (by funext a; fin_cases a <;> rfl)]
  unfold k0_pay6
  pointwise [Func.sigmoid]
  rw [zero_sub]

theorem xsK_at (A : Vec Ideal S64x3072 .f32) (i : Fin 64) (c : Fin 2048) : xsK A (ix2 i c) = A (ix2 i ⟨c.val, by omega⟩) := by
  pointwise [xsK, k0_off1]
  exact congrArg A (congrArg₂ ix2 (Fin.ext (Nat.zero_add _)) rfl)

theorem bK_at (A : Vec Ideal S64x3072 .f32) (i : Fin 64) (c : Fin 512) : bK A (ix2 i c) = A (ix2 i ⟨2048 + c.val, by omega⟩) := by
  unfold bK k0_pay22 k0_off2
  pointwise
  exact congrArg A (congrArg₂ ix2 (Fin.ext (Nat.zero_add _)) rfl)

theorem cK_at (A : Vec Ideal S64x3072 .f32) (i : Fin 64) (c : Fin 512) : cK A (ix2 i c) = A (ix2 i ⟨2560 + c.val, by omega⟩) := by
  unfold cK k0_pay23 k0_off3
  pointwise
  exact congrArg A (congrArg₂ ix2 (Fin.ext (Nat.zero_add _)) rfl)

end Cert.SsdIdeal.Hand
-- ==== Proof.Ssd.Spec.lean ====
/-
  The recurrence of one batch of 32 rows, of the call's arguments, as plain formulas; and that rows of zero steps behind the 32
  change neither the outputs nor the state.
-/
module

public import proofs.«01_k».proof.Proof.Ssd.Step

@[expose] public section

noncomputable section

namespace Cert.Step

open Idealize.ShloMosaic Cert.Func

/-- The call's arguments. -/
structure Args where
  x : FVec Ideal ⟨2, ![512, 3072]⟩ .f32
  z : FVec Ideal ⟨2, ![512, 2048]⟩ .f32
  dt : FVec Ideal ⟨2, ![512, 128]⟩ .f32
  conv0 : FVec Ideal ⟨3, ![16, 3, 3072]⟩ .f32
  ssm0 : FVec Ideal ⟨3, ![16, 2048, 128]⟩ .f32
  w : FVec Ideal ⟨2, ![4, 3072]⟩ .f32
  b : FVec Ideal ⟨1, ![3072]⟩ .f32
  al : FVec Ideal ⟨1, ![32]⟩ .f32
  skip : FVec Ideal ⟨1, ![32]⟩ .f32
  norm : FVec Ideal ⟨1, ![2048]⟩ .f32
  wo : FVec Ideal ⟨2, ![2048, 1024]⟩ .f32

variable (P : Args) (b : Fin 16)

/-- A batch's rows behind the three kept before, zero after its 32. -/
def rows (r : ℕ) (l : Fin 3072) : EReal :=
  if h : r < 3 then P.conv0 (ix3 b ⟨r, h⟩ l) else if h' : r < 35 then P.x (ix2 ⟨b.val * 32 + (r - 3), by omega⟩ l) else 0

/-- Its steps, zero after its 32 rows, and the rates. -/
def steps (j : ℕ) (k : Fin 32) : EReal := if h : j < 32 then P.dt (ix2 ⟨b.val * 32 + j, by omega⟩ ⟨k.val, by omega⟩) else 0
def rate (k : Fin 32) : EReal := -Ideal.exp (P.al (ix1 k))

/-- Its activated rows. -/
def acted (i : ℕ) (l : Fin 3072) : EReal := act (rows P b) (fun k l => P.w (ix2 k l)) (fun l => P.b (ix1 l)) i l

/-- Its gates, zero after its 32 rows. -/
def gate (i : ℕ) (c : Fin 2048) : EReal := if h : i < 32 then P.z (ix2 ⟨b.val * 32 + i, by omega⟩ c) else 0

/-- Its gated outputs over `Q` rows, and its state after them. -/
def gatedRow (Q i : ℕ) (c : Fin 2048) : EReal :=
  (out (acted P b) (steps P b) (rate P) (fun c n => P.ssm0 (ix3 b c n)) Q i c + xs (acted P b) i c * P.skip (ix1 (head c))) * gate P b i c
def newState (Q : ℕ) (c : Fin 2048) (n : Fin 128) : EReal :=
  state (acted P b) (steps P b) (rate P) (fun c n => P.ssm0 (ix3 b c n)) Q c n

/-- A row of its result. -/
def result (Q i : ℕ) (o : Fin 1024) : EReal :=
  project (gatedRow P b Q i) (fun c => P.norm (ix1 c)) (fun c o => P.wo (ix2 c o)) o

/-- A sum over 64 rows whose terms after the first 32 are zero. -/
theorem sum_pad (f : ℕ → EReal) (hf : ∀ j, 32 ≤ j → f j = 0) : ∑ j : Fin 64, f j = ∑ j : Fin 32, f j := by
  rw [Fin.sum_univ_eq_sum_range f 64, Fin.sum_univ_eq_sum_range f 32]
  exact (Finset.sum_subset (Finset.range_mono (by omega)) fun j _ hj => hf j (by rw [Finset.mem_range] at hj; omega)).symm

section Pad
variable (A : ℕ → Fin 3072 → EReal) (D : ℕ → Fin 32 → EReal) (a : Fin 32 → EReal) (h : Fin 2048 → Fin 128 → EReal)
  (hD : ∀ j k, 32 ≤ j → D j k = 0)
include hD

theorem cum_pad (k : Fin 32) : cum D a 63 k = cum D a 31 k :=
  (Finset.sum_subset (Finset.range_mono (by omega)) fun j _ hj => by
    rw [hD j k (by rw [Finset.mem_range] at hj; omega), zero_mul]).symm

theorem out_pad (i : ℕ) (c : Fin 2048) : out A D a h 64 i c = out A D a h 32 i c := by
  unfold out
  rw [sum_pad (fun j => cb A i j (group c) * decay D a i j (head c) * (xs A j c * D j (head c))) fun j hj => by
    rw [hD j _ hj, mul_zero, mul_zero]]

theorem state_pad (c : Fin 2048) (n : Fin 128) : state A D a h 64 c n = state A D a h 32 c n := by
  unfold state
  have e : cum D a (64 - 1) (head c) = cum D a (32 - 1) (head c) := cum_pad D a hD _
  rw [e, sum_pad (fun j => bm A j (group c) n * (xs A j c * D j (head c) * Ideal.exp (cum D a (32 - 1) (head c) - cum D a j (head c)))) fun j hj => by
    rw [hD j _ hj, mul_zero, zero_mul, mul_zero]]

end Pad

theorem steps_pad (j : ℕ) (k : Fin 32) (hj : 32 ≤ j) : steps P b j k = 0 := dif_neg (by omega)

/-- The padded rows change nothing. -/
theorem result_pad (i : ℕ) (o : Fin 1024) : result P b 64 i o = result P b 32 i o := by
  unfold result
  rw [show gatedRow P b 64 i = gatedRow P b 32 i from funext fun c => by
    unfold gatedRow
    rw [out_pad (hD := steps_pad P b)]]

theorem newState_pad (c : Fin 2048) (n : Fin 128) : newState P b 64 c n = newState P b 32 c n :=
  state_pad (hD := steps_pad P b) ..

end Cert.Step
-- ==== Proof.Ssd.Body.lean ====
/-
  What one grid point of the recurrence kernel computes, of its input blocks: the formulas over 64 rows.
-/
module

public import proofs.«01_k».proof.Proof.Ssd.Whole
public import proofs.«01_k».proof.Proof.Ssd.Spec

@[expose] public section

set_option maxRecDepth 16384

noncomputable section

namespace Cert.SsdIdeal.Hand

open Cert.SsdIdeal Cert.SsdIdeal.Gen Idealize.ShloMosaic Idealize.ShloMosaic.TcCoe Idealize.SL.Sem

/-- The activated rows of the convolution over the padded rows. -/
theorem act_eq (x0 : Vec Ideal S64x3072 .f32) (x3 : Vec Ideal S1x3x3072 .f32) (x5 : Vec Ideal S4x3072 .f32) (x6 : Vec Ideal S1x3072 .f32)
    (X : ℕ → Fin 3072 → EReal) (w : Fin 4 → Fin 3072 → EReal) (b : Fin 3072 → EReal)
    (hX : ∀ (r : Fin 67) (l : Fin 3072), xpad x0 x3 (ix2 ⟨5 + r.val, by omega⟩ l) = X r l)
    (hw : ∀ k l, x5 (ix2 k l) = w k l) (hb : ∀ l, x6 (ix2 0 l) = b l) (i : Fin 64) (l : Fin 3072) :
    actK (convK (xpad x0 x3) x5 x6) (ix2 i l) = Step.act X w b i l := by
  have row : ∀ (q : ℕ) (hq : q < 72) (r : Fin 67), q = 5 + r.val → xpad x0 x3 (ix2 ⟨q, hq⟩ l) = X r l := by
    rintro _ _ r rfl
    exact hX r l
  rw [actK_at, convK_at, row _ _ ⟨i, by omega⟩ rfl, row _ _ ⟨i + 1, by omega⟩ (by dsimp only; omega), row _ _ ⟨i + 2, by omega⟩ (by dsimp only; omega),
    row _ _ ⟨i + 3, by omega⟩ (by dsimp only; omega), hw, hw, hw, hw, hb]
  rfl

section Scan
variable (A : Vec Ideal S64x3072 .f32) (A' : ℕ → Fin 3072 → EReal) (hA : ∀ (i : Fin 64) l, A (ix2 i l) = A' i l)
  (x2 : Vec Ideal S64x128 .f32) (x7 : Vec Ideal S1x128 .f32) (x8 : Vec Ideal S128x2048 .bf16) (D : ℕ → Fin 32 → ℝ) (a : Fin 32 → ℝ)
  (hD : ∀ (i : Fin 64) (k : Fin 128), x2 (ix2 i k) = if h : k.val < 32 then ((D i ⟨k, h⟩ : ℝ) : EReal) else 0)
  (ha : ∀ (k : Fin 32) (k' : Fin 128), k'.val = k.val → x7 (ix2 0 k') = (a k : ℝ)) (hz : ∀ k : Fin 128, 32 ≤ k.val → x7 (ix2 0 k) = 0) (he : Table x8)
  (h : Fin 2048 → Fin 128 → EReal)

/-- The rows' running sums, by channel. -/
theorem cum_real (i : ℕ) (k : Fin 32) : Step.cum (fun j k => (D j k : EReal)) (fun k => (a k : EReal)) i k
    = ((∑ j ∈ Finset.range (i + 1), D j k * a k : ℝ) : EReal) :=
  (map_sum (⟨⟨fun r : ℝ => (r : EReal), rfl⟩, EReal.coe_add⟩ : ℝ →+ EReal) (fun j => D j k * a k) (Finset.range (i + 1))).symm

include hA in
theorem xs_eq (i : Fin 64) (c : Fin 2048) : xsK A (ix2 i c) = Step.xs A' i c := (xsK_at A i c).trans (hA _ _)

include hA in
theorem bm_eq (i : Fin 64) (c : Fin 2048) (n : Fin 128) (q : Fin 512) (hq : q.val = 128 * (c.val / 512) + n.val) :
    bK A (ix2 i q) = Step.bm A' i (Step.group c) n := by
  rw [bK_at, hA]
  exact congrArg (A' i) (Fin.ext (by unfold Step.group; dsimp only; omega))

include hA in
theorem cm_eq (i : Fin 64) (c : Fin 2048) (n : Fin 128) (q : Fin 512) (hq : q.val = 128 * (c.val / 512) + n.val) :
    cK A (ix2 i q) = Step.cm A' i (Step.group c) n := by
  rw [cK_at, hA]
  exact congrArg (A' i) (Fin.ext (by unfold Step.group; dsimp only; omega))

include hD ha hz he in
theorem cum_eq (i : Fin 64) (c : Fin 2048) :
    cumK (sumK x2 x7) x8 (ix2 i c) = Step.cum (fun j k => (D j k : EReal)) (fun k => (a k : EReal)) i (Step.head c) := by
  rw [cum_real, cumK_at _ _ he i c (fun k => ∑ j ∈ Finset.range (i.val + 1), D j k * a k) fun k => sumK_at x2 x7 D a hD (fun k => ha k _ rfl) hz i k]

include hA hD he in
theorem xdt_eq (i : Fin 64) (c : Fin 2048) : xdtK (xsK A) x2 x8 (ix2 i c) = Step.xs A' i c * (D i (Step.head c) : EReal) := by
  unfold xdtK
  rw [xdt_at _ _ _ he i c (fun k => D i k) fun k => ?_, xs_eq A A' hA]
  unfold k0_pay24
  pointwise
  exact hD i k

include hD ha hz he in
theorem dec_eq (i j : Fin 64) (c d : Fin 2048) (hd : d.val = 64 * (c.val / 64) + j.val) :
    decK (cumK (sumK x2 x7) x8) (ix2 i d) = Step.decay (fun j k => (D j k : EReal)) (fun k => (a k : EReal)) i j (Step.head c) := by
  rw [decK_at, cum_eq x2 x7 x8 D a hD ha hz he, cum_eq x2 x7 x8 D a hD ha hz he]
  have e1 : Step.head d = Step.head c := Fin.ext (by unfold Step.head; dsimp only; omega)
  have e2 : d.val % 64 = j.val := by omega
  rw [show Step.head d = Step.head c from e1]
  unfold Step.decay
  simp only [e2]

include hA hD ha hz he in
/-- A row's outputs before the gate. -/
theorem chan_eq (i : Fin 64) (c : Fin 2048) (x4 : Vec Ideal S1x2048x128 .f32) :
    chan (bK A) (cK A) (decK (cumK (sumK x2 x7) x8)) (expK (sumK x2 x7) x8) (xdtK (xsK A) x2 x8) (fun n => x4 (ix3 0 c n)) i c
      = Step.out A' (fun j k => (D j k : EReal)) (fun k => (a k : EReal)) (fun c n => x4 (ix3 0 c n)) 64 i c := by
  unfold chan Step.out
  rw [expK_at, cum_eq x2 x7 x8 D a hD ha hz he]
  refine congrArg₂ (· + ·) (Finset.sum_congr (M := EReal) rfl fun j _ => ?_) (congrArg (· * _) (Finset.sum_congr (M := EReal) rfl fun n _ => ?_))
  · rw [dec_eq x2 x7 x8 D a hD ha hz he i j c _ rfl, xdt_eq A A' hA x2 x8 D hD he]
    refine congrArg (fun s => s * _ * _) (Finset.sum_congr (M := EReal) rfl fun n _ => ?_)
    rw [bm_eq A A' hA j c n _ rfl, cm_eq A A' hA i c n _ rfl]
  · rw [cm_eq A A' hA i c n _ rfl]

include hA hD ha hz he in
/-- The state after. -/
theorem state_at (c : Fin 2048) (n : Fin 128) (x4 : Vec Ideal S1x2048x128 .f32) :
    View.canon (hts4 x4 (bK A) (expK (sumK x2 x7) x8) (xwK (xsK A) x2 (sumK x2 x7) x8)) (ix2 n c)
      = Step.state A' (fun j k => (D j k : EReal)) (fun k => (a k : EReal)) (fun c n => x4 (ix3 0 c n)) 64 c n := by
  rw [after_at]
  unfold stateK Step.state
  rw [expK_at, cum_eq x2 x7 x8 D a hD ha hz he]
  refine congrArg₂ (· + ·) rfl (Finset.sum_congr (M := EReal) rfl fun j _ => ?_)
  rw [bm_eq A A' hA j c n _ rfl, xwK_at, xdt_eq A A' hA x2 x8 D hD he, cum_eq x2 x7 x8 D a hD ha hz he, cum_eq x2 x7 x8 D a hD ha hz he]
  rfl

include hA hD ha hz he in
/-- The projected rows. -/
theorem rows_at (i : Fin 64) (o : Fin 1024) (x4 : Vec Ideal S1x2048x128 .f32) (x9 x10 : Vec Ideal S1x2048 .f32) (x1 : Vec Ideal S64x2048 .f32)
    (x11 : Vec Ideal S2048x1024 .bf16) :
    k0_pay73 (normK x4 (bK A) (cK A) (cumK (sumK x2 x7) x8) (expK (sumK x2 x7) x8) (xdtK (xsK A) x2 x8) (xwK (xsK A) x2 (sumK x2 x7) x8)
        (xsK A) x9 x1 x10) x11 (ix2 i o)
      = Step.project (fun c => (Step.out A' (fun j k => (D j k : EReal)) (fun k => (a k : EReal)) (fun c n => x4 (ix3 0 c n)) 64 i c
          + Step.xs A' i c * x9 (ix2 0 c)) * x1 (ix2 i c)) (fun c => x10 (ix2 0 c)) (fun c o => x11 (ix2 c o)) o := by
  unfold Step.project k0_pay73
  pointwise
  refine Finset.sum_congr (M := EReal) rfl fun c _ => ?_
  rw [normK_at]
  unfold normG
  have e : ∀ c, gatedK x4 (bK A) (cK A) (cumK (sumK x2 x7) x8) (expK (sumK x2 x7) x8) (xdtK (xsK A) x2 x8) (xwK (xsK A) x2 (sumK x2 x7) x8)
      (xsK A) x9 x1 (ix2 i c) = (Step.out A' (fun j k => (D j k : EReal)) (fun k => (a k : EReal)) (fun c n => x4 (ix3 0 c n)) 64 i c
          + Step.xs A' i c * x9 (ix2 0 c)) * x1 (ix2 i c) := fun c => by
    rw [gatedK_at, chan_eq A A' hA x2 x7 x8 D a hD ha hz he, xs_eq A A' hA]
  simp only [e]

end Scan

end Cert.SsdIdeal.Hand
-- ==== Proof.Ssd.Host.lean ====
/-
  What the recurrence's one region finds in its input blocks: the padded rows, the rates, the table that spreads the heads over
  their channels, and the arguments.
-/
module

public import proofs.«01_k».proof.Proof.Ssd.Body

@[expose] public section

set_option maxRecDepth 16384

noncomputable section

namespace Cert.SsdIdeal.Hand

open Cert.SsdIdeal Cert.SsdIdeal.Gen Idealize.ShloMosaic Idealize.ShloMosaic.TcCoe Idealize.SL.Sem

variable (m : (ℓ : Loc nD τ sig) → Buf (Elt Ideal) ℓ) (c : Dev nD)

/-- Each batch's 32 rows with 32 rows of zeros behind them. -/
def padX (x : FVec Ideal S512x3072 .f32) : FVec Ideal S1024x3072 .f32 :=
  shapeCast _ (pad S16x64x3072 ![0, 0, 0] ![0, 32, 0] ![0, 0, 0] (shapeCast S16x32x3072 x shapeCasts_S512x3072_S16x32x3072 : FVec Ideal S16x32x3072 .f32)
    (sitofp .f32 (constantI S_ 32 0#32) : FVec Ideal S_ .f32) pads_S16x32x3072_S16x64x3072_000_0320_000 h_S_ : FVec Ideal S16x64x3072 .f32) shapeCasts_S16x64x3072_S1024x3072
def padZ (x : FVec Ideal S512x2048 .f32) : FVec Ideal S1024x2048 .f32 :=
  shapeCast _ (pad S16x64x2048 ![0, 0, 0] ![0, 32, 0] ![0, 0, 0] (shapeCast S16x32x2048 x shapeCasts_S512x2048_S16x32x2048 : FVec Ideal S16x32x2048 .f32)
    (sitofp .f32 (constantI S_ 32 0#32) : FVec Ideal S_ .f32) pads_S16x32x2048_S16x64x2048_000_0320_000 h_S_ : FVec Ideal S16x64x2048 .f32) shapeCasts_S16x64x2048_S1024x2048
def padT (x : FVec Ideal S512x128 .f32) : FVec Ideal S1024x128 .f32 :=
  shapeCast _ (pad S16x64x128 ![0, 0, 0] ![0, 32, 0] ![0, 0, 0] (shapeCast S16x32x128 x shapeCasts_S512x128_S16x32x128 : FVec Ideal S16x32x128 .f32)
    (sitofp .f32 (constantI S_ 32 0#32) : FVec Ideal S_ .f32) pads_S16x32x128_S16x64x128_000_0320_000 h_S_ : FVec Ideal S16x64x128 .f32) shapeCasts_S16x64x128_S1024x128

theorem zero_int : (sitofp .f32 (constantI S_ 32 0#32) : FVec Ideal S_ .f32) (Shape.Idx.first h_S_) = 0 := by
  simp [sitofp, constantI, FloatOps.sitofp]

theorem padX_at (x : FVec Ideal S512x3072 .f32) (b : Fin 16) (i : Fin 64) (l : Fin 3072) :
    padX x (ix2 ⟨b.val * 64 + i.val, by omega⟩ l) = if h : i.val < 32 then x (ix2 ⟨b.val * 32 + i.val, by omega⟩ l) else 0 := by
  unfold padX
  have hz := zero_int
  generalize (sitofp .f32 (constantI S_ 32 0#32) : FVec Ideal S_ .f32) = z at hz ⊢
  pointwise
  rw [hz]

theorem padZ_at (x : FVec Ideal S512x2048 .f32) (b : Fin 16) (i : Fin 64) (l : Fin 2048) :
    padZ x (ix2 ⟨b.val * 64 + i.val, by omega⟩ l) = if h : i.val < 32 then x (ix2 ⟨b.val * 32 + i.val, by omega⟩ l) else 0 := by
  unfold padZ
  have hz := zero_int
  generalize (sitofp .f32 (constantI S_ 32 0#32) : FVec Ideal S_ .f32) = z at hz ⊢
  pointwise
  rw [hz]

theorem padT_at (x : FVec Ideal S512x128 .f32) (b : Fin 16) (i : Fin 64) (l : Fin 128) :
    padT x (ix2 ⟨b.val * 64 + i.val, by omega⟩ l) = if h : i.val < 32 then x (ix2 ⟨b.val * 32 + i.val, by omega⟩ l) else 0 := by
  unfold padT
  have hz := zero_int
  generalize (sitofp .f32 (constantI S_ 32 0#32) : FVec Ideal S_ .f32) = z at hz ⊢
  pointwise
  rw [hz]

/-- The rates, on the first 32 lanes. -/
def rates (al : FVec Ideal S32 .f32) : FVec Ideal S1x128 .f32 :=
  shapeCast _ (pad S128 ![0] ![96] ![0] (Host.negf (Host.exp al : FVec Ideal S32 .f32) : FVec Ideal S32 .f32)
    (sitofp .f32 (constantI S_ 32 0#32) : FVec Ideal S_ .f32) pads_S32_S128_0960 h_S_ : FVec Ideal S128 .f32) shapeCasts_S128_S1x128

/-- A lane's remainder by 32, -/
def rem32 : IVec S128x1 32 :=
  let x : IVec S128x1 32 := broadcastInDim S128x1 ![0] bcast_S128_S128x1_0 (iotaInDim S128 32 0)
  let n : IVec S_ 32 := select (cmpi .eq (constantI S_ 32 32#32) (constantI S_ 32 0#32)) (constantI S_ 32 1#32) (constantI S_ 32 32#32)
  let r : IVec S128x1 32 := Host.remsi x (broadcastInDim S128x1 ![] bcast_S_S128x1 n)
  select (andi (cmpi .ne (cmpi .slt r (broadcastInDim S128x1 ![] bcast_S_S128x1 (constantI S_ 32 0#32)))
      (broadcastInDim S128x1 ![] bcast_S_S128x1 (cmpi .slt n (constantI S_ 32 0#32))))
      (cmpi .ne r (broadcastInDim S128x1 ![] bcast_S_S128x1 (constantI S_ 32 0#32))))
    (addi r (broadcastInDim S128x1 ![] bcast_S_S128x1 n)) r

/-- and a channel's quotient by 64. -/
def div64 : IVec S1x2048 32 :=
  let x : IVec S1x2048 32 := broadcastInDim S1x2048 ![1] bcast_S2048_S1x2048_1 (iotaInDim S2048 32 0)
  let n : IVec S_ 32 := constantI S_ 32 64#32
  let q : IVec S1x2048 32 := Host.divsi x (broadcastInDim S1x2048 ![] bcast_S_S1x2048 n)
  select (andi (cmpi .ne (signi x) (broadcastInDim S1x2048 ![] bcast_S_S1x2048 (signi n)))
      (cmpi .ne (Host.remsi x (broadcastInDim S1x2048 ![] bcast_S_S1x2048 n)) (broadcastInDim S1x2048 ![] bcast_S_S1x2048 (constantI S_ 32 0#32))))
    (subi q (broadcastInDim S1x2048 ![] bcast_S_S1x2048 (constantI S_ 32 1#32))) q

/-- The table: lane `k` below 96 is one at the channels of head `k % 32`. -/
def table : FVec Ideal S128x2048 .bf16 :=
  uitofp .bf16 (andi
    (broadcastInDim S128x2048 ![0, 1] bcast_S128x1_S128x2048_0_1 (cmpi .slt (broadcastInDim S128x1 ![0] bcast_S128_S128x1_0 (iotaInDim S128 32 0) : IVec S128x1 32)
      (broadcastInDim S128x1 ![] bcast_S_S128x1 (constantI S_ 32 96#32))))
    (cmpi .eq (broadcastInDim S128x2048 ![0, 1] bcast_S128x1_S128x2048_0_1 rem32) (broadcastInDim S128x2048 ![0, 1] bcast_S1x2048_S128x2048_0_1 div64)))

theorem rem32_at (k : Fin 128) (j : Fin 1) : rem32 (ix2 k j) = BitVec.ofNat 32 (k.val % 32) := by
  pointwise [rem32]
  revert k
  decide +kernel

theorem div64_at (j : Fin 1) (d : Fin 2048) : div64 (ix2 j d) = BitVec.ofNat 32 (d.val / 64) := by
  pointwise [div64]
  revert d
  decide +kernel

theorem rates_at (al : FVec Ideal S32 .f32) (k : Fin 128) :
    rates al (ix2 0 k) = if h : k.val < 32 then -Ideal.exp (al (ix1 ⟨k, h⟩)) else 0 := by
  unfold rates
  have hz := zero_int
  generalize (sitofp .f32 (constantI S_ 32 0#32) : FVec Ideal S_ .f32) = z at hz ⊢
  pointwise
  rw [hz]

theorem slt96_at : ∀ k : Fin 128, IntOp.cmpi .slt (BitVec.ofNat 32 k.val) 96#32 = if k.val < 96 then 1#1 else 0#1 := by decide +kernel

theorem same_at : ∀ k d : Fin 32, IntOp.cmpi .eq (BitVec.ofNat 32 k.val) (BitVec.ofNat 32 d.val) = if k.val = d.val then 1#1 else 0#1 := by
  decide +kernel

theorem table_ok : Table table := by
  intro k d
  pointwise [table, rem32_at, div64_at]
  rw [slt96_at, same_at ⟨k.val % 32, by omega⟩ ⟨d.val / 64, by omega⟩]
  unfold Step.head
  dsimp only
  by_cases h : k.val < 96 <;> by_cases h' : k.val % 32 = d.val / 64 <;> simp [h, h', FloatOps.uitofp, IntOp.andi]

/-- The skip weights, a head's at its channels. -/
def skips (v : FVec Ideal S32 .f32) : FVec Ideal S1x2048 .f32 :=
  shapeCast S1x2048 (shapeCast S2048 (broadcastInDim S32x64 ![0] bcast_S32_S32x64_0 v : FVec Ideal S32x64 .f32) shapeCasts_S32x64_S2048 : FVec Ideal S2048 .f32)
    shapeCasts_S2048_S1x2048

theorem skips_at (v : FVec Ideal S32 .f32) (d : Fin 2048) : skips v (ix2 0 d) = v (ix1 (Step.head d)) := by
  pointwise [skips, Step.head]

theorem V_main_v16 (i : S1024x3072.Idx) : V m c main_v16 i = padX (m ((c : Thread nD τ).loc main_arg0)) i := by
  unfold V V0
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

theorem V_main_v19 (i : S1024x2048.Idx) : V m c main_v19 i = padZ (m ((c : Thread nD τ).loc main_arg1)) i := by
  unfold V V0
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

theorem V_main_v22 (i : S1024x128.Idx) : V m c main_v22 i = padT (m ((c : Thread nD τ).loc main_arg2)) i := by
  unfold V V0
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

theorem V_main_v23 (i : S1x3072.Idx) : V m c main_v23 i = (shapeCast S1x3072 (m ((c : Thread nD τ).loc main_arg6) : FVec Ideal S3072 .f32) shapeCasts_S3072_S1x3072 : FVec Ideal S1x3072 .f32) i := by
  unfold V V0
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

theorem V_main_v27 (i : S1x128.Idx) : V m c main_v27 i = rates (m ((c : Thread nD τ).loc main_arg7)) i := by
  unfold V V0
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

theorem V_main_v13 (i : S128x2048.Idx) : V m c main_v13 i = table i := by
  unfold V V0
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

theorem V_main_v30 (i : S1x2048.Idx) : V m c main_v30 i = skips (m ((c : Thread nD τ).loc main_arg8)) i := by
  unfold V V0
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

theorem V_main_v31 (i : S1x2048.Idx) : V m c main_v31 i = (shapeCast S1x2048 (m ((c : Thread nD τ).loc main_arg9) : FVec Ideal S2048 .f32) shapeCasts_S2048_S1x2048 : FVec Ideal S1x2048 .f32) i := by
  unfold V V0
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

theorem V_main_v32 (i : S2048x1024.Idx) : V m c main_v32 i = m ((c : Thread nD τ).loc main_arg10) i := by
  unfold V V0
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

end Cert.SsdIdeal.Hand
-- ==== Proof.Ssd.Blocks.lean ====
/-
  The input blocks of one grid point of the recurrence, entry by entry of the call's arguments.
-/
module

public import proofs.«01_k».proof.Proof.Ssd.Host

@[expose] public section

set_option maxRecDepth 16384

noncomputable section

namespace Cert.SsdIdeal.Hand

open Cert.SsdIdeal Cert.SsdIdeal.Gen Idealize.ShloMosaic Idealize.ShloMosaic.TcCoe Idealize.SL.Sem

variable (m : (ℓ : Loc nD τ sig) → Buf (Elt Ideal) ℓ) (c : Dev nD)

/-- Equal indices from equal numbers, axis by axis. -/
theorem idx3_ext {n₀ n₁ n₂ : ℕ} {i j : (⟨3, ![n₀, n₁, n₂]⟩ : Shape).Idx} (h0 : (i 0).val = (j 0).val) (h1 : (i 1).val = (j 1).val)
    (h2 : (i 2).val = (j 2).val) : i = j :=
  funext fun a => Fin.ext (by fin_cases a <;> assumption)

/-- The block indices: the rows, the kept rows and the state move with the point, the rest stays. -/
theorem idx_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0)
      ∧ (win0_3.index t 0 = t.val ∧ win0_3.index t 1 = 0 ∧ win0_3.index t 2 = 0)
      ∧ (win0_4.index t 0 = t.val ∧ win0_4.index t 1 = 0 ∧ win0_4.index t 2 = 0)
      ∧ (win0_5.index t 0 = 0 ∧ win0_5.index t 1 = 0) ∧ (win0_6.index t 0 = 0 ∧ win0_6.index t 1 = 0)
      ∧ (win0_7.index t 0 = 0 ∧ win0_7.index t 1 = 0) ∧ (win0_8.index t 0 = 0 ∧ win0_8.index t 1 = 0)
      ∧ (win0_9.index t 0 = 0 ∧ win0_9.index t 1 = 0) ∧ (win0_10.index t 0 = 0 ∧ win0_10.index t 1 = 0)
      ∧ (win0_11.index t 0 = 0 ∧ win0_11.index t 1 = 0) := by decide +kernel

/-- And of the results. -/
theorem out_facts : ∀ t : Fin cfg0.N, (win0_12.index t 0 = t.val ∧ win0_12.index t 1 = 0)
      ∧ (win0_13.index t 0 = t.val ∧ win0_13.index t 1 = 0 ∧ win0_13.index t 2 = 0)
      ∧ (win0_14.index t 0 = t.val ∧ win0_14.index t 1 = 0 ∧ win0_14.index t 2 = 0) := by decide +kernel

/-- The batch of a point. -/
def batch (t : Fin cfg0.N) : Fin 16 := ⟨t.val, by have := t.isLt; have h : cfg0.N = 16 := N_0; omega⟩

/-- Row `i` of a batch, as a row of the padded arrays. -/
def row (t : Fin cfg0.N) (i : Fin 64) : Fin 1024 := ⟨(batch t).val * 64 + i.val, by omega⟩

/-- The call's arguments. -/
def args : Step.Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), m ((c : Thread nD τ).loc main_arg6),
  m ((c : Thread nD τ).loc main_arg7), m ((c : Thread nD τ).loc main_arg8), m ((c : Thread nD τ).loc main_arg9), m ((c : Thread nD τ).loc main_arg10)⟩

/-- A vector as a matrix of one row. -/
theorem row3072_at (v : FVec Ideal S3072 .f32) (l : Fin 3072) : (shapeCast S1x3072 v shapeCasts_S3072_S1x3072 : FVec Ideal S1x3072 .f32) (ix2 0 l) = v (ix1 l) := by
  pointwise

theorem row2048_at (v : FVec Ideal S2048 .f32) (l : Fin 2048) : (shapeCast S1x2048 v shapeCasts_S2048_S1x2048 : FVec Ideal S1x2048 .f32) (ix2 0 l) = v (ix1 l) := by
  pointwise

variable (t : Fin cfg0.N)

theorem blk0 (i : Fin 64) (l : Fin 3072) : (iblk m c 0 t : Vec Ideal S64x3072 .f32) (ix2 i l)
    = if h : i.val < 32 then (args m c).x (ix2 ⟨(batch t).val * 32 + i.val, by omega⟩ l) else 0 := by
  have h := (idx_facts t).1
  refine Eq.trans (b := V m c main_v16 (ix2 (row t i) l)) ?_ ((V_main_v16 m c _).trans (padX_at (args m c).x (batch t) i l))
  exact congrArg (V m c main_v16) (Shape.idx_ext₂ (by blk_simp [h.1, row, batch]) (by blk_simp [h.2]))

theorem blk1 (i : Fin 64) (l : Fin 2048) : (iblk m c 1 t : Vec Ideal S64x2048 .f32) (ix2 i l) = Step.gate (args m c) (batch t) i l := by
  have h := (idx_facts t).2.1
  refine Eq.trans (b := V m c main_v19 (ix2 (row t i) l)) ?_ ((V_main_v19 m c _).trans (padZ_at (args m c).z (batch t) i l))
  exact congrArg (V m c main_v19) (Shape.idx_ext₂ (by blk_simp [h.1, row, batch]) (by blk_simp [h.2]))

theorem blk2 (i : Fin 64) (l : Fin 128) : (iblk m c 2 t : Vec Ideal S64x128 .f32) (ix2 i l)
    = if h : i.val < 32 then (args m c).dt (ix2 ⟨(batch t).val * 32 + i.val, by omega⟩ l) else 0 := by
  have h := (idx_facts t).2.2.1
  refine Eq.trans (b := V m c main_v22 (ix2 (row t i) l)) ?_ ((V_main_v22 m c _).trans (padT_at (args m c).dt (batch t) i l))
  exact congrArg (V m c main_v22) (Shape.idx_ext₂ (by blk_simp [h.1, row, batch]) (by blk_simp [h.2]))

theorem blk3 (b : Fin 1) (n : Fin 3) (l : Fin 3072) : (iblk m c 3 t : Vec Ideal S1x3x3072 .f32) (ix3 b n l) = (args m c).conv0 (ix3 (batch t) n l) := by
  have h := (idx_facts t).2.2.2.1
  refine Eq.trans (b := V m c main_arg3 (ix3 (batch t) n l)) ?_ (congrFun (V_main_arg3 m c) _)
  exact congrArg (V m c main_arg3) (idx3_ext (by blk_simp [h.1, batch]) (by blk_simp [h.2.1]) (by blk_simp [h.2.2]))

theorem blk4 (b : Fin 1) (n : Fin 2048) (l : Fin 128) : (iblk m c 4 t : Vec Ideal S1x2048x128 .f32) (ix3 b n l) = (args m c).ssm0 (ix3 (batch t) n l) := by
  have h := (idx_facts t).2.2.2.2.1
  refine Eq.trans (b := V m c main_arg4 (ix3 (batch t) n l)) ?_ (congrFun (V_main_arg4 m c) _)
  exact congrArg (V m c main_arg4) (idx3_ext (by blk_simp [h.1, batch]) (by blk_simp [h.2.1]) (by blk_simp [h.2.2]))

theorem blk5 (k : Fin 4) (l : Fin 3072) : (iblk m c 5 t : Vec Ideal S4x3072 .f32) (ix2 k l) = (args m c).w (ix2 k l) := by
  have h := (idx_facts t).2.2.2.2.2.1
  refine Eq.trans (b := V m c main_arg5 (ix2 k l)) ?_ (congrFun (V_main_arg5 m c) _)
  exact congrArg (V m c main_arg5) (Shape.idx_ext₂ (by blk_simp [h.1]) (by blk_simp [h.2]))

theorem blk6 (l : Fin 3072) : (iblk m c 6 t : Vec Ideal S1x3072 .f32) (ix2 0 l) = (args m c).b (ix1 l) := by
  have h := (idx_facts t).2.2.2.2.2.2.1
  refine Eq.trans (b := V m c main_v23 (ix2 0 l)) ?_ ((V_main_v23 m c _).trans (row3072_at (args m c).b l))
  exact congrArg (V m c main_v23) (Shape.idx_ext₂ (by blk_simp [h.1]) (by blk_simp [h.2]))

theorem blk7 (k : Fin 128) : (iblk m c 7 t : Vec Ideal S1x128 .f32) (ix2 0 k) = if h : k.val < 32 then Step.rate (args m c) ⟨k, h⟩ else 0 := by
  have h := (idx_facts t).2.2.2.2.2.2.2.1
  refine Eq.trans (b := V m c main_v27 (ix2 0 k)) ?_ ((V_main_v27 m c _).trans (rates_at _ _))
  exact congrArg (V m c main_v27) (Shape.idx_ext₂ (by blk_simp [h.1]) (by blk_simp [h.2]))

theorem blk8 : Table (iblk m c 8 t : Vec Ideal S128x2048 .bf16) := fun k d => by
  have h := (idx_facts t).2.2.2.2.2.2.2.2.1
  refine Eq.trans (b := V m c main_v13 (ix2 k d)) ?_ ((V_main_v13 m c _).trans (table_ok k d))
  exact congrArg (V m c main_v13) (Shape.idx_ext₂ (by blk_simp [h.1]) (by blk_simp [h.2]))

theorem blk9 (d : Fin 2048) : (iblk m c 9 t : Vec Ideal S1x2048 .f32) (ix2 0 d) = (args m c).skip (ix1 (Step.head d)) := by
  have h := (idx_facts t).2.2.2.2.2.2.2.2.2.1
  refine Eq.trans (b := V m c main_v30 (ix2 0 d)) ?_ ((V_main_v30 m c _).trans (skips_at _ _))
  exact congrArg (V m c main_v30) (Shape.idx_ext₂ (by blk_simp [h.1]) (by blk_simp [h.2]))

theorem blk10 (d : Fin 2048) : (iblk m c 10 t : Vec Ideal S1x2048 .f32) (ix2 0 d) = (args m c).norm (ix1 d) := by
  have h := (idx_facts t).2.2.2.2.2.2.2.2.2.2.1
  refine Eq.trans (b := V m c main_v31 (ix2 0 d)) ?_ ((V_main_v31 m c _).trans (row2048_at (args m c).norm d))
  exact congrArg (V m c main_v31) (Shape.idx_ext₂ (by blk_simp [h.1]) (by blk_simp [h.2]))

theorem blk11 (d : Fin 2048) (o : Fin 1024) : (iblk m c 11 t : Vec Ideal S2048x1024 .bf16) (ix2 d o) = (args m c).wo (ix2 d o) := by
  have h := (idx_facts t).2.2.2.2.2.2.2.2.2.2.2
  refine Eq.trans (b := V m c main_v32 (ix2 d o)) ?_ (V_main_v32 m c _)
  exact congrArg (V m c main_v32) (Shape.idx_ext₂ (by blk_simp [h.1]) (by blk_simp [h.2]))

end Cert.SsdIdeal.Hand
-- ==== Proof.Ssd.Final.lean ====
/-
  What the recurrence call leaves in its three arrays: each batch's formulas over the padded rows.
-/
module

public import proofs.«01_k».proof.Proof.Ssd.Blocks

@[expose] public section

set_option maxRecDepth 16384

noncomputable section

namespace Cert.SsdIdeal.Hand

open Cert.SsdIdeal Cert.SsdIdeal.Gen Idealize.ShloMosaic Idealize.ShloMosaic.TcCoe Idealize.SL.Sem

variable (m : (ℓ : Loc nD τ sig) → Buf (Elt Ideal) ℓ) (c : Dev nD) (t : Fin cfg0.N)

/-- The padded rows are the batch's. -/
theorem rows_eq (r : Fin 67) (l : Fin 3072) :
    xpad (iblk m c 0 t) (iblk m c 3 t) (ix2 ⟨5 + r.val, by omega⟩ l) = Step.rows (args m c) (batch t) r l := by
  rw [xpad_at]
  unfold Step.rows
  by_cases h : r.val < 3
  · rw [dif_pos h, dif_pos h, blk3]
  · rw [dif_neg h, dif_neg h, blk0]
    by_cases h' : r.val < 35
    · rw [dif_pos h', dif_pos (by dsimp only; omega)]
    · rw [dif_neg h', dif_neg (by dsimp only; omega)]

/-- The activated rows. -/
theorem acted_eq (i : Fin 64) (l : Fin 3072) : actP m c t (ix2 i l) = Step.acted (args m c) (batch t) i l :=
  act_eq _ _ _ _ _ _ _ (rows_eq m c t) (fun k l => blk5 m c t k l) (fun l => blk6 m c t l) i l

/-- The kept rows. -/
theorem final13 : (dats m 0 c).arrAt 13 cfg0.N = (fun y => Step.rows (args m c) (y 0) (32 + (y 1).val) (y 2) : FVec Ideal S16x3x3072 .f32) := by
  refine (dats m 0 c).arrAt_eq_of_covers 13 _ (by decide +kernel) fun t hf y => ?_
  obtain ⟨b, r, l, rfl⟩ : ∃ (b : Fin 1) (r : Fin 3) (l : Fin 3072), y = (ix3 b r l : S1x3x3072.Idx) := ⟨y 0, y 1, y 2, eq_ix3 y⟩
  have h := (out_facts t).2.1
  rw [show ((cfg0.win 13).blk t).view.emb (ix3 b r l : S1x3x3072.Idx) = (ix3 (batch t) r l : S16x3x3072.Idx) from
    idx3_ext (by blk_simp [h.1, batch]) (by blk_simp [h.2.1]) (by blk_simp [h.2.2])]
  blk_simp
  rw [after0_13, conv_eq]
  unfold k0_pay7
  pointwise
  refine Eq.trans ?_ (rows_eq m c t ⟨32 + r, by omega⟩ l)
  exact congrArg (fun q => xpad (iblk m c 0 t) (iblk m c 3 t) (ix2 q l)) (Fin.ext (by dsimp only; omega))

/-- What the value claim asks of the arguments: the steps are real numbers, no rate's exponent is infinity, and the steps' lanes
    past the heads are zero. -/
structure Real : Prop where
  dt : ∀ i, ∃ r : ℝ, (args m c).dt i = r
  al : ∀ i, (args m c).al i ≠ ⊤
  lanes : ∀ (n : Fin 512) (k : Fin 128), 32 ≤ k.val → (args m c).dt (ix2 n k) = 0

variable (hr : Real m c)
include hr

/-- The steps and the rates are real. -/
theorem steps_real (b : Fin 16) : ∃ D : ℕ → Fin 32 → ℝ, Step.steps (args m c) b = fun j k => (D j k : EReal) := by
  have h : ∀ j k, ∃ r : ℝ, Step.steps (args m c) b j k = r := fun j k => by
    unfold Step.steps
    split_ifs
    · exact hr.dt _
    · exact ⟨0, rfl⟩
  choose D hD using h
  exact ⟨D, funext fun j => funext fun k => hD j k⟩

theorem rate_real : ∃ a : Fin 32 → ℝ, Step.rate (args m c) = fun k => (a k : EReal) := by
  have h : ∀ k, ∃ r : ℝ, Step.rate (args m c) k = r := fun k => by
    have h := hr.al (ix1 k)
    unfold Step.rate
    generalize (args m c).al (ix1 k) = x at h
    induction x using EReal.rec with
    | bot => exact ⟨0, by show -(0 : EReal) = ((0 : ℝ) : EReal); rw [neg_zero]; rfl⟩
    | coe r => exact ⟨-Real.exp r, rfl⟩
    | top => exact absurd rfl h
  choose a ha using h
  exact ⟨a, funext ha⟩

/-- The steps' block, and the rates'. -/
theorem steps_blk (D : ℕ → Fin 32 → ℝ) (hD : Step.steps (args m c) (batch t) = fun j k => (D j k : EReal)) (i : Fin 64) (k : Fin 128) :
    (iblk m c 2 t : Vec Ideal S64x128 .f32) (ix2 i k) = if h : k.val < 32 then ((D i ⟨k, h⟩ : ℝ) : EReal) else 0 := by
  rw [blk2]
  by_cases hk : k.val < 32
  · rw [dif_pos hk, ← congrFun (congrFun hD i.val) ⟨k, hk⟩]
    rfl
  · rw [dif_neg hk]
    split_ifs
    · exact hr.lanes _ _ (by omega)
    · rfl

omit hr in
theorem rates_blk (a : Fin 32 → ℝ) (ha : Step.rate (args m c) = fun k => (a k : EReal)) (k : Fin 32) (k' : Fin 128) (hk : k'.val = k.val) :
    (iblk m c 7 t : FVec Ideal S1x128 .f32) (ix2 0 k') = ((a k : ℝ) : EReal) := by
  rw [blk7, dif_pos (by omega)]
  rw [show (⟨k'.val, by omega⟩ : Fin 32) = k from Fin.ext hk]
  exact congrFun ha k

omit hr in
theorem rates_zero (k : Fin 128) (hk : 32 ≤ k.val) : (iblk m c 7 t : FVec Ideal S1x128 .f32) (ix2 0 k) = (0 : EReal) := by
  rw [blk7, dif_neg (by omega)]

/-- The state after. -/
theorem final14 : (dats m 0 c).arrAt 14 cfg0.N = (fun y => Step.newState (args m c) (y 0) 64 (y 1) (y 2) : FVec Ideal S16x2048x128 .f32) := by
  refine (dats m 0 c).arrAt_eq_of_covers 14 _ (by decide +kernel) fun t hf y => ?_
  obtain ⟨b, d, n, rfl⟩ : ∃ (b : Fin 1) (d : Fin 2048) (n : Fin 128), y = (ix3 b d n : S1x2048x128.Idx) := ⟨y 0, y 1, y 2, eq_ix3 y⟩
  have h := (out_facts t).2.2
  rw [show ((cfg0.win 14).blk t).view.emb (ix3 b d n : S1x2048x128.Idx) = (ix3 (batch t) d n : S16x2048x128.Idx) from
    idx3_ext (by blk_simp [h.1, batch]) (by blk_simp [h.2.1]) (by blk_simp [h.2.2])]
  blk_simp
  rw [after0_14, state_eq]
  obtain ⟨D, hD⟩ := steps_real m c hr (batch t)
  obtain ⟨a, ha⟩ := rate_real m c hr
  unfold k0_pay1
  pointwise
  refine (state_at (actP m c t) _ (acted_eq m c t) (iblk m c 2 t) (iblk m c 7 t) (iblk m c 8 t) D a (steps_blk m c t hr D hD)
    (rates_blk m c t a ha) (rates_zero m c t) (blk8 m c t) d n (iblk m c 4 t)).trans ?_
  show _ = Step.newState (args m c) (batch t) 64 d n
  unfold Step.newState
  rw [hD, ha]
  exact congrArg (fun h => Step.state _ _ _ h 64 d n) (funext fun d => funext fun n => blk4 m c t 0 d n)

/-- The projected rows. -/
theorem final12 : (dats m 0 c).arrAt 12 cfg0.N
    = (fun y => Step.result (args m c) ⟨(y 0).val / 64, by have : (y 0).val < 1024 := (y 0).isLt; omega⟩ 64 ((y 0).val % 64) (y 1) : FVec Ideal S1024x1024 .f32) := by
  refine (dats m 0 c).arrAt_eq_of_covers 12 _ (by decide +kernel) fun t hf y => ?_
  obtain ⟨i, o, rfl⟩ : ∃ (i : Fin 64) (o : Fin 1024), y = (ix2 i o : S64x1024.Idx) := ⟨y 0, y 1, eq_ix2 y⟩
  have h := (out_facts t).1
  rw [show ((cfg0.win 12).blk t).view.emb (ix2 i o : S64x1024.Idx) = (ix2 (row t i) o : S1024x1024.Idx) from
    Shape.idx_ext₂ (by blk_simp [h.1, row, batch]) (by blk_simp [h.2])]
  blk_simp
  rw [after0_12, out_eq]
  obtain ⟨D, hD⟩ := steps_real m c hr (batch t)
  obtain ⟨a, ha⟩ := rate_real m c hr
  refine (rows_at (actP m c t) _ (acted_eq m c t) (iblk m c 2 t) (iblk m c 7 t) (iblk m c 8 t) D a (steps_blk m c t hr D hD)
    (rates_blk m c t a ha) (rates_zero m c t) (blk8 m c t) i o (iblk m c 4 t) (iblk m c 9 t) (iblk m c 10 t) (iblk m c 1 t) (iblk m c 11 t)).trans ?_
  have e0 : (⟨(row t i).val / 64, by have := (row t i).isLt; omega⟩ : Fin 16) = batch t := Fin.ext (by unfold row; dsimp only; omega)
  have e1 : (row t i).val % 64 = i.val := by unfold row; dsimp only; omega
  refine Eq.trans ?_ (show Step.result (args m c) (batch t) 64 i o
    = Step.result (args m c) ⟨(row t i).val / 64, by have := (row t i).isLt; omega⟩ 64 ((row t i).val % 64) o by rw [e0, e1])
  unfold Step.result
  refine congr (congr (congr (congrArg Step.project (funext fun d => ?_)) (funext fun d => blk10 m c t d)) (funext fun d => funext fun o => blk11 m c t d o)) rfl
  unfold Step.gatedRow
  rw [blk9, blk1, hD, ha]
  exact congrArg (fun h => (Step.out _ _ _ h 64 i d + _) * _) (funext fun d => funext fun n => blk4 m c t 0 d n)

end Cert.SsdIdeal.Hand
-- ==== Proof.Ssd.Ref.lean ====
/-
  The recurrence reference's stages, named.
-/
module

public import proofs.«01_k».proof.Proof.Gen.SsdRefIdeal
public import proofs.«01_k».proof.Proof.Gen.SsdRefIdeal.Run
public import proofs.«01_k».proof.Proof.Ssd.Step
public import Idealize.ShloMosaic.Lib.Pipeline.ValueKit

@[expose] public section

set_option maxRecDepth 16384

noncomputable section

namespace Cert.SsdRefIdeal.Hand

open Cert.SsdRefIdeal Cert.SsdRefIdeal.Gen Idealize.ShloMosaic Idealize.ShloMosaic.TcCoe Idealize.SL.Sem

/-- The rows with the three before them. -/
def padded (cs : FVec Ideal S16x3x3072 .f32) (x : FVec Ideal S512x3072 .f32) : FVec Ideal S16x35x3072 .f32 :=
  concatenate S16x35x3072 1 [⟨S16x3x3072, cs⟩, ⟨S16x32x3072, (shapeCast _ x shapeCasts_S512x3072_S16x32x3072 : FVec Ideal S16x32x3072 .f32)⟩]
    concatenates_S16x3x3072_S16x32x3072_S16x35x3072_d1

/-- A vector over the channels, at every row. -/
def perChannel (v : FVec Ideal S3072 .f32) : FVec Ideal S16x32x3072 .f32 :=
  broadcastInDim S16x32x3072 ![0, 1, 2] bcast_S1x1x3072_S16x32x3072_0_1_2 (broadcastInDim S1x1x3072 ![2] bcast_S3072_S1x1x3072_2 v)

/-- The convolution of four rows. -/
def convolved (X : FVec Ideal S16x35x3072 .f32) (w : FVec Ideal S4x3072 .f32) (b : FVec Ideal S3072 .f32) : FVec Ideal S16x32x3072 .f32 :=
  addf (addf (addf (addf (perChannel b)
    (mulf (extractStridedSlice S16x32x3072 ![0, 0, 0] X slices_S16x35x3072_S16x32x3072_0_0_0)
      (perChannel (shapeCast _ (extractStridedSlice S1x3072 ![0, 0] w slices_S4x3072_S1x3072_0_0) shapeCasts_S1x3072_S3072))))
    (mulf (extractStridedSlice S16x32x3072 ![0, 1, 0] X slices_S16x35x3072_S16x32x3072_0_1_0)
      (perChannel (shapeCast _ (extractStridedSlice S1x3072 ![1, 0] w slices_S4x3072_S1x3072_1_0) shapeCasts_S1x3072_S3072))))
    (mulf (extractStridedSlice S16x32x3072 ![0, 2, 0] X slices_S16x35x3072_S16x32x3072_0_2_0)
      (perChannel (shapeCast _ (extractStridedSlice S1x3072 ![2, 0] w slices_S4x3072_S1x3072_2_0) shapeCasts_S1x3072_S3072))))
    (mulf (extractStridedSlice S16x32x3072 ![0, 3, 0] X slices_S16x35x3072_S16x32x3072_0_3_0)
      (perChannel (shapeCast _ (extractStridedSlice S1x3072 ![3, 0] w slices_S4x3072_S1x3072_3_0) shapeCasts_S1x3072_S3072)))

/-- The silu. -/
def silu (v : FVec Ideal S16x32x3072 .f32) : FVec Ideal S16x32x3072 .f32 :=
  mulf v (Host.divf (broadcastInDim S16x32x3072 ![] bcast_S_S16x32x3072 (constant S_ .f32 0x3F800000#32))
    (addf (broadcastInDim S16x32x3072 ![] bcast_S_S16x32x3072 (constant S_ .f32 0x3F800000#32)) (Host.exp (Host.negf v))))

/-- The three parts of the channels. -/
def inputs (A : FVec Ideal S16x32x3072 .f32) : FVec Ideal S16x32x4x8x64 .f32 :=
  shapeCast _ (extractStridedSlice S16x32x2048 ![0, 0, 0] A slices_S16x32x3072_S16x32x2048_0_0_0) shapeCasts_S16x32x2048_S16x32x4x8x64
def projB (A : FVec Ideal S16x32x3072 .f32) : FVec Ideal S16x32x4x128 .f32 :=
  shapeCast _ (extractStridedSlice S16x32x512 ![0, 0, 2048] A slices_S16x32x3072_S16x32x512_0_0_2048) shapeCasts_S16x32x512_S16x32x4x128
def projC (A : FVec Ideal S16x32x3072 .f32) : FVec Ideal S16x32x4x128 .f32 :=
  shapeCast _ (extractStridedSlice S16x32x512 ![0, 0, 2560] A slices_S16x32x3072_S16x32x512_0_0_2560) shapeCasts_S16x32x512_S16x32x4x128

/-- The steps and the states by head. -/
def stepsOf (dt : FVec Ideal S512x128 .f32) : FVec Ideal S16x32x4x8 .f32 :=
  shapeCast _ (extractStridedSlice S512x32 ![0, 0] dt slices_S512x128_S512x32_0_0) shapeCasts_S512x32_S16x32x4x8
def states (h : FVec Ideal S16x2048x128 .f32) : FVec Ideal S16x4x8x64x128 .f32 := shapeCast _ h shapeCasts_S16x2048x128_S16x4x8x64x128

/-- Step times rate. -/
def rated (dt4 : FVec Ideal S16x32x4x8 .f32) (al : FVec Ideal S32 .f32) : FVec Ideal S16x32x4x8 .f32 :=
  mulf dt4 (broadcastInDim S16x32x4x8 ![0, 1, 2, 3] bcast_S1x1x4x8_S16x32x4x8_0_1_2_3 (broadcastInDim S1x1x4x8 ![2, 3] bcast_S4x8_S1x1x4x8_2_3
    (Host.negf (shapeCast S4x8 (Host.exp al : FVec Ideal S32 .f32) shapeCasts_S32_S4x8 : FVec Ideal S4x8 .f32))))

/-- The running sum over the rows. -/
def running (v : FVec Ideal S16x32x4x8 .f32) : FVec Ideal S16x32x4x8 .f32 :=
  Host.reduceWindowAdd ![1, 32, 1, 1] ![1, 1, 1, 1] ![0, 31, 0, 0] ![0, 0, 0, 0] v (broadcastInDim S_ ![] bcast_S_S_ (constant S_ .f32 0x00000000#32))
    reduceWindows_S16x32x4x8_S16x32x4x8_w1s1p0_0_w32s1p31_0_w1s1p0_0_w1s1p0_0 h_S_

/-- The lower triangle. -/
def lower : IVec S32x32 1 :=
  select (cmpi .sge (addi (iotaInDim S32x32 32 0) (broadcastInDim S32x32 ![] bcast_S_S32x32 (constantI S_ 32 0#32))) (iotaInDim S32x32 32 1))
    (broadcastInDim S32x32 ![] bcast_S_S32x32 (constantI S_ 1 1#1)) (broadcastInDim S32x32 ![] bcast_S_S32x32 (constantI S_ 1 0#1))

/-- The decays between the rows. -/
def decays (cum : FVec Ideal S16x32x4x8 .f32) : FVec Ideal S16x32x32x4x8 .f32 :=
  Host.exp (select (broadcastInDim S16x32x32x4x8 ![0, 1, 2, 3, 4] bcast_S1x32x32x1x1_S16x32x32x4x8_0_1_2_3_4
      (broadcastInDim S1x32x32x1x1 ![1, 2] bcast_S32x32_S1x32x32x1x1_1_2 lower))
    (subf (broadcastInDim S16x32x32x4x8 ![0, 1, 2, 3, 4] bcast_S16x32x1x4x8_S16x32x32x4x8_0_1_2_3_4 (broadcastInDim S16x32x1x4x8 ![0, 1, 3, 4] bcast_S16x32x4x8_S16x32x1x4x8_0_1_3_4 cum))
      (broadcastInDim S16x32x32x4x8 ![0, 1, 2, 3, 4] bcast_S16x1x32x4x8_S16x32x32x4x8_0_1_2_3_4 (broadcastInDim S16x1x32x4x8 ![0, 2, 3, 4] bcast_S16x32x4x8_S16x1x32x4x8_0_2_3_4 cum)))
    (broadcastInDim S16x32x32x4x8 ![] bcast_S_S16x32x32x4x8 (constant S_ .f32 0xFF800000#32)))

/-- The weights of the earlier rows. -/
def weights (B C : FVec Ideal S16x32x4x128 .f32) (dec : FVec Ideal S16x32x32x4x8 .f32) (dt4 : FVec Ideal S16x32x4x8 .f32) : FVec Ideal S16x32x32x4x8 .f32 :=
  mulf (mulf (broadcastInDim S16x32x32x4x8 ![0, 1, 2, 3, 4] bcast_S16x32x32x4x1_S16x32x32x4x8_0_1_2_3_4
      (broadcastInDim S16x32x32x4x1 ![0, 1, 2, 3] bcast_S16x32x32x4_S16x32x32x4x1_0_1_2_3
        (transpose S16x32x32x4 [0, 3, 2, 1] (Host.dotGeneral (F := Ideal) (φ₁ := .f32) (φ₂ := .f32) dot_S16x32x4x128_S16x32x4x128_S16x4x32x32_3_3_1_1_02_02 none B C)
          transposes_S16x4x32x32_S16x32x32x4_0_3_2_1))) dec)
    (broadcastInDim S16x32x32x4x8 ![0, 1, 2, 3, 4] bcast_S16x1x32x4x8_S16x32x32x4x8_0_1_2_3_4 (broadcastInDim S16x1x32x4x8 ![0, 2, 3, 4] bcast_S16x32x4x8_S16x1x32x4x8_0_2_3_4 dt4))

/-- The outputs of the rows, from the earlier rows and from the state. -/
def within (X : FVec Ideal S16x32x4x8x64 .f32) (W : FVec Ideal S16x32x32x4x8 .f32) : FVec Ideal S16x32x4x8x64 .f32 :=
  transpose S16x32x4x8x64 [0, 4, 1, 2, 3] (Host.dotGeneral (F := Ideal) (φ₁ := .f32) (φ₂ := .f32) dot_S16x32x4x8x64_S16x32x32x4x8_S16x4x8x64x32_1_2_4_1_023_034 none X W)
    transposes_S16x4x8x64x32_S16x32x4x8x64_0_4_1_2_3
def across (H : FVec Ideal S16x4x8x64x128 .f32) (C : FVec Ideal S16x32x4x128 .f32) (cum : FVec Ideal S16x32x4x8 .f32) : FVec Ideal S16x32x4x8x64 .f32 :=
  mulf (transpose S16x32x4x8x64 [0, 4, 1, 2, 3] (Host.dotGeneral (F := Ideal) (φ₁ := .f32) (φ₂ := .f32) dot_S16x4x8x64x128_S16x32x4x128_S16x4x8x64x32_4_3_23_1_01_02 none H C)
      transposes_S16x4x8x64x32_S16x32x4x8x64_0_4_1_2_3)
    (broadcastInDim S16x32x4x8x64 ![0, 1, 2, 3, 4] bcast_S16x32x4x8x1_S16x32x4x8x64_0_1_2_3_4
      (broadcastInDim S16x32x4x8x1 ![0, 1, 2, 3] bcast_S16x32x4x8_S16x32x4x8x1_0_1_2_3 (Host.exp cum)))

/-- The decay and step to the last row. -/
def toEnd (cum dt4 : FVec Ideal S16x32x4x8 .f32) : FVec Ideal S16x32x4x8 .f32 :=
  mulf (Host.exp (subf (broadcastInDim S16x32x4x8 ![0, 1, 2, 3] bcast_S16x1x4x8_S16x32x4x8_0_1_2_3
    (extractStridedSlice S16x1x4x8 ![0, 31, 0, 0] cum slices_S16x32x4x8_S16x1x4x8_0_31_0_0)) cum)) dt4

/-- The state after the rows. -/
def newState (H : FVec Ideal S16x4x8x64x128 .f32) (X : FVec Ideal S16x32x4x8x64 .f32) (B : FVec Ideal S16x32x4x128 .f32)
    (cum dt4 : FVec Ideal S16x32x4x8 .f32) : FVec Ideal S16x2048x128 .f32 :=
  shapeCast _ (addf (mulf (broadcastInDim S16x4x8x64x128 ![0, 1, 2, 3, 4] bcast_S16x4x8x1x1_S16x4x8x64x128_0_1_2_3_4
        (broadcastInDim S16x4x8x1x1 ![0, 1, 2] bcast_S16x4x8_S16x4x8x1x1_0_1_2
          (Host.exp (shapeCast S16x4x8 (extractStridedSlice S16x1x4x8 ![0, 31, 0, 0] cum slices_S16x32x4x8_S16x1x4x8_0_31_0_0) shapeCasts_S16x1x4x8_S16x4x8)))) H)
      (Host.dotGeneral (F := Ideal) (φ₁ := .f32) (φ₂ := .f32) dot_S16x32x4x8x64_S16x32x4x128_S16x4x8x64x128_1_1_34_3_02_02 none
        (mulf (broadcastInDim S16x32x4x8x64 ![0, 1, 2, 3, 4] bcast_S16x32x4x8x1_S16x32x4x8x64_0_1_2_3_4
          (broadcastInDim S16x32x4x8x1 ![0, 1, 2, 3] bcast_S16x32x4x8_S16x32x4x8x1_0_1_2_3 (toEnd cum dt4))) X) B))
    shapeCasts_S16x4x8x64x128_S16x2048x128

/-- The outputs with the skipped inputs added, gated. -/
def gated (Y X : FVec Ideal S16x32x4x8x64 .f32) (dsk : FVec Ideal S32 .f32) (z : FVec Ideal S512x2048 .f32) : FVec Ideal S16x32x2048 .f32 :=
  mulf (shapeCast _ (addf Y (mulf X (broadcastInDim S16x32x4x8x64 ![0, 1, 2, 3, 4] bcast_S1x1x4x8x1_S16x32x4x8x64_0_1_2_3_4
      (broadcastInDim S1x1x4x8x1 ![2, 3] bcast_S4x8_S1x1x4x8x1_2_3 (shapeCast S4x8 dsk shapeCasts_S32_S4x8))))) shapeCasts_S16x32x4x8x64_S16x32x2048)
    (shapeCast S16x32x2048 z shapeCasts_S512x2048_S16x32x2048)

/-- The reciprocal root of each group's mean square. -/
def scales (G : FVec Ideal S16x32x4x512 .f32) : FVec Ideal S16x32x4x1 .f32 :=
  Host.rsqrt (addf (Host.divf (broadcastInDim S16x32x4x1 ![0, 1, 2] bcast_S16x32x4_S16x32x4x1_0_1_2
      (Host.reduceAdd (mulf G G) (constant S_ .f32 0x00000000#32) reducesTo_S16x32x4x512_S16x32x4_d3 h_S_))
    (broadcastInDim S16x32x4x1 ![] bcast_S_S16x32x4x1 (constant S_ .f32 0x44000000#32)))
    (broadcastInDim S16x32x4x1 ![] bcast_S_S16x32x4x1 (constant S_ .f32 0x358637BD#32)))

/-- The rows by group. -/
def byGroup (G : FVec Ideal S16x32x2048 .f32) : FVec Ideal S16x32x4x512 .f32 := shapeCast _ G shapeCasts_S16x32x2048_S16x32x4x512

/-- The normed rows, projected. -/
def projected (G : FVec Ideal S16x32x4x512 .f32) (nw : FVec Ideal S2048 .f32) (wo : FVec Ideal S2048x1024 .f32) : FVec Ideal S512x1024 .f32 :=
  Host.dotGeneral (F := Ideal) (φ₁ := .f32) (φ₂ := .f32) dot_S512x2048_S2048x1024_S512x1024_1_0_0_1_n_n none
    (mulf (shapeCast S512x2048 (mulf G (broadcastInDim S16x32x4x512 ![0, 1, 2, 3] bcast_S16x32x4x1_S16x32x4x512_0_1_2_3 (scales G))) shapeCasts_S16x32x4x512_S512x2048)
      (broadcastInDim S512x2048 ![0, 1] bcast_S1x2048_S512x2048_0_1 (broadcastInDim S1x2048 ![1] bcast_S2048_S1x2048_1 nw))) wo

variable (m : (ℓ : Loc nD τ sig) → Buf (Elt Ideal) ℓ) (c : Dev nD)

/-- The arguments' values, named by what they are. -/
abbrev aX : FVec Ideal S512x3072 .f32 := m ((c.tc : Thread nD τ).loc main_arg0)
abbrev aZ : FVec Ideal S512x2048 .f32 := m ((c.tc : Thread nD τ).loc main_arg1)
abbrev aDt : FVec Ideal S512x128 .f32 := m ((c.tc : Thread nD τ).loc main_arg2)
abbrev aConv : FVec Ideal S16x3x3072 .f32 := m ((c.tc : Thread nD τ).loc main_arg3)
abbrev aH : FVec Ideal S16x2048x128 .f32 := m ((c.tc : Thread nD τ).loc main_arg4)
abbrev aW : FVec Ideal S4x3072 .f32 := m ((c.tc : Thread nD τ).loc main_arg5)
abbrev aB : FVec Ideal S3072 .f32 := m ((c.tc : Thread nD τ).loc main_arg6)
abbrev aLog : FVec Ideal S32 .f32 := m ((c.tc : Thread nD τ).loc main_arg7)
abbrev aSkip : FVec Ideal S32 .f32 := m ((c.tc : Thread nD τ).loc main_arg8)
abbrev aNorm : FVec Ideal S2048 .f32 := m ((c.tc : Thread nD τ).loc main_arg9)
abbrev aO : FVec Ideal S2048x1024 .f32 := m ((c.tc : Thread nD τ).loc main_arg10)

/-- The activated rows, the steps and their running sums, of the arguments. -/
def acts : FVec Ideal S16x32x3072 .f32 := silu (convolved (padded (aConv m c) (aX m c)) (aW m c) (aB m c))
def cums : FVec Ideal S16x32x4x8 .f32 := running (rated (stepsOf (aDt m c)) (aLog m c))

/-- The outputs before the gate. -/
def outs : FVec Ideal S16x32x4x8x64 .f32 :=
  addf (within (inputs (acts m c)) (weights (projB (acts m c)) (projC (acts m c)) (decays (cums m c)) (stepsOf (aDt m c))))
    (across (states (aH m c)) (projC (acts m c)) (cums m c))

/-- What the reference returns first. -/
theorem res_out : Cert.SsdRefIdeal.Value.res_out0 m c
    = projected (byGroup (gated (outs m c) (inputs (acts m c)) (aSkip m c) (aZ m c))) (aNorm m c) (aO m c) := rfl

/-- What it returns last. -/
theorem res_state : Cert.SsdRefIdeal.Value.res_out2 m c
    = newState (states (aH m c)) (inputs (acts m c)) (projB (acts m c)) (cums m c) (stepsOf (aDt m c)) := rfl

end Cert.SsdRefIdeal.Hand
-- ==== Proof.Ssd.RefAt.lean ====
/-
  The recurrence reference's stages entry by entry.
-/
module

public import proofs.«01_k».proof.Proof.Ssd.Ref

@[expose] public section

set_option maxRecDepth 16384

noncomputable section

namespace Cert.SsdRefIdeal.Hand

open Cert.SsdRefIdeal Cert.SsdRefIdeal.Gen Idealize.ShloMosaic Idealize.ShloMosaic.TcCoe Idealize.SL.Sem

theorem padded_at (cs : FVec Ideal S16x3x3072 .f32) (x : FVec Ideal S512x3072 .f32) (b : Fin 16) (r : Fin 35) (l : Fin 3072) :
    padded cs x (ix3 b r l) = if h : r.val < 3 then cs (ix3 b ⟨r, h⟩ l) else x (ix2 ⟨b * 32 + (r - 3), by omega⟩ l) := by
  pointwise [padded]

theorem perChannel_at (v : FVec Ideal S3072 .f32) (b : Fin 16) (r : Fin 32) (l : Fin 3072) :
    perChannel v (ix3 b r l) = v (ix1 l) := by
  pointwise [perChannel]

theorem convolved_at (X : FVec Ideal S16x35x3072 .f32) (w : FVec Ideal S4x3072 .f32) (v : FVec Ideal S3072 .f32)
    (b : Fin 16) (r : Fin 32) (l : Fin 3072) :
    convolved X w v (ix3 b r l) = v (ix1 l) + X (ix3 b ⟨r, by omega⟩ l) * w (ix2 0 l) + X (ix3 b ⟨r + 1, by omega⟩ l) * w (ix2 1 l)
      + X (ix3 b ⟨r + 2, by omega⟩ l) * w (ix2 2 l) + X (ix3 b ⟨r + 3, by omega⟩ l) * w (ix2 3 l) := by
  pointwise [convolved, perChannel_at]
  simp only [Nat.add_comm]

theorem silu_at (v : FVec Ideal S16x32x3072 .f32) (i : S16x32x3072.Idx) : silu v i = v i * Func.sigmoid (v i) := by
  pointwise [silu, Func.sigmoid]

theorem inputs_at (A : FVec Ideal S16x32x3072 .f32) (b : Fin 16) (i : Fin 32) (g : Fin 4) (r : Fin 8) (p : Fin 64) :
    inputs A (ix5 b i g r p) = A (ix3 b i ⟨g * 512 + r * 64 + p, by omega⟩) := by
  pointwise [inputs]

theorem projB_at (A : FVec Ideal S16x32x3072 .f32) (b : Fin 16) (i : Fin 32) (g : Fin 4) (n : Fin 128) :
    projB A (ix4 b i g n) = A (ix3 b i ⟨2048 + (g * 128 + n), by omega⟩) := by
  pointwise [projB]

theorem projC_at (A : FVec Ideal S16x32x3072 .f32) (b : Fin 16) (i : Fin 32) (g : Fin 4) (n : Fin 128) :
    projC A (ix4 b i g n) = A (ix3 b i ⟨2560 + (g * 128 + n), by omega⟩) := by
  pointwise [projC]

theorem stepsOf_at (dt : FVec Ideal S512x128 .f32) (b : Fin 16) (i : Fin 32) (g : Fin 4) (r : Fin 8) :
    stepsOf dt (ix4 b i g r) = dt (ix2 ⟨b * 32 + i, by omega⟩ ⟨g * 8 + r, by omega⟩) := by
  pointwise [stepsOf]

theorem states_at (h : FVec Ideal S16x2048x128 .f32) (b : Fin 16) (g : Fin 4) (r : Fin 8) (p : Fin 64) (n : Fin 128) :
    states h (ix5 b g r p n) = h (ix3 b ⟨g * 512 + r * 64 + p, by omega⟩ n) := by
  pointwise [states]

theorem rated_at (v : FVec Ideal S16x32x4x8 .f32) (al : FVec Ideal S32 .f32) (b : Fin 16) (i : Fin 32) (g : Fin 4) (r : Fin 8) :
    rated v al (ix4 b i g r) = v (ix4 b i g r) * -Ideal.exp (al (ix1 ⟨g * 8 + r, by omega⟩)) := by
  pointwise [rated]

theorem lower_at (i j : Fin 32) : lower (ix2 i j) = if j.val ≤ i.val then 1#1 else 0#1 := by
  pointwise [lower]
  revert i j
  decide +kernel

theorem bits_bot : Ideal.ofBits .f32 0xFF800000#32 = ⊥ := by
  simp [Ideal.ofBits, Ideal.ieee]

/-- The positions of a window of 32 rows are its rows. -/
def windowRow : (⟨4, ![1, 32, 1, 1]⟩ : Shape).Idx ≃ Fin 32 where
  toFun w := w 1
  invFun k := ix4 0 k 0 0
  left_inv w := by
    rw [eq_ix4 w]
    exact congrArg₂ (fun a b => ix4 a (w 1) b 0) (Subsingleton.elim _ _) (Subsingleton.elim _ _) |>.trans
      (congrArg (ix4 (w 0) (w 1) (w 2)) (Subsingleton.elim _ _))
  right_inv _ := rfl

/-- A window position's term: the row it reads, or zero above the first row. -/
theorem window_at (v : FVec Ideal S16x32x4x8 .f32) (b : Fin 16) (i : Fin 32) (g : Fin 4) (r : Fin 8) (f : ℕ → EReal)
    (hf : ∀ j : Fin 32, v (ix4 b j g r) = f j) (w : (⟨4, ![1, 32, 1, 1]⟩ : Shape).Idx)
    [inst : Decidable (∀ a : Fin 4, (![0, 31, 0, 0] : Fin 4 → ℕ) a ≤ (ix4 b i g r a).val * (![1, 1, 1, 1] : Fin 4 → ℕ) a + (w a).val
        ∧ (ix4 b i g r a).val * (![1, 1, 1, 1] : Fin 4 → ℕ) a + (w a).val - (![0, 31, 0, 0] : Fin 4 → ℕ) a < S16x32x4x8.size a)] :
    (if hin : ∀ a : Fin 4, (![0, 31, 0, 0] : Fin 4 → ℕ) a ≤ (ix4 b i g r a).val * (![1, 1, 1, 1] : Fin 4 → ℕ) a + (w a).val
        ∧ (ix4 b i g r a).val * (![1, 1, 1, 1] : Fin 4 → ℕ) a + (w a).val - (![0, 31, 0, 0] : Fin 4 → ℕ) a < S16x32x4x8.size a then
      v fun a => ⟨(ix4 b i g r a).val * (![1, 1, 1, 1] : Fin 4 → ℕ) a + (w a).val - (![0, 31, 0, 0] : Fin 4 → ℕ) a, (hin a).2⟩ else (0 : EReal))
      = if 31 ≤ i.val + (w 1).val then f (i.val + (w 1).val - 31) else 0 := by
  have w0 : (w 0).val = 0 := Nat.lt_one_iff.1 (w 0).isLt
  have w2 : (w 2).val = 0 := Nat.lt_one_iff.1 (w 2).isLt
  have w3 : (w 3).val = 0 := Nat.lt_one_iff.1 (w 3).isLt
  have w1 : (w 1).val < 32 := (w 1).isLt
  split_ifs with hin h h
  · refine Eq.trans (congrArg v (funext fun a => Fin.ext ?_)) (hf ⟨i.val + (w 1).val - 31, by omega⟩)
    match a with
    | ⟨0, _⟩ => show b.val * 1 + (w 0).val - 0 = b.val; omega
    | ⟨1, _⟩ => show i.val * 1 + (w 1).val - 31 = i.val + (w 1).val - 31; omega
    | ⟨2, _⟩ => show g.val * 1 + (w 2).val - 0 = g.val; omega
    | ⟨3, _⟩ => show r.val * 1 + (w 3).val - 0 = r.val; omega
  · exact absurd (show 31 ≤ i.val * 1 + (w 1).val from (hin 1).1) (by omega)
  · refine absurd (fun a => ?_) hin
    match a with
    | ⟨0, _⟩ => show 0 ≤ b.val * 1 + (w 0).val ∧ b.val * 1 + (w 0).val - 0 < 16; omega
    | ⟨1, _⟩ => show 31 ≤ i.val * 1 + (w 1).val ∧ i.val * 1 + (w 1).val - 31 < 32; omega
    | ⟨2, _⟩ => show 0 ≤ g.val * 1 + (w 2).val ∧ g.val * 1 + (w 2).val - 0 < 4; omega
    | ⟨3, _⟩ => show 0 ≤ r.val * 1 + (w 3).val ∧ r.val * 1 + (w 3).val - 0 < 8; omega
  · rfl

/-- The running sum's entry: the sum of the rows up to and with it. -/
theorem running_at (v : FVec Ideal S16x32x4x8 .f32) (b : Fin 16) (i : Fin 32) (g : Fin 4) (r : Fin 8) (f : ℕ → EReal)
    (hf : ∀ j : Fin 32, v (ix4 b j g r) = f j) : running v (ix4 b i g r) = ∑ j ∈ Finset.range (i.val + 1), f j := by
  have hz : (broadcastInDim S_ ![] bcast_S_S_ (constant S_ .f32 0x00000000#32) : FVec Ideal S_ .f32) (Shape.Idx.first h_S_) = (0 : EReal) := by
    simp [broadcastInDim, constant, Ideal.ofBits, Ideal.ieee]
  have fold : ∀ {ι : Type} (L : List ι) (F : ι → EReal) (z : EReal), L.foldl (fun q n => q + F n) z = z + (L.map F).sum := fun L F => by
    induction L with
    | nil => simp
    | cons n L ih => intro z; rw [List.foldl_cons, ih, List.map_cons, List.sum_cons, add_assoc]
  have e : running v = Ideal.hostReduceWindowAdd ![1, 32, 1, 1] ![1, 1, 1, 1] ![0, 31, 0, 0] ![0, 0, 0, 0]
      reduceWindows_S16x32x4x8_S16x32x4x8_w1s1p0_0_w32s1p31_0_w1s1p0_0_w1s1p0_0 v
      ((broadcastInDim S_ ![] bcast_S_S_ (constant S_ .f32 0x00000000#32) : FVec Ideal S_ .f32) (Shape.Idx.first h_S_)) := rfl
  rw [e, hz]
  unfold Ideal.hostReduceWindowAdd Host.reduceWindow
  dsimp only
  rw [fold, zero_add, ← List.ofFn_eq_map, List.sum_ofFn]
  refine (Fintype.sum_equiv ((Shape.rowMajor ⟨4, ![1, 32, 1, 1]⟩).symm.trans windowRow) _
    (fun k : Fin 32 => (fun k : ℕ => if 31 ≤ i.val + k then f (i.val + k - 31) else 0) k) fun n => ?_).trans ?_
  · have key := window_at v b i g r f hf ((Shape.rowMajor ⟨4, ![1, 32, 1, 1]⟩).symm n)
    refine Eq.trans ?_ key
    exact dite_congr rfl (fun _ => rfl) fun _ => rfl
  · rw [Fin.sum_univ_eq_sum_range (fun k : ℕ => if 31 ≤ i.val + k then f (i.val + k - 31) else 0),
      show Finset.range 32 = Finset.range ((31 - i.val) + (i.val + 1)) from congrArg _ (by omega), Finset.sum_range_add,
      Finset.sum_eq_zero fun k hk => if_neg (by rw [Finset.mem_range] at hk; omega), zero_add]
    refine Finset.sum_congr rfl fun k _ => ?_
    rw [if_pos (by omega)]
    exact congrArg f (by omega)

theorem decays_at (cum : FVec Ideal S16x32x4x8 .f32) (b : Fin 16) (i j : Fin 32) (g : Fin 4) (r : Fin 8) :
    decays cum (ix5 b i j g r) = Ideal.exp (if j.val ≤ i.val then cum (ix4 b i g r) - cum (ix4 b j g r) else ⊥) := by
  pointwise [decays, lower_at, bits_bot]
  split_ifs <;> rfl

theorem weights_at (B C : FVec Ideal S16x32x4x128 .f32) (dec : FVec Ideal S16x32x32x4x8 .f32) (v : FVec Ideal S16x32x4x8 .f32)
    (b : Fin 16) (i j : Fin 32) (g : Fin 4) (r : Fin 8) :
    weights B C dec v (ix5 b i j g r) = (∑ n : Fin 128, B (ix4 b j g n) * C (ix4 b i g n)) * dec (ix5 b i j g r) * v (ix4 b j g r) := by
  pointwise [weights]

theorem within_at (X : FVec Ideal S16x32x4x8x64 .f32) (W : FVec Ideal S16x32x32x4x8 .f32)
    (b : Fin 16) (i : Fin 32) (g : Fin 4) (r : Fin 8) (p : Fin 64) :
    within X W (ix5 b i g r p) = ∑ j : Fin 32, X (ix5 b j g r p) * W (ix5 b i j g r) := by
  pointwise [within]

theorem across_at (H : FVec Ideal S16x4x8x64x128 .f32) (C : FVec Ideal S16x32x4x128 .f32) (cum : FVec Ideal S16x32x4x8 .f32)
    (b : Fin 16) (i : Fin 32) (g : Fin 4) (r : Fin 8) (p : Fin 64) :
    across H C cum (ix5 b i g r p) = (∑ n : Fin 128, H (ix5 b g r p n) * C (ix4 b i g n)) * Ideal.exp (cum (ix4 b i g r)) := by
  pointwise [across]

theorem toEnd_at (cum v : FVec Ideal S16x32x4x8 .f32) (b : Fin 16) (i : Fin 32) (g : Fin 4) (r : Fin 8) :
    toEnd cum v (ix4 b i g r) = Ideal.exp (cum (ix4 b 31 g r) - cum (ix4 b i g r)) * v (ix4 b i g r) := by
  pointwise [toEnd]

theorem newState_at (H : FVec Ideal S16x4x8x64x128 .f32) (X : FVec Ideal S16x32x4x8x64 .f32) (B : FVec Ideal S16x32x4x128 .f32)
    (cum v : FVec Ideal S16x32x4x8 .f32) (b : Fin 16) (c : Fin 2048) (n : Fin 128) :
    newState H X B cum v (ix3 b c n) =
      Ideal.exp (cum (ix4 b 31 ⟨c / 512, by omega⟩ ⟨c / 64 % 8, by omega⟩)) * H (ix5 b ⟨c / 512, by omega⟩ ⟨c / 64 % 8, by omega⟩ ⟨c % 64, by omega⟩ n)
        + ∑ j : Fin 32, toEnd cum v (ix4 b j ⟨c / 512, by omega⟩ ⟨c / 64 % 8, by omega⟩)
          * X (ix5 b j ⟨c / 512, by omega⟩ ⟨c / 64 % 8, by omega⟩ ⟨c % 64, by omega⟩) * B (ix4 b j ⟨c / 512, by omega⟩ n) := by
  pointwise [newState]

theorem gated_at (Y X : FVec Ideal S16x32x4x8x64 .f32) (dsk : FVec Ideal S32 .f32) (z : FVec Ideal S512x2048 .f32)
    (b : Fin 16) (i : Fin 32) (c : Fin 2048) :
    gated Y X dsk z (ix3 b i c) =
      (Y (ix5 b i ⟨c / 512, by omega⟩ ⟨c / 64 % 8, by omega⟩ ⟨c % 64, by omega⟩)
        + X (ix5 b i ⟨c / 512, by omega⟩ ⟨c / 64 % 8, by omega⟩ ⟨c % 64, by omega⟩) * dsk (ix1 ⟨c / 512 * 8 + c / 64 % 8, by omega⟩)) * z (ix2 ⟨b * 32 + i, by omega⟩ c) := by
  pointwise [gated]

theorem byGroup_at (G : FVec Ideal S16x32x2048 .f32) (b : Fin 16) (i : Fin 32) (g : Fin 4) (e : Fin 512) :
    byGroup G (ix4 b i g e) = G (ix3 b i ⟨g * 512 + e, by omega⟩) := by
  pointwise [byGroup]

theorem scales_at (G : FVec Ideal S16x32x4x512 .f32) (b : Fin 16) (i : Fin 32) (g : Fin 4) (z : Fin 1) :
    scales G (ix4 b i g z) = Ideal.rsqrt (Ideal.div (∑ e : Fin 512, G (ix4 b i g e) * G (ix4 b i g e)) (Ideal.ofBits .f32 0x44000000#32)
      + Ideal.ofBits .f32 0x358637BD#32) := by
  pointwise [scales]

theorem projected_at (G : FVec Ideal S16x32x4x512 .f32) (nw : FVec Ideal S2048 .f32) (wo : FVec Ideal S2048x1024 .f32)
    (b : Fin 16) (i : Fin 32) (o : Fin 1024) :
    projected G nw wo (ix2 ⟨b * 32 + i, by omega⟩ o) =
      ∑ c : Fin 2048, G (ix4 b i ⟨c / 512, by omega⟩ ⟨c % 512, by omega⟩) * scales G (ix4 b i ⟨c / 512, by omega⟩ 0) * nw (ix1 c) * wo (ix2 c o) := by
  pointwise [projected]

end Cert.SsdRefIdeal.Hand
-- ==== Proof.Ssd.RefBody.lean ====
/-
  The recurrence reference's results entry by entry: the batch's formulas of the arguments.
-/
module

public import proofs.«01_k».proof.Proof.Ssd.RefAt
public import proofs.«01_k».proof.Proof.Ssd.Spec

@[expose] public section

set_option maxRecDepth 16384

noncomputable section

namespace Cert.SsdRefIdeal.Hand

open Cert.SsdRefIdeal Cert.SsdRefIdeal.Gen Idealize.ShloMosaic Idealize.ShloMosaic.TcCoe Idealize.SL.Sem

variable (m : (ℓ : Loc nD τ sig) → Buf (Elt Ideal) ℓ) (c : Dev nD)

/-- The call's arguments. -/
def args : Step.Args := ⟨aX m c, aZ m c, aDt m c, aConv m c, aH m c, aW m c, aB m c, aLog m c, aSkip m c, aNorm m c, aO m c⟩

variable (b : Fin 16)

theorem rows_eq (r : Fin 35) (l : Fin 3072) : padded (aConv m c) (aX m c) (ix3 b r l) = Step.rows (args m c) b r l := by
  rw [padded_at]
  unfold Step.rows
  split_ifs with h h'
  · rfl
  · rfl
  · exact absurd r.isLt h'

theorem acts_eq (i : Fin 32) (l : Fin 3072) : acts m c (ix3 b i l) = Step.acted (args m c) b i l := by
  unfold acts
  rw [silu_at, convolved_at, rows_eq, rows_eq, rows_eq, rows_eq]
  rfl

theorem inputs_eq (i : Fin 32) (d : Fin 2048) :
    inputs (acts m c) (ix5 b i ⟨d / 512, by omega⟩ ⟨d / 64 % 8, by omega⟩ ⟨d % 64, by omega⟩) = Step.xs (Step.acted (args m c) b) i d := by
  rw [inputs_at, acts_eq]
  exact congrArg (Step.acted (args m c) b i) (Fin.ext (by dsimp only; omega))

theorem projB_eq (i : Fin 32) (g : Fin 4) (n : Fin 128) : projB (acts m c) (ix4 b i g n) = Step.bm (Step.acted (args m c) b) i g n := by
  rw [projB_at, acts_eq]
  exact congrArg (Step.acted (args m c) b i) (Fin.ext (by dsimp only; omega))

theorem projC_eq (i : Fin 32) (g : Fin 4) (n : Fin 128) : projC (acts m c) (ix4 b i g n) = Step.cm (Step.acted (args m c) b) i g n := by
  rw [projC_at, acts_eq]
  exact congrArg (Step.acted (args m c) b i) (Fin.ext (by dsimp only; omega))

theorem steps_eq (i : Fin 32) (d : Fin 2048) :
    stepsOf (aDt m c) (ix4 b i ⟨d / 512, by omega⟩ ⟨d / 64 % 8, by omega⟩) = Step.steps (args m c) b i (Step.head d) := by
  rw [stepsOf_at]
  unfold Step.steps
  rw [dif_pos i.isLt]
  exact congrArg (fun k => aDt m c (ix2 _ k)) (Fin.ext (by unfold Step.head; dsimp only; omega))

theorem cums_eq (i : Fin 32) (d : Fin 2048) :
    cums m c (ix4 b i ⟨d / 512, by omega⟩ ⟨d / 64 % 8, by omega⟩) = Step.cum (Step.steps (args m c) b) (Step.rate (args m c)) i (Step.head d) := by
  unfold cums
  refine running_at _ b i _ _ (fun j => Step.steps (args m c) b j (Step.head d) * Step.rate (args m c) (Step.head d)) fun j => ?_
  rw [rated_at, steps_eq]
  exact congrArg (fun k => Step.steps (args m c) b j (Step.head d) * -Ideal.exp (aLog m c (ix1 k)))
    (Fin.ext (by unfold Step.head; dsimp only; omega))

theorem states_eq (d : Fin 2048) (n : Fin 128) :
    states (aH m c) (ix5 b ⟨d / 512, by omega⟩ ⟨d / 64 % 8, by omega⟩ ⟨d % 64, by omega⟩ n) = aH m c (ix3 b d n) := by
  rw [states_at]
  exact congrArg (fun k => aH m c (ix3 b k n)) (Fin.ext (by dsimp only; omega))

theorem decays_eq (i j : Fin 32) (d : Fin 2048) :
    decays (cums m c) (ix5 b i j ⟨d / 512, by omega⟩ ⟨d / 64 % 8, by omega⟩)
      = Step.decay (Step.steps (args m c) b) (Step.rate (args m c)) i j (Step.head d) := by
  rw [decays_at, cums_eq, cums_eq]
  rfl

/-- The outputs before the gate. -/
theorem outs_eq (i : Fin 32) (d : Fin 2048) :
    outs m c (ix5 b i ⟨d / 512, by omega⟩ ⟨d / 64 % 8, by omega⟩ ⟨d % 64, by omega⟩)
      = Step.out (Step.acted (args m c) b) (Step.steps (args m c) b) (Step.rate (args m c)) (fun c' n => aH m c (ix3 b c' n)) 32 i d := by
  show within _ _ _ + across _ _ _ _ = _
  rw [within_at, across_at, cums_eq]
  unfold Step.out
  refine congrArg₂ (· + ·) (Finset.sum_congr (M := EReal) rfl fun j _ => ?_) (congrArg (· * _) (Finset.sum_congr (M := EReal) rfl fun n _ => ?_))
  · rw [weights_at, inputs_eq, steps_eq, decays_eq, mul_comm, mul_assoc _ (Step.steps _ _ _ _), mul_comm (Step.steps _ _ _ _)]
    refine congrArg (fun s => s * _ * _) (Finset.sum_congr (M := EReal) rfl fun n _ => ?_)
    rw [projB_eq, projC_eq, mul_comm]
    rfl
  · rw [states_eq, projC_eq, mul_comm]
    rfl

/-- The new state. -/
theorem res_state_at (d : Fin 2048) (n : Fin 128) :
    Cert.SsdRefIdeal.Value.res_out2 m c (ix3 b d n : S16x2048x128.Idx) = Step.newState (args m c) b 32 d n := by
  rw [res_state, newState_at, cums_eq, states_eq, mul_comm]
  unfold Step.newState Step.state
  refine congrArg₂ (· + ·) rfl (Finset.sum_congr (M := EReal) rfl fun j _ => ?_)
  rw [toEnd_at, cums_eq, cums_eq, steps_eq, inputs_eq, projB_eq, mul_comm]
  refine congrArg (Step.bm _ _ _ _ * ·) ?_
  rw [mul_comm, mul_comm (Ideal.exp _), ← mul_assoc]
  rfl

/-- The gated outputs. -/
theorem gated_eq (i : Fin 32) (d : Fin 2048) :
    gated (outs m c) (inputs (acts m c)) (aSkip m c) (aZ m c) (ix3 b i d) = Step.gatedRow (args m c) b 32 i d := by
  rw [gated_at, outs_eq, inputs_eq]
  unfold Step.gatedRow Step.gate
  rw [dif_pos i.isLt]
  exact congrArg (fun k => (_ + _ * aSkip m c (ix1 k)) * _) (Fin.ext (by unfold Step.head; dsimp only; omega))

/-- The result's rows. -/
theorem res_out_at (i : Fin 32) (o : Fin 1024) :
    Cert.SsdRefIdeal.Value.res_out0 m c (ix2 ⟨b * 32 + i, by omega⟩ o : S512x1024.Idx) = Step.result (args m c) b 32 i o := by
  rw [res_out, projected_at]
  unfold Step.result Step.project
  refine Finset.sum_congr (M := EReal) rfl fun d _ => ?_
  rw [scales_at, byGroup_at, gated_eq]
  refine congrArg₂ (fun s t : EReal => s * t * _ * _) (congrArg (Step.gatedRow (args m c) b 32 i) (Fin.ext (by dsimp only; omega))) ?_
  unfold Step.scale
  refine congrArg (fun s => Ideal.rsqrt (Ideal.div s _ + _)) (Finset.sum_congr (M := EReal) rfl fun e _ => ?_)
  rw [byGroup_at, gated_eq]
  exact congrArg (fun k => Step.gatedRow (args m c) b 32 i k * Step.gatedRow (args m c) b 32 i k)
    (Fin.ext (by unfold Step.group; dsimp only; omega))

/-- The kept rows: the last three. -/
theorem kept_at (r : Fin 3) (l : Fin 3072) :
    (extractStridedSlice S16x3x3072 ![0, 32, 0] (padded (aConv m c) (aX m c)) slices_S16x35x3072_S16x3x3072_0_32_0 : FVec Ideal S16x3x3072 .f32) (ix3 b r l)
      = Step.rows (args m c) b (32 + r) l := by
  pointwise
  rw [← rows_eq m c b ⟨32 + r, by omega⟩]

end Cert.SsdRefIdeal.Hand
-- ==== Proof.Ssd.Value.lean ====
/-
  The recurrence call and its reference end with equal results, where the steps and the rates are real numbers.
-/
module

public import proofs.«01_k».proof.Defs
public import proofs.«01_k».proof.Proof.Attn.Value
public import proofs.«01_k».proof.Proof.Ssd.Final
public import proofs.«01_k».proof.Proof.Ssd.RefBody
public import Idealize.ShloMosaic.Lib.ReduceAll

@[expose] public section

set_option maxRecDepth 16384

noncomputable section

namespace Cert.SsdIdeal.Hand

open Cert.SsdIdeal Cert.SsdIdeal.Gen Idealize.ShloMosaic Idealize.ShloMosaic.TcCoe Idealize.SL.Sem

variable (m : (ℓ : Loc nD τ sig) → Buf (Elt Ideal) ℓ) (c : Dev nD)

/-- Every batch's first 32 rows of 64, one after another. -/
def firstRows (v : FVec Ideal S1024x1024 .f32) : FVec Ideal S512x1024 .f32 :=
  shapeCast S512x1024 (extractStridedSlice S16x32x1024 ![0, 0, 0] (shapeCast S16x64x1024 v shapeCasts_S1024x1024_S16x64x1024 : FVec Ideal S16x64x1024 .f32)
    slices_S16x64x1024_S16x32x1024_0_0_0 : FVec Ideal S16x32x1024 .f32) shapeCasts_S16x32x1024_S512x1024

theorem firstRows_at (v : FVec Ideal S1024x1024 .f32) (i : Fin 512) (o : Fin 1024) :
    firstRows v (ix2 i o) = v (ix2 ⟨i.val / 32 * 64 + i.val % 32, by omega⟩ o) := by
  pointwise [firstRows]

/-- The first result after the lines that follow the region. -/
theorem after_main_v36 : Pipeline.afterTail₀ cfgs (dats m) 0 (V0 m) [hostOps1] c main_v36 = firstRows ((dats m 0 c).arrAt 12 cfg0.N) := by
  have e : Pipeline.withArrays (cfgs 0).spec c (V0 m c) (fun w => (dats m 0 c).arrAt w (cfgs 0).N) (Proc.devRef .tc main_v33_0)
      = (dats m 0 c).arrAt 12 cfg0.N :=
    Pipeline.withArrays_arr spec0 (by decide) c (V0 m c) (fun w => (dats m 0 c).arrAt w (cfgs 0).N) 12
  rw [← e]
  unfold Pipeline.afterTail₀
  simp only [hostOps1, List.flatten_cons, List.flatten_nil, List.append_nil, List.cons_append, List.nil_append]
  after_results
  rfl

/-- The three results, of the arguments. -/
def outRows (P : Step.Args) : FVec Ideal S512x1024 .f32 := fun y =>
  Step.result P ⟨(y 0).val / 32, by have : (y 0).val < 512 := (y 0).isLt; omega⟩ 32 ((y 0).val % 32) (y 1)

def keptRows (P : Step.Args) : FVec Ideal S16x3x3072 .f32 := fun y => Step.rows P (y 0) (32 + (y 1).val) (y 2)

def stateAfter (P : Step.Args) : FVec Ideal S16x2048x128 .f32 := fun y => Step.newState P (y 0) 32 (y 1) (y 2)

/-- A padded row's result is its batch's, of the 32 rows there are. -/
theorem row_eq (P : Step.Args) (i : Fin 512) (o : Fin 1024) (h : (i.val / 32 * 64 + i.val % 32) / 64 < 16) :
    Step.result P ⟨(i.val / 32 * 64 + i.val % 32) / 64, h⟩ 64 ((i.val / 32 * 64 + i.val % 32) % 64) o
      = Step.result P ⟨i.val / 32, by omega⟩ 32 (i.val % 32) o := by
  have e0 : (⟨(i.val / 32 * 64 + i.val % 32) / 64, h⟩ : Fin 16) = ⟨i.val / 32, by omega⟩ := Fin.ext (by dsimp only; omega)
  have e1 : (i.val / 32 * 64 + i.val % 32) % 64 = i.val % 32 := by omega
  rw [e0, e1]
  exact Step.result_pad P _ (i.val % 32) o

/-- The padded rows' results. -/
def paddedRows (P : Step.Args) : FVec Ideal S1024x1024 .f32 := fun y =>
  Step.result P ⟨(y 0).val / 64, by have : (y 0).val < 1024 := (y 0).isLt; omega⟩ 64 ((y 0).val % 64) (y 1)

theorem paddedRows_at (P : Step.Args) (i : Fin 1024) (o : Fin 1024) :
    paddedRows P (ix2 i o) = Step.result P ⟨i.val / 64, by omega⟩ 64 (i.val % 64) o := rfl

/-- The call's first result. -/
theorem first_eq (hr : Real m c) : firstRows ((dats m 0 c).arrAt 12 cfg0.N) = outRows (args m c) := by
  rw [show (dats m 0 c).arrAt 12 cfg0.N = paddedRows (args m c) from final12 m c hr]
  generalize args m c = P
  funext y
  obtain ⟨i, o, rfl⟩ : ∃ (i : Fin 512) (o : Fin 1024), y = (ix2 i o : S512x1024.Idx) := ⟨y 0, y 1, eq_ix2 y⟩
  rw [firstRows_at, paddedRows_at]
  exact row_eq P i o _

theorem third_eq (hr : Real m c) : (dats m 0 c).arrAt 14 cfg0.N = stateAfter (args m c) := by
  rw [final14 m c hr]
  funext y
  exact Step.newState_pad (args m c) (y 0) (y 1) (y 2)

end Cert.SsdIdeal.Hand

namespace Cert.Proof

open Idealize.ShloMosaic Idealize.SL.Sem

/-- The side conditions of the printed precondition. -/
theorem steps_facts : Cert.Pre_steps.Facts where
  bcast_S_S512x128 := by decide
  reducesTo_S512x128_S_d0_1 := by decide
  h_S_ := by decide
  bcast_S_S32 := by decide
  reducesTo_S32_S_d0 := by decide
  slices_S512x128_S512x96_0_32 := by decide
  bcast_S_S512x96 := by decide
  reducesTo_S512x96_S_d0_1 := by decide

instance : Cert.Pre_steps.Facts := steps_facts

/-- An element that compares equal to zero is zero. -/
theorem zero_of_cmp {x : EReal} (h : Ideal.cmp .oeq x (Ideal.ofBits .f32 0x00000000#32) = 1#1) : x = 0 := by
  have ht : Ideal.ofBits .f32 0x00000000#32 = 0 := by simp [Ideal.ofBits, Ideal.ieee]
  rw [ht] at h
  by_contra hn
  simp [Ideal.cmp, hn] at h

/-- An element that compares below infinity is not infinity. -/
theorem ne_top_of_cmp {x : EReal} (h : Ideal.cmp .olt x (Ideal.ofBits .f32 0x7F800000#32) = 1#1) : x ≠ ⊤ := by
  have ht : Ideal.ofBits .f32 0x7F800000#32 = ⊤ := by simp [Ideal.ofBits, Ideal.ieee]
  rw [ht] at h
  rintro rfl
  simp [Ideal.cmp] at h

/-- The steps' lanes past the heads. -/
theorem lanes_at (v : FVec Ideal Cert.Pre_steps.S512x128 .f32) (n : Fin 512) (k : Fin 128) (hk : 32 ≤ k.val) :
    (extractStridedSlice Cert.Pre_steps.S512x96 ![0, 32] v Cert.Pre_steps.Facts.slices_S512x128_S512x96_0_32 : FVec Ideal Cert.Pre_steps.S512x96 .f32)
      (ix2 n ⟨k.val - 32, by omega⟩) = v (ix2 n k) := by
  pointwise
  exact congrArg (fun q => v (ix2 n q)) (Fin.ext (by dsimp only; omega))

/-- The precondition, read: the steps are real numbers, no rate's exponent is infinity, and the lanes past the heads are zero. -/
theorem steps_of_pre (m : (ℓ : Loc Cert.SsdIdeal.nD Cert.SsdIdeal.τ Cert.SsdIdeal.sig) → Buf (Elt Ideal) ℓ)
    (h : Cert.Pre_SsdIdeal_steps m) (c : Dev Cert.SsdIdeal.nD) : Cert.SsdIdeal.Hand.Real m c := by
  have h := congrFun (h c) (fun a => a.elim0)
  dsimp only [Cert.Pre_steps.fn] at h
  obtain ⟨h, h2⟩ := IntOp.andi_eq_one.1 h
  obtain ⟨h0, h1⟩ := IntOp.andi_eq_one.1 h
  refine ⟨fun i => isReal_of_cmp (Host.reduce_andi_all _ _ _ _ _ h0 i), fun i => ne_top_of_cmp (Host.reduce_andi_all _ _ _ _ _ h1 i), fun n k hk => ?_⟩
  exact (lanes_at _ n k hk).symm.trans (zero_of_cmp (Host.reduce_andi_all _ _ _ _ _ h2 (ix2 n ⟨k.val - 32, by omega⟩)))

/-- The reference's three results. -/
theorem ref_out (m : (ℓ : Loc Cert.SsdRefIdeal.nD Cert.SsdRefIdeal.τ Cert.SsdRefIdeal.sig) → Buf (Elt Ideal) ℓ) (c : Dev Cert.SsdRefIdeal.nD) :
    Cert.SsdRefIdeal.Value.res_out0 m c = Cert.SsdIdeal.Hand.outRows (Cert.SsdRefIdeal.Hand.args m c) := by
  funext y
  obtain ⟨i, o, rfl⟩ : ∃ (i : Fin 512) (o : Fin 1024), y = (ix2 i o : Cert.SsdRefIdeal.S512x1024.Idx) := ⟨y 0, y 1, eq_ix2 y⟩
  refine Eq.trans ?_ (Cert.SsdRefIdeal.Hand.res_out_at m c ⟨i.val / 32, by omega⟩ ⟨i.val % 32, by omega⟩ o)
  exact congrArg (fun q => Cert.SsdRefIdeal.Value.res_out0 m c (ix2 q o : Cert.SsdRefIdeal.S512x1024.Idx)) (Fin.ext (by dsimp only; omega))

theorem ref_state (m : (ℓ : Loc Cert.SsdRefIdeal.nD Cert.SsdRefIdeal.τ Cert.SsdRefIdeal.sig) → Buf (Elt Ideal) ℓ) (c : Dev Cert.SsdRefIdeal.nD) :
    Cert.SsdRefIdeal.Value.res_out2 m c = Cert.SsdIdeal.Hand.stateAfter (Cert.SsdRefIdeal.Hand.args m c) := by
  funext y
  obtain ⟨b, d, n, rfl⟩ : ∃ (b : Fin 16) (d : Fin 2048) (n : Fin 128), y = (ix3 b d n : Cert.SsdRefIdeal.S16x2048x128.Idx) := ⟨y 0, y 1, y 2, eq_ix3 y⟩
  exact Cert.SsdRefIdeal.Hand.res_state_at m c b d n

theorem ref_kept (m : (ℓ : Loc Cert.SsdRefIdeal.nD Cert.SsdRefIdeal.τ Cert.SsdRefIdeal.sig) → Buf (Elt Ideal) ℓ) (c : Dev Cert.SsdRefIdeal.nD) :
    (extractStridedSlice Cert.SsdRefIdeal.S16x3x3072 ![0, 32, 0] (Cert.SsdRefIdeal.Hand.padded (Cert.SsdRefIdeal.Hand.aConv m c) (Cert.SsdRefIdeal.Hand.aX m c))
      Cert.SsdRefIdeal.Gen.facts₀.slices_S16x35x3072_S16x3x3072_0_32_0 : FVec Ideal Cert.SsdRefIdeal.S16x3x3072 .f32)
      = Cert.SsdIdeal.Hand.keptRows (Cert.SsdRefIdeal.Hand.args m c) := by
  funext y
  obtain ⟨b, r, l, rfl⟩ : ∃ (b : Fin 16) (r : Fin 3) (l : Fin 3072), y = (ix3 b r l : Cert.SsdRefIdeal.S16x3x3072.Idx) := ⟨y 0, y 1, y 2, eq_ix3 y⟩
  exact Cert.SsdRefIdeal.Hand.kept_at m c b r l

/-- The recurrence and its reference end with equal results, where the precondition holds. -/
theorem ssd_algebraic : Cert.algebraic_SsdIdeal_SsdRefIdeal_pre_steps := by
  intro m g m' g' hp hag
  refine ⟨fun c => Cert.SsdIdeal.Hand.outRows (Cert.SsdIdeal.Hand.args m c), fun c => Cert.SsdIdeal.Hand.keptRows (Cert.SsdIdeal.Hand.args m c),
    fun c => Cert.SsdIdeal.Hand.stateAfter (Cert.SsdIdeal.Hand.args m c),
    (θ_run _ _ _).mono (fun r h c => ?_) (θ_run_and (Cert.SsdIdeal.Gen.run_main m g) (Cert.SsdIdeal.Gen.unchanged m g)),
    (θ_run _ _ _).mono (fun r h c => ?_) (Cert.SsdRefIdeal.Value.run m' g')⟩
  · have hr := steps_of_pre m hp c
    exact ⟨((h.1 c).2 Cert.SsdIdeal.main_v36 (Pipeline.mem_restRefs_of Cert.SsdIdeal.main_v36 (by decide) (by decide))).trans
        ((Cert.SsdIdeal.Hand.after_main_v36 m c).trans (Cert.SsdIdeal.Hand.first_eq m c hr)),
      ((h.1 c).1 13).trans (Cert.SsdIdeal.Hand.final13 m c), ((h.1 c).1 14).trans (Cert.SsdIdeal.Hand.third_eq m c hr), h.2 c⟩
  · have e : Cert.SsdRefIdeal.Hand.args m' c = Cert.SsdIdeal.Hand.args m c := by
      obtain ⟨e0, e1, e2, e3, e4, e5, e6, e7, e8, e9, e10⟩ := hag c
      show Step.Args.mk _ _ _ _ _ _ _ _ _ _ _ = Step.Args.mk _ _ _ _ _ _ _ _ _ _ _
      exact (Step.Args.mk.injEq .. ).mpr ⟨e0, e1, e2, e3, e4, e5, e6, e7, e8, e9, e10⟩
    obtain ⟨h0, h1, h2, hargs⟩ := h c
    refine ⟨h0.trans ((ref_out m' c).trans ?_), h1.trans ((ref_kept m' c).trans ?_), h2.trans ((ref_state m' c).trans ?_), hargs⟩
    all_goals rw [e]

end Cert.Proof
-- ==== Proof.Ssd.Frames.lean ====
/-
  The recurrence's frames: the call and its reference run, leave their arguments unchanged and every counter at zero.
-/
module

public import proofs.«01_k».proof.Defs
public import proofs.«01_k».proof.Proof.Gen.Ssd.Frame
public import proofs.«01_k».proof.Proof.Gen.SsdIdeal.Frame
public import proofs.«01_k».proof.Proof.Gen.SsdRefIdeal.Run

@[expose] public section

noncomputable section

namespace Cert.Proof

open Idealize.ShloMosaic Idealize.SL.Sem

/-- The recurrence call's frame, at the hardware's floats. -/
theorem frame_ssd : Cert.quiescent_Ssd := fun m ρ _ => Cert.Ssd.Gen.frame m ρ

/-- The recurrence call's frame, at exact values, with and without the precondition. -/
theorem frame_ssdIdeal : Cert.quiescent_SsdIdeal := fun m ρ _ => Cert.SsdIdeal.Gen.frame m ρ

theorem frame_ssdIdeal_steps [Cert.Pre_steps.Facts] : Cert.quiescent_SsdIdeal_pre_steps := fun m ρ _ => Cert.SsdIdeal.Gen.frame m ρ

/-- The recurrence reference's frame, with and without the precondition. -/
theorem frame_ssdRef : Cert.quiescent_SsdRefIdeal := fun m ρ _ =>
  (θ_run Cert.SsdRefIdeal.defs _ _).mono (fun r h => ⟨fun c => (h c).2.2.2,
    sem_eq_zero_of_no_sems (by decide) r.2⟩) (Cert.SsdRefIdeal.Value.run m ρ)

theorem frame_ssdRef_steps [Cert.Pre_steps.Facts] : Cert.quiescent_SsdRefIdeal_pre_steps := fun m ρ _ =>
  (θ_run Cert.SsdRefIdeal.defs _ _).mono (fun r h => ⟨fun c => (h c).2.2.2,
    sem_eq_zero_of_no_sems (by decide) r.2⟩) (Cert.SsdRefIdeal.Value.run m ρ)

end Cert.Proof
-- ==== Proof.Inproj.Body.lean ====
/-
  What one grid point of the input projection leaves in each output window, element by element: a column of the
  normed row's product with the weight, with the column group's activation.
-/
module

public import proofs.«01_k».proof.Proof.Gen.InprojIdeal.Value
public import proofs.«01_k».proof.Proof.Inproj.Func
public import Idealize.ShloMosaic.Lib.Pipeline.ValueKit
public import Idealize.ShloMosaic.Lib.Pointwise

@[expose] public section

set_option maxRecDepth 16384

noncomputable section

namespace Cert.InprojIdeal.Hand

open Cert.Func Cert.InprojIdeal Cert.InprojIdeal.Gen Idealize.ShloMosaic Idealize.ShloMosaic.TcCoe Idealize.SL.Sem

variable (X : Vec Ideal S256x1024 .f32) (nw : Vec Ideal S1x1024 .f32) (W : Vec Ideal S1024x9856 .bf16)
  (db : Vec Ideal S1x128 .f32)

/-- Row `r` of the block, divided by its root mean square and weighted. -/
def normed (r : Fin 256) (k : Fin 1024) : EReal :=
  X (ix2 r k) * Ideal.rsqrt (Ideal.div (∑ x : Fin 1024, X (ix2 r x) * X (ix2 r x)) (Ideal.ofBits .f32 0x44800000#32)
    + Ideal.ofBits .f32 0x358637BD#32) * nw (ix2 0 k)

/-- Column `c` of the product of the normed row `r` with the weight. -/
def proj (r : Fin 256) (c : Fin 9856) : EReal := ∑ k : Fin 1024, normed X nw r k * W (ix2 k c)

/-- The queries: the columns from 0. -/
theorem out4 (r : Fin 256) (j : Fin 1024) :
    out0_4 X nw W db (ix2 r j) = proj X nw W r ⟨j, by omega⟩ := by
  canon_tiles x h
  all_goals
    unfold_payloads
    pointwise
    obtain ⟨j, hj⟩ := j
    obtain rfl : j = _ := h1
    obtain rfl : r = x 0 := Fin.ext h0
    simp only [proj, normed, sigmoid, ← Nat.add_assoc, Nat.reduceAdd, zero_sub]

/-- The keys and values: the columns from 1024. -/
theorem out5 (r : Fin 256) (j : Fin 512) :
    out0_5 X nw W db (ix2 r j) = proj X nw W r ⟨1024 + j, by omega⟩ := by
  canon_tiles x h
  all_goals
    unfold_payloads
    pointwise
    obtain ⟨j, hj⟩ := j
    obtain rfl : j = _ := h1
    obtain rfl : r = x 0 := Fin.ext h0
    simp only [proj, normed, sigmoid, ← Nat.add_assoc, Nat.reduceAdd, zero_sub]

/-- The attention gate: `v · logistic v` of the columns from 1536. -/
theorem out6 (r : Fin 256) (j : Fin 1024) :
    out0_6 X nw W db (ix2 r j) = proj X nw W r ⟨1536 + j, by omega⟩ *
      sigmoid (proj X nw W r ⟨1536 + j, by omega⟩) := by
  canon_tiles x h
  all_goals
    unfold_payloads
    pointwise
    obtain ⟨j, hj⟩ := j
    obtain rfl : j = _ := h1
    obtain rfl : r = x 0 := Fin.ext h0
    simp only [proj, normed, sigmoid, ← Nat.add_assoc, Nat.reduceAdd, zero_sub]

/-- The recurrence's gate: `v · logistic v` of the columns from 2560. -/
theorem out7 (r : Fin 256) (j : Fin 2048) :
    out0_7 X nw W db (ix2 r j) = proj X nw W r ⟨2560 + j, by omega⟩ *
      sigmoid (proj X nw W r ⟨2560 + j, by omega⟩) := by
  canon_tiles x h
  all_goals
    unfold_payloads
    pointwise
    obtain ⟨j, hj⟩ := j
    obtain rfl : j = _ := h1
    obtain rfl : r = x 0 := Fin.ext h0
    simp only [proj, normed, sigmoid, ← Nat.add_assoc, Nat.reduceAdd, zero_sub]

/-- The convolution's input: the columns from 4608. -/
theorem out8 (r : Fin 256) (j : Fin 3072) :
    out0_8 X nw W db (ix2 r j) = proj X nw W r ⟨4608 + j, by omega⟩ := by
  canon_tiles x h
  all_goals
    unfold_payloads
    pointwise
    obtain ⟨j, hj⟩ := j
    obtain rfl : j = _ := h1
    obtain rfl : r = x 0 := Fin.ext h0
    simp only [proj, normed, sigmoid, ← Nat.add_assoc, Nat.reduceAdd, zero_sub]

/-- The merging gates: the logistic of the columns from 7680. -/
theorem out9 (r : Fin 256) (j : Fin 2048) :
    out0_9 X nw W db (ix2 r j) = sigmoid (proj X nw W r ⟨7680 + j, by omega⟩) := by
  canon_tiles x h
  all_goals
    unfold_payloads
    pointwise
    obtain ⟨j, hj⟩ := j
    obtain rfl : j = _ := h1
    obtain rfl : r = x 0 := Fin.ext h0
    simp only [proj, normed, sigmoid, ← Nat.add_assoc, Nat.reduceAdd, zero_sub]

/-- The lane test `j < 32` on the 128 lanes. -/
theorem lane_lt : ∀ j : Fin 128, IntOp.cmpi .slt (BitVec.ofNat 32 j.val) 32#32 = if j.val < 32 then 1#1 else 0#1 := by
  decide

/-- The time steps: the softplus of the columns from 9728 in the first 32 lanes, zero in the others. -/
theorem out10 (r : Fin 256) (j : Fin 128) :
    out0_10 X nw W db (ix2 r j) =
      if j.val < 32 then softplus (proj X nw W r ⟨9728 + j, by omega⟩ + db (ix2 0 j)) else 0 := by
  canon_tiles x h
  unfold_payloads
  pointwise
  obtain rfl : j = x 1 := Fin.ext h1
  obtain rfl : r = x 0 := Fin.ext h0
  simp only [proj, normed, softplus, zero_sub]
  refine (congrArg (Scalar.select · _ _) (lane_lt (x 1))).trans ?_
  by_cases hj : (x 1).val < 32
  · rw [if_pos hj, if_pos hj]; rfl
  · rw [if_neg hj, if_neg hj]; rfl

end Cert.InprojIdeal.Hand
-- ==== Proof.Inproj.Ref.lean ====
/-
  The results of the input projection's reference, element by element.
-/
module

public import proofs.«01_k».proof.Proof.Gen.InprojRefIdeal.Read
public import proofs.«01_k».proof.Proof.Inproj.Func

@[expose] public section

set_option maxRecDepth 16384

noncomputable section

namespace Cert.InprojRefIdeal.Hand

open Cert.Func Cert.InprojRefIdeal Cert.InprojRefIdeal.Read Idealize.ShloMosaic Idealize.SL.Sem

variable (x0 : (⟨S65536x1024, .f32⟩ : BufTy).Contents (Elt Ideal)) (x1 : (⟨S1024, .f32⟩ : BufTy).Contents (Elt Ideal))
  (x2 : (⟨S1024x9760, .f32⟩ : BufTy).Contents (Elt Ideal)) (x3 : (⟨S32, .f32⟩ : BufTy).Contents (Elt Ideal))

/-- Token `r`'s activations, divided by their root mean square and weighted. -/
def normed (r : Fin 65536) (k : Fin 1024) : EReal :=
  x0 (ix2 r k) * Ideal.rsqrt (Ideal.div (∑ x : Fin 1024, x0 (ix2 r x) * x0 (ix2 r x)) (Ideal.ofBits .f32 0x44800000#32)
    + Ideal.ofBits .f32 0x358637BD#32) * x1 (ix1 k)

/-- Column `c` of token `r`'s projection. -/
def proj (r : Fin 65536) (c : Fin 9760) : EReal := ∑ k : Fin 1024, normed x0 x1 r k * x2 (ix2 k c)

/-- The projection's product. -/
theorem ref13 (r : Fin 65536) (c : Fin 9760) : val_main_v13 (F := Ideal) x0 x1 x2 (ix2 r c) = proj x0 x1 x2 r c := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]
  simp only [proj, normed]

/-- The queries. -/
theorem ref14 (r : Fin 65536) (j : Fin 1024) :
    val_main_v14 (F := Ideal) x0 x1 x2 (ix2 r j) = proj x0 x1 x2 r ⟨j, by omega⟩ := by
  pointwise [val_main_v14]
  rw [ref13]

/-- The keys and the values, joined. -/
theorem ref27 (r : Fin 65536) (j : Fin 512) :
    val_main_v27 (F := Ideal) x0 x1 x2 (ix2 r j) = proj x0 x1 x2 r ⟨1024 + j, by omega⟩ := by
  pointwise [val_main_v27, val_main_v15, val_main_v16]
  split
  · rw [ref13]
  · rw [ref13]; exact congrArg _ (Fin.ext (by simp only; omega))

/-- The attention gate. -/
theorem ref28 (r : Fin 65536) (j : Fin 1024) :
    val_main_v28 (F := Ideal) x0 x1 x2 (ix2 r j) = proj x0 x1 x2 r ⟨1536 + j, by omega⟩ * sigmoid (proj x0 x1 x2 r ⟨1536 + j, by omega⟩) := by
  pointwise [val_main_v28, val_main_call1_v5, val_main_call1_v4, val_main_call1_v3, val_main_call1_v2, val_main_call1_v1,
    val_main_call1_v0, val_main_call1_cst, val_main_call1_cst_0, val_main_v17]
  rw [ref13]; rfl

/-- The recurrence's gate. -/
theorem ref29 (r : Fin 65536) (j : Fin 2048) :
    val_main_v29 (F := Ideal) x0 x1 x2 (ix2 r j) = proj x0 x1 x2 r ⟨2560 + j, by omega⟩ * sigmoid (proj x0 x1 x2 r ⟨2560 + j, by omega⟩) := by
  pointwise [val_main_v29, val_main_call2_v5, val_main_call2_v4, val_main_call2_v3, val_main_call2_v2, val_main_call2_v1,
    val_main_call2_v0, val_main_call2_cst, val_main_call2_cst_0, val_main_v18]
  rw [ref13]; rfl

/-- The convolution's input. -/
theorem ref19 (r : Fin 65536) (j : Fin 3072) :
    val_main_v19 (F := Ideal) x0 x1 x2 (ix2 r j) = proj x0 x1 x2 r ⟨4608 + j, by omega⟩ := by
  pointwise [val_main_v19]
  rw [ref13]

/-- The merging gates. -/
theorem ref42 (r : Fin 65536) (j : Fin 2048) :
    val_main_v42 (F := Ideal) x0 x1 x2 (ix2 r j) = sigmoid (proj x0 x1 x2 r ⟨7712 + j, by omega⟩) := by
  pointwise [val_main_v42, val_main_v41, val_main_v40, val_main_v39, val_main_v38, val_main_v37, val_main_v36,
    val_main_v35, val_main_v34, val_main_v33, val_main_v32, val_main_v31, val_main_v30, val_main_v22, val_main_v21,
    val_main_cst_2, val_main_cst_3, val_main_cst_4, val_main_cst_5]
  split
  · rw [ref13]; rfl
  · rw [ref13]
    refine Eq.trans ?_ (congrArg (fun c => sigmoid (proj x0 x1 x2 r c))
      (Fin.ext (by simp only; omega) : (⟨8736 + (j.val - 1024), by omega⟩ : Fin 9760) = _))
    rfl

/-- The time steps, before they are padded. -/
theorem ref26 (r : Fin 65536) (j : Fin 32) :
    val_main_v26 (F := Ideal) x0 x1 x2 x3 (ix2 r j) = softplus (proj x0 x1 x2 r ⟨7680 + j, by omega⟩ + x3 (ix1 j)) := by
  pointwise [val_main_v26, val_main_call0_v11, val_main_call0_v10, val_main_call0_v9, val_main_call0_v8,
    val_main_call0_v7, val_main_call0_v6, val_main_call0_v5, val_main_call0_v4, val_main_call0_v3, val_main_call0_v2,
    val_main_call0_v1, val_main_call0_v0, val_main_call0_cst, val_main_v25, val_main_v24, val_main_v23, val_main_v20]
  rw [if_neg (fun h => h rfl), ref13]; rfl

/-- The time steps, zero beyond the 32 heads. -/
theorem ref43 (r : Fin 65536) (j : Fin 128) :
    val_main_v43 (F := Ideal) x0 x1 x2 x3 (ix2 r j) = if h : j.val < 32 then softplus (proj x0 x1 x2 r ⟨7680 + j, by omega⟩ + x3 (ix1 ⟨j, h⟩)) else 0 := by
  pointwise [val_main_v43, val_main_call3_v0, val_main_c]
  simp only [ref26]
  refine dite_congr rfl (fun _ => rfl) fun _ => sitofp_zero

end Cert.InprojRefIdeal.Hand
-- ==== Proof.Inproj.Value.lean ====
/-
  What the input projection leaves in its seven result arrays: the reference's results, of the same arguments.
-/
module

public import proofs.«01_k».proof.Defs
public import proofs.«01_k».proof.Proof.Inproj.Body
public import proofs.«01_k».proof.Proof.Inproj.Ref
public import proofs.«01_k».proof.Proof.Gen.InprojRefIdeal.Run

@[expose] public section

set_option maxRecDepth 16384

noncomputable section

namespace Cert.InprojIdeal.Hand

open Cert.Func Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ)

/-- The region finds the norm weight as one row. -/
theorem V_main_v6 (c : Dev nD) (b : Fin 1024) :
    V m c main_v6 (ix2 0 b : S1x1024.Idx) = m ((c : Thread nD τ).loc main_arg1) (ix1 b : S1024.Idx) := by
  have e : (V m c main_v6 : (⟨S1x1024, .f32⟩ : BufTy).Contents (Elt Ideal))
      = shapeCast S1x1024 (m ((c : Thread nD τ).loc main_arg1) : (⟨S1024, .f32⟩ : BufTy).Contents (Elt Ideal))
          shapeCasts_S1024_S1x1024 := by
    unfold V
    simp only [hostOps0, hostOps0_1, hostOps0_2, List.flatten_cons, List.flatten_nil, List.append_nil, List.cons_append,
      List.nil_append]
    after_results
    rfl
  refine (congrFun e _).trans ?_
  pointwise

/-- The input weight. -/
def w (c : Dev nD) : Vec Ideal S1024x9760 .f32 := m ((c : Thread nD τ).loc main_arg2)

/-- The time steps' bias. -/
def bias (c : Dev nD) : Vec Ideal S32 .f32 := m ((c : Thread nD τ).loc main_arg3)

/-- The weight as the region finds it: its column groups rearranged, zero columns appended. -/
theorem V_main_v5 (c : Dev nD) (k : Fin 1024) (j : Fin 9856) :
    V m c main_v5 (ix2 k j : S1024x9856.Idx) =
      concatenate S1024x9856 1 [⟨S1024x7680, extractStridedSlice S1024x7680 ![0, 0] (w m c) slices_S1024x9760_S1024x7680_0_0⟩,
        ⟨S1024x2048, extractStridedSlice S1024x2048 ![0, 7712] (w m c) slices_S1024x9760_S1024x2048_0_7712⟩,
        ⟨S1024x32, extractStridedSlice S1024x32 ![0, 7680] (w m c) slices_S1024x9760_S1024x32_0_7680⟩,
        ⟨S1024x96, broadcastInDim S1024x96 ![] bcast_S_S1024x96 (constant (F := Ideal) S_ .f32 0#32)⟩]
        concatenates_S1024x7680_S1024x2048_S1024x32_S1024x96_S1024x9856_d1 (ix2 k j) := by
  unfold V
  simp only [hostOps0, hostOps0_1, hostOps0_2, List.flatten_cons, List.flatten_nil, List.append_nil, List.cons_append,
    List.nil_append]
  after_results
  rfl

/-- The bias as the region finds it: one row, zero beyond the 32 heads. -/
theorem V_main_v8 (c : Dev nD) (j : Fin 128) :
    V m c main_v8 (ix2 0 j : S1x128.Idx) =
      shapeCast S1x128 (pad S128 ![0] ![96] ![0] (bias m c) (sitofp (F := Ideal) .f32 (constantI S_ 32 0#32))
        pads_S32_S128_0960 h_S_) shapeCasts_S128_S1x128 (ix2 0 j : S1x128.Idx) := by
  unfold V
  simp only [hostOps0, hostOps0_1, hostOps0_2, List.flatten_cons, List.flatten_nil, List.append_nil, List.cons_append,
    List.nil_append]
  after_results
  rfl

/-- The columns the kernel keeps in place. -/
theorem w_low (c : Dev nD) (k : Fin 1024) (j : Fin 9856) (h : j.val < 7680) :
    V m c main_v5 (ix2 k j : S1024x9856.Idx) = w m c (ix2 k ⟨j, by omega⟩) := by
  refine (V_main_v5 m c k j).trans ?_
  pointwise
  rw [dif_pos h]

/-- The merging gates' columns, moved before the time steps'. -/
theorem w_gates (c : Dev nD) (k : Fin 1024) (j : Fin 2048) :
    V m c main_v5 (ix2 k ⟨7680 + j, by omega⟩ : S1024x9856.Idx) = w m c (ix2 k ⟨7712 + j, by omega⟩) := by
  refine (V_main_v5 m c k _).trans ?_
  pointwise

/-- The time steps' columns, moved to the end. -/
theorem w_dt (c : Dev nD) (k : Fin 1024) (j : Fin 32) :
    V m c main_v5 (ix2 k ⟨9728 + j, by omega⟩ : S1024x9856.Idx) = w m c (ix2 k ⟨7680 + j, by omega⟩) := by
  refine (V_main_v5 m c k _).trans ?_
  pointwise
  rw [dif_neg (by omega), dif_neg (by omega), dif_pos (by omega)]
  exact congrArg (fun a => w m c (ix2 k a)) (Fin.ext (by simp only; omega))

/-- The bias of a head. -/
theorem bias_dt (c : Dev nD) (j : Fin 128) (h : j.val < 32) :
    V m c main_v8 (ix2 0 j : S1x128.Idx) = bias m c (ix1 ⟨j, h⟩) := by
  refine (V_main_v8 m c j).trans ?_
  pointwise
  rw [dif_pos h]

/-- The block indices: the row windows move with the point, the weights stay. -/
theorem idx_facts : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0)
      ∧ (win0_6.index t 0 = t.val ∧ win0_6.index t 1 = 0) ∧ (win0_7.index t 0 = t.val ∧ win0_7.index t 1 = 0)
      ∧ (win0_8.index t 0 = t.val ∧ win0_8.index t 1 = 0) ∧ (win0_9.index t 0 = t.val ∧ win0_9.index t 1 = 0)
      ∧ (win0_10.index t 0 = t.val ∧ win0_10.index t 1 = 0) := by decide +kernel

/-- Row `r` of point `t`'s block, as a row of the whole arrays. -/
def row (t : Fin cfg0.N) (r : Fin 256) : Fin 65536 :=
  ⟨t.val * 256 + r.val, by have := t.isLt; have h : cfg0.N = 256 := N_0; omega⟩

/-- The activations' block holds that row of the array, -/
theorem blk0 (c : Dev nD) (t : Fin cfg0.N) (r : Fin 256) (k : Fin 1024) : (iblk m c 0 t : Vec Ideal S256x1024 .f32) (ix2 r k)
    = m ((c : Thread nD τ).loc main_arg0) (ix2 (row t r) k : S65536x1024.Idx) := by
  have h := (idx_facts t).1
  rw [← V_main_arg0 m c]
  exact congrArg (V m c main_arg0) (Shape.idx_ext₂ (by blk_simp [h.1, row]) (by blk_simp [h.2]))

/-- the norm weight's the whole row, -/
theorem blk1 (c : Dev nD) (t : Fin cfg0.N) (b : Fin 1024) : (iblk m c 1 t : Vec Ideal S1x1024 .f32) (ix2 0 b)
    = m ((c : Thread nD τ).loc main_arg1) (ix1 b : S1024.Idx) := by
  have h := (idx_facts t).2.1
  rw [← V_main_v6 m c]
  exact congrArg (V m c main_v6) (Shape.idx_ext₂ (by blk_simp [h.1, row]) (by blk_simp [h.2]))

/-- the weight's the whole rearranged weight, -/
theorem blk2 (c : Dev nD) (t : Fin cfg0.N) (k : Fin 1024) (j : Fin 9856) :
    (iblk m c 2 t : Vec Ideal S1024x9856 .bf16) (ix2 k j) = V m c main_v5 (ix2 k j : S1024x9856.Idx) := by
  have h := (idx_facts t).2.2.1
  exact congrArg (V m c main_v5) (Shape.idx_ext₂ (by blk_simp [h.1, row]) (by blk_simp [h.2]))

/-- and the bias's the whole padded row. -/
theorem blk3 (c : Dev nD) (t : Fin cfg0.N) (j : Fin 128) :
    (iblk m c 3 t : Vec Ideal S1x128 .f32) (ix2 0 j) = V m c main_v8 (ix2 0 j : S1x128.Idx) := by
  have h := (idx_facts t).2.2.2.1
  exact congrArg (V m c main_v8) (Shape.idx_ext₂ (by blk_simp [h.1, row]) (by blk_simp [h.2]))

/-- The reference's projection of the arguments. -/
abbrev rproj (c : Dev nD) : Fin 65536 → Fin 9760 → EReal :=
  Cert.InprojRefIdeal.Hand.proj (m ((c : Thread nD τ).loc main_arg0)) (m ((c : Thread nD τ).loc main_arg1))
    (m ((c : Thread nD τ).loc main_arg2))

/-- A column of the body's product is the reference's, where the rearranged weight's column is the weight's. -/
theorem proj_eq (c : Dev nD) (t : Fin cfg0.N) (r : Fin 256) (j : Fin 9856) (j' : Fin 9760)
    (h : ∀ k : Fin 1024, V m c main_v5 (ix2 k j : S1024x9856.Idx) = w m c (ix2 k j')) :
    proj (iblk m c 0 t) (iblk m c 1 t) (iblk m c 2 t) r j = rproj m c (row t r) j' := by
  simp only [proj, normed, rproj, Cert.InprojRefIdeal.Hand.proj, Cert.InprojRefIdeal.Hand.normed, blk0, blk1, blk2]
  exact Finset.sum_congr rfl fun k _ => congrArg _ (h k)

/-- After the run the array of the queries is the reference's. -/
theorem final4 (c : Dev nD) :
    (dats m 0 c).arrAt 4 cfg0.N = Cert.InprojRefIdeal.Read.val_main_v14 (F := Ideal)
      (m ((c : Thread nD τ).loc main_arg0)) (m ((c : Thread nD τ).loc main_arg1))
      (m ((c : Thread nD τ).loc main_arg2)) := by
  refine (dats m 0 c).arrAt_eq_of_covers 4 _ (by decide +kernel) fun t hf y => ?_
  obtain ⟨r, j, rfl⟩ : ∃ (r : Fin 256) (j : Fin 1024), y = (ix2 r j : S256x1024.Idx) := ⟨y 0, y 1, eq_ix2 y⟩
  have h := (idx_facts t).2.2.2.2.1
  rw [show ((cfg0.win 4).blk t).view.emb (ix2 r j : S256x1024.Idx) = (ix2 (row t r) j : S65536x1024.Idx) from
    Shape.idx_ext₂ (by blk_simp [h.1, row]) (by blk_simp [h.2])]
  blk_simp
  rw [after0_4]
  rw [out4, Cert.InprojRefIdeal.Hand.ref14, proj_eq m c t r _ _ fun k => w_low m c k ⟨j, by omega⟩ (by simp only; omega)]

/-- After the run the array of the keys and values is the reference's. -/
theorem final5 (c : Dev nD) :
    (dats m 0 c).arrAt 5 cfg0.N = Cert.InprojRefIdeal.Read.val_main_v27 (F := Ideal)
      (m ((c : Thread nD τ).loc main_arg0)) (m ((c : Thread nD τ).loc main_arg1))
      (m ((c : Thread nD τ).loc main_arg2)) := by
  refine (dats m 0 c).arrAt_eq_of_covers 5 _ (by decide +kernel) fun t hf y => ?_
  obtain ⟨r, j, rfl⟩ : ∃ (r : Fin 256) (j : Fin 512), y = (ix2 r j : S256x512.Idx) := ⟨y 0, y 1, eq_ix2 y⟩
  have h := (idx_facts t).2.2.2.2.2.1
  rw [show ((cfg0.win 5).blk t).view.emb (ix2 r j : S256x512.Idx) = (ix2 (row t r) j : S65536x512.Idx) from
    Shape.idx_ext₂ (by blk_simp [h.1, row]) (by blk_simp [h.2])]
  blk_simp
  rw [after0_5]
  rw [out5, Cert.InprojRefIdeal.Hand.ref27, proj_eq m c t r _ _ fun k => w_low m c k ⟨1024 + j, by omega⟩ (by simp only; omega)]

/-- After the run the array of the attention gate is the reference's. -/
theorem final6 (c : Dev nD) :
    (dats m 0 c).arrAt 6 cfg0.N = Cert.InprojRefIdeal.Read.val_main_v28 (F := Ideal)
      (m ((c : Thread nD τ).loc main_arg0)) (m ((c : Thread nD τ).loc main_arg1))
      (m ((c : Thread nD τ).loc main_arg2)) := by
  refine (dats m 0 c).arrAt_eq_of_covers 6 _ (by decide +kernel) fun t hf y => ?_
  obtain ⟨r, j, rfl⟩ : ∃ (r : Fin 256) (j : Fin 1024), y = (ix2 r j : S256x1024.Idx) := ⟨y 0, y 1, eq_ix2 y⟩
  have h := (idx_facts t).2.2.2.2.2.2.1
  rw [show ((cfg0.win 6).blk t).view.emb (ix2 r j : S256x1024.Idx) = (ix2 (row t r) j : S65536x1024.Idx) from
    Shape.idx_ext₂ (by blk_simp [h.1, row]) (by blk_simp [h.2])]
  blk_simp
  rw [after0_6]
  rw [out6, Cert.InprojRefIdeal.Hand.ref28, proj_eq m c t r _ _ fun k => w_low m c k ⟨1536 + j, by omega⟩ (by simp only; omega)]

/-- After the run the array of the recurrence's gate is the reference's. -/
theorem final7 (c : Dev nD) :
    (dats m 0 c).arrAt 7 cfg0.N = Cert.InprojRefIdeal.Read.val_main_v29 (F := Ideal)
      (m ((c : Thread nD τ).loc main_arg0)) (m ((c : Thread nD τ).loc main_arg1))
      (m ((c : Thread nD τ).loc main_arg2)) := by
  refine (dats m 0 c).arrAt_eq_of_covers 7 _ (by decide +kernel) fun t hf y => ?_
  obtain ⟨r, j, rfl⟩ : ∃ (r : Fin 256) (j : Fin 2048), y = (ix2 r j : S256x2048.Idx) := ⟨y 0, y 1, eq_ix2 y⟩
  have h := (idx_facts t).2.2.2.2.2.2.2.1
  rw [show ((cfg0.win 7).blk t).view.emb (ix2 r j : S256x2048.Idx) = (ix2 (row t r) j : S65536x2048.Idx) from
    Shape.idx_ext₂ (by blk_simp [h.1, row]) (by blk_simp [h.2])]
  blk_simp
  rw [after0_7]
  rw [out7, Cert.InprojRefIdeal.Hand.ref29, proj_eq m c t r _ _ fun k => w_low m c k ⟨2560 + j, by omega⟩ (by simp only; omega)]

/-- After the run the array of the convolution's input is the reference's. -/
theorem final8 (c : Dev nD) :
    (dats m 0 c).arrAt 8 cfg0.N = Cert.InprojRefIdeal.Read.val_main_v19 (F := Ideal)
      (m ((c : Thread nD τ).loc main_arg0)) (m ((c : Thread nD τ).loc main_arg1))
      (m ((c : Thread nD τ).loc main_arg2)) := by
  refine (dats m 0 c).arrAt_eq_of_covers 8 _ (by decide +kernel) fun t hf y => ?_
  obtain ⟨r, j, rfl⟩ : ∃ (r : Fin 256) (j : Fin 3072), y = (ix2 r j : S256x3072.Idx) := ⟨y 0, y 1, eq_ix2 y⟩
  have h := (idx_facts t).2.2.2.2.2.2.2.2.1
  rw [show ((cfg0.win 8).blk t).view.emb (ix2 r j : S256x3072.Idx) = (ix2 (row t r) j : S65536x3072.Idx) from
    Shape.idx_ext₂ (by blk_simp [h.1, row]) (by blk_simp [h.2])]
  blk_simp
  rw [after0_8]
  rw [out8, Cert.InprojRefIdeal.Hand.ref19, proj_eq m c t r _ _ fun k => w_low m c k ⟨4608 + j, by omega⟩ (by simp only; omega)]

/-- After the run the array of the merging gates is the reference's. -/
theorem final9 (c : Dev nD) :
    (dats m 0 c).arrAt 9 cfg0.N = Cert.InprojRefIdeal.Read.val_main_v42 (F := Ideal)
      (m ((c : Thread nD τ).loc main_arg0)) (m ((c : Thread nD τ).loc main_arg1))
      (m ((c : Thread nD τ).loc main_arg2)) := by
  refine (dats m 0 c).arrAt_eq_of_covers 9 _ (by decide +kernel) fun t hf y => ?_
  obtain ⟨r, j, rfl⟩ : ∃ (r : Fin 256) (j : Fin 2048), y = (ix2 r j : S256x2048.Idx) := ⟨y 0, y 1, eq_ix2 y⟩
  have h := (idx_facts t).2.2.2.2.2.2.2.2.2.1
  rw [show ((cfg0.win 9).blk t).view.emb (ix2 r j : S256x2048.Idx) = (ix2 (row t r) j : S65536x2048.Idx) from
    Shape.idx_ext₂ (by blk_simp [h.1, row]) (by blk_simp [h.2])]
  blk_simp
  rw [after0_9]
  rw [out9, Cert.InprojRefIdeal.Hand.ref42, proj_eq m c t r _ _ fun k => w_gates m c k j]

/-- After the run the array of the time steps is the reference's. -/
theorem final10 (c : Dev nD) :
    (dats m 0 c).arrAt 10 cfg0.N = Cert.InprojRefIdeal.Read.val_main_v43 (F := Ideal)
      (m ((c : Thread nD τ).loc main_arg0)) (m ((c : Thread nD τ).loc main_arg1))
      (m ((c : Thread nD τ).loc main_arg2)) (m ((c : Thread nD τ).loc main_arg3)) := by
  refine (dats m 0 c).arrAt_eq_of_covers 10 _ (by decide +kernel) fun t hf y => ?_
  obtain ⟨r, j, rfl⟩ : ∃ (r : Fin 256) (j : Fin 128), y = (ix2 r j : S256x128.Idx) := ⟨y 0, y 1, eq_ix2 y⟩
  have h := (idx_facts t).2.2.2.2.2.2.2.2.2.2
  rw [show ((cfg0.win 10).blk t).view.emb (ix2 r j : S256x128.Idx) = (ix2 (row t r) j : S65536x128.Idx) from
    Shape.idx_ext₂ (by blk_simp [h.1, row]) (by blk_simp [h.2])]
  blk_simp
  rw [after0_10]
  rw [out10, Cert.InprojRefIdeal.Hand.ref43]
  by_cases hj : j.val < 32
  · rw [if_pos hj, dif_pos hj, proj_eq m c t r _ _ fun k => w_dt m c k ⟨j, hj⟩, blk3, bias_dt m c j hj]; rfl
  · rw [if_neg hj, dif_neg hj]

end Cert.InprojIdeal.Hand

namespace Cert.Proof

open Idealize.ShloMosaic Idealize.SL.Sem

/-- The input projection and its reference end with equal results. -/
theorem inproj_algebraic : Cert.algebraic_InprojIdeal_InprojRefIdeal := by
  intro m g m' g' _ hag
  refine ⟨fun c => Cert.InprojRefIdeal.Read.val_main_v14 (F := Ideal) (m ((c.tc : Thread _ _).loc Cert.InprojIdeal.main_arg0)) (m ((c.tc : Thread _ _).loc Cert.InprojIdeal.main_arg1))
      (m ((c.tc : Thread _ _).loc Cert.InprojIdeal.main_arg2)),
    fun c => Cert.InprojRefIdeal.Read.val_main_v27 (F := Ideal) (m ((c.tc : Thread _ _).loc Cert.InprojIdeal.main_arg0)) (m ((c.tc : Thread _ _).loc Cert.InprojIdeal.main_arg1))
      (m ((c.tc : Thread _ _).loc Cert.InprojIdeal.main_arg2)),
    fun c => Cert.InprojRefIdeal.Read.val_main_v28 (F := Ideal) (m ((c.tc : Thread _ _).loc Cert.InprojIdeal.main_arg0)) (m ((c.tc : Thread _ _).loc Cert.InprojIdeal.main_arg1))
      (m ((c.tc : Thread _ _).loc Cert.InprojIdeal.main_arg2)),
    fun c => Cert.InprojRefIdeal.Read.val_main_v29 (F := Ideal) (m ((c.tc : Thread _ _).loc Cert.InprojIdeal.main_arg0)) (m ((c.tc : Thread _ _).loc Cert.InprojIdeal.main_arg1))
      (m ((c.tc : Thread _ _).loc Cert.InprojIdeal.main_arg2)),
    fun c => Cert.InprojRefIdeal.Read.val_main_v19 (F := Ideal) (m ((c.tc : Thread _ _).loc Cert.InprojIdeal.main_arg0)) (m ((c.tc : Thread _ _).loc Cert.InprojIdeal.main_arg1))
      (m ((c.tc : Thread _ _).loc Cert.InprojIdeal.main_arg2)),
    fun c => Cert.InprojRefIdeal.Read.val_main_v42 (F := Ideal) (m ((c.tc : Thread _ _).loc Cert.InprojIdeal.main_arg0)) (m ((c.tc : Thread _ _).loc Cert.InprojIdeal.main_arg1))
      (m ((c.tc : Thread _ _).loc Cert.InprojIdeal.main_arg2)),
    fun c => Cert.InprojRefIdeal.Read.val_main_v43 (F := Ideal) (m ((c.tc : Thread _ _).loc Cert.InprojIdeal.main_arg0)) (m ((c.tc : Thread _ _).loc Cert.InprojIdeal.main_arg1))
      (m ((c.tc : Thread _ _).loc Cert.InprojIdeal.main_arg2)) (m ((c.tc : Thread _ _).loc Cert.InprojIdeal.main_arg3)),
    (θ_run _ _ _).mono (fun r h c => ?_) (Cert.InprojIdeal.Value.run_blocks m g),
    (θ_run _ _ _).mono (fun r h c => ?_) (Cert.InprojRefIdeal.Value.run m' g')⟩
  · obtain ⟨h4, h5, h6, h7, h8, h9, h10, hargs⟩ := h c
    exact ⟨h4.trans (Cert.InprojIdeal.Hand.final4 m c), h5.trans (Cert.InprojIdeal.Hand.final5 m c),
      h6.trans (Cert.InprojIdeal.Hand.final6 m c), h7.trans (Cert.InprojIdeal.Hand.final7 m c),
      h8.trans (Cert.InprojIdeal.Hand.final8 m c), h9.trans (Cert.InprojIdeal.Hand.final9 m c),
      h10.trans (Cert.InprojIdeal.Hand.final10 m c), hargs⟩
  · obtain ⟨e0, e1, e2, e3⟩ := hag c
    obtain ⟨h4, h5, h6, h7, h8, h9, h10, hargs⟩ := h c
    refine ⟨h4.trans ?_, h5.trans ?_, h6.trans ?_, h7.trans ?_, h8.trans ?_, h9.trans ?_, h10.trans ?_, hargs⟩
    · rw [Cert.InprojRefIdeal.Read.val_main_v14_eq, e0, e1, e2]
    · rw [Cert.InprojRefIdeal.Read.val_main_v27_eq, e0, e1, e2]
    · rw [Cert.InprojRefIdeal.Read.val_main_v28_eq, e0, e1, e2]
    · rw [Cert.InprojRefIdeal.Read.val_main_v29_eq, e0, e1, e2]
    · rw [Cert.InprojRefIdeal.Read.val_main_v19_eq, e0, e1, e2]
    · rw [Cert.InprojRefIdeal.Read.val_main_v42_eq, e0, e1, e2]
    · rw [Cert.InprojRefIdeal.Read.val_main_v43_eq, e0, e1, e2, e3]

end Cert.Proof
-- ==== Proof.Merge.Value.lean ====
/-
  What the merge of the two branches leaves in its result array: the reference's last stage, of the same arguments.
-/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The region finds the output weight rounded to bf16, which at exact values is the weight. -/
theorem V_main_v0 (c : Dev nD) (a b : Fin 1024) :
    V m c main_v0 (ix2 a b : S1024x1024.Idx) = m ((c : Thread nD τ).loc main_arg4) (ix2 a b : S1024x1024.Idx) := by
  unfold V; after_results; rfl

/-- The region finds the norm weight as one row. -/
theorem V_main_v1 (c : Dev nD) (b : Fin 1024) :
    V m c main_v1 (ix2 0 b : S1x1024.Idx) = m ((c : Thread nD τ).loc main_arg5) (ix1 b : S1024.Idx) := by
  have e : (V m c main_v1 : (⟨S1x1024, .f32⟩ : BufTy).Contents (Elt Ideal))
      = shapeCast S1x1024 (m ((c : Thread nD τ).loc main_arg5) : (⟨S1024, .f32⟩ : BufTy).Contents (Elt Ideal))
          shapeCasts_S1024_S1x1024 := by
    unfold V; after_results; rfl
  refine (congrFun e _).trans ?_
  pointwise

/-- The block indices: the row windows move with the point, the weights stay. -/
theorem idx_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0)
      ∧ (win0_4.index t 0 = 0 ∧ win0_4.index t 1 = 0) ∧ (win0_5.index t 0 = 0 ∧ win0_5.index t 1 = 0)
      ∧ (win0_6.index t 0 = t.val ∧ win0_6.index t 1 = 0) := by decide +kernel

/-- Row `r` of point `t`'s block, as a row of the whole arrays. -/
def row (t : Fin cfg0.N) (r : Fin 256) : Fin 65536 :=
  ⟨t.val * 256 + r.val, by have := t.isLt; have h : cfg0.N = 256 := N_0; omega⟩

/-- The block of the residual input holds that row of the array, -/
theorem blk0 (c : Dev nD) (t : Fin cfg0.N) (r : Fin 256) (k : Fin 1024) : (iblk m c 0 t : Vec Ideal S256x1024 .f32) (ix2 r k)
    = m ((c : Thread nD τ).loc main_arg0) (ix2 (row t r) k : S65536x1024.Idx) := by
  have h := (idx_facts t).1
  rw [← V_main_arg0 m c]
  exact congrArg (V m c main_arg0) (Shape.idx_ext₂ (by blk_simp [h.1, row]) (by blk_simp [h.2]))

/-- the attention branch's block likewise, -/
theorem blk1 (c : Dev nD) (t : Fin cfg0.N) (r : Fin 256) (k : Fin 1024) : (iblk m c 1 t : Vec Ideal S256x1024 .f32) (ix2 r k)
    = m ((c : Thread nD τ).loc main_arg1) (ix2 (row t r) k : S65536x1024.Idx) := by
  have h := (idx_facts t).2.1
  rw [← V_main_arg1 m c]
  exact congrArg (V m c main_arg1) (Shape.idx_ext₂ (by blk_simp [h.1, row]) (by blk_simp [h.2]))

/-- the recurrence branch's, -/
theorem blk2 (c : Dev nD) (t : Fin cfg0.N) (r : Fin 256) (k : Fin 1024) : (iblk m c 2 t : Vec Ideal S256x1024 .f32) (ix2 r k)
    = m ((c : Thread nD τ).loc main_arg2) (ix2 (row t r) k : S65536x1024.Idx) := by
  have h := (idx_facts t).2.2.1
  rw [← V_main_arg2 m c]
  exact congrArg (V m c main_arg2) (Shape.idx_ext₂ (by blk_simp [h.1, row]) (by blk_simp [h.2]))

/-- the gates'. -/
theorem blk3 (c : Dev nD) (t : Fin cfg0.N) (r : Fin 256) (k : Fin 2048) : (iblk m c 3 t : Vec Ideal S256x2048 .f32) (ix2 r k)
    = m ((c : Thread nD τ).loc main_arg3) (ix2 (row t r) k : S65536x2048.Idx) := by
  have h := (idx_facts t).2.2.2.1
  rw [← V_main_arg3 m c]
  exact congrArg (V m c main_arg3) (Shape.idx_ext₂ (by blk_simp [h.1, row]) (by blk_simp [h.2]))

/-- The output weight's block is the whole weight, -/
theorem blk4 (c : Dev nD) (t : Fin cfg0.N) (a b : Fin 1024) : (iblk m c 4 t : Vec Ideal S1024x1024 .bf16) (ix2 a b)
    = m ((c : Thread nD τ).loc main_arg4) (ix2 a b : S1024x1024.Idx) := by
  have h := (idx_facts t).2.2.2.2.1
  rw [← V_main_v0 m c]
  exact congrArg (V m c main_v0) (Shape.idx_ext₂ (by blk_simp [h.1, row]) (by blk_simp [h.2]))

/-- and the norm weight's the whole row. -/
theorem blk5 (c : Dev nD) (t : Fin cfg0.N) (b : Fin 1024) : (iblk m c 5 t : Vec Ideal S1x1024 .f32) (ix2 0 b)
    = m ((c : Thread nD τ).loc main_arg5) (ix1 b : S1024.Idx) := by
  have h := (idx_facts t).2.2.2.2.2.1
  rw [← V_main_v1 m c]
  exact congrArg (V m c main_v1) (Shape.idx_ext₂ (by blk_simp [h.1, row]) (by blk_simp [h.2]))

/-- THE RESULT: after the run the output array is the reference's, of the arguments as they were at the start. -/
theorem final (c : Dev nD) :
    (dats m 0 c).arrAt 6 cfg0.N = Cert.MergeRefIdeal.Read.val_main_v19 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨r, k, rfl⟩ : ∃ (r : Fin 256) (k : Fin 1024), y = (ix2 r k : S256x1024.Idx) := ⟨y 0, y 1, eq_ix2 y⟩
  have h := (idx_facts t).2.2.2.2.2.2
  rw [show ((cfg0.win 6).blk t).view.emb (ix2 r k : S256x1024.Idx) = (ix2 (row t r) k : S65536x1024.Idx) from
    Shape.idx_ext₂ (by blk_simp [h.1, row]) (by blk_simp [h.2])]
  blk_simp
  rw [after0_6]
  frame_out
  pointwise [k0_pay1, Cert.MergeRefIdeal.Read.val_main_v19, Cert.MergeRefIdeal.Read.val_main_v18,
    Cert.MergeRefIdeal.Read.val_main_v17, Cert.MergeRefIdeal.Read.val_main_v16, Cert.MergeRefIdeal.Read.val_main_v15,
    Cert.MergeRefIdeal.Read.val_main_v14, Cert.MergeRefIdeal.Read.val_main_v13, Cert.MergeRefIdeal.Read.val_main_v12,
    Cert.MergeRefIdeal.Read.val_main_v11, Cert.MergeRefIdeal.Read.val_main_v10, Cert.MergeRefIdeal.Read.val_main_v9,
    Cert.MergeRefIdeal.Read.val_main_v8, Cert.MergeRefIdeal.Read.val_main_v7, Cert.MergeRefIdeal.Read.val_main_v6,
    Cert.MergeRefIdeal.Read.val_main_v5, Cert.MergeRefIdeal.Read.val_main_v4, Cert.MergeRefIdeal.Read.val_main_v3,
    Cert.MergeRefIdeal.Read.val_main_v2, Cert.MergeRefIdeal.Read.val_main_v1, Cert.MergeRefIdeal.Read.val_main_v0,
    Cert.MergeRefIdeal.Read.val_main_cst, Cert.MergeRefIdeal.Read.val_main_cst_0, Cert.MergeRefIdeal.Read.val_main_cst_1]
  simp only [blk0, blk1, blk2, blk3, blk4, blk5]

end Cert.MergeIdeal.Hand

namespace Cert.Proof

open Idealize.ShloMosaic Idealize.SL.Sem

/-- The merge and its reference end with equal results. -/
theorem merge_algebraic : Cert.algebraic_MergeIdeal_MergeRefIdeal := by
  intro m g m' g' _ hag
  refine ⟨fun c => Cert.MergeRefIdeal.Read.val_main_v19 (F := Ideal)
      (m ((c.tc : Thread _ _).loc Cert.MergeIdeal.main_arg0)) (m ((c.tc : Thread _ _).loc Cert.MergeIdeal.main_arg1))
      (m ((c.tc : Thread _ _).loc Cert.MergeIdeal.main_arg2)) (m ((c.tc : Thread _ _).loc Cert.MergeIdeal.main_arg3))
      (m ((c.tc : Thread _ _).loc Cert.MergeIdeal.main_arg4)) (m ((c.tc : Thread _ _).loc Cert.MergeIdeal.main_arg5)),
    (θ_run _ _ _).mono (fun r h c => ⟨(h c).1.trans (Cert.MergeIdeal.Hand.final m c), (h c).2⟩)
      (Cert.MergeIdeal.Value.run_blocks m g),
    (θ_run _ _ _).mono (fun r h c => ⟨(h c).1.trans ?_, (h c).2⟩) (Cert.MergeRefIdeal.Value.run m' g')⟩
  obtain ⟨e0, e1, e2, e3, e4, e5⟩ := hag c
  rw [Cert.MergeRefIdeal.Read.val_main_v19_eq, e0, e1, e2, e3, e4, e5]

end Cert.Proof
-- ==== Proof.lean ====
/-
  The certificate: the frames, the idealizations, and the value claims of the layer's calls.
-/
module

public import proofs.«01_k».proof.Defs
public import proofs.«01_k».proof.Proof.Frames
public import proofs.«01_k».proof.Proof.Attn.Value
public import proofs.«01_k».proof.Proof.Ssd.Value
public import proofs.«01_k».proof.Proof.Ssd.Frames
public import proofs.«01_k».proof.Proof.Inproj.Value
public import proofs.«01_k».proof.Proof.Merge.Value

@[expose] public section

noncomputable section

namespace Cert.Proof

/-- Everything the certificate claims. -/
theorem claim : Cert.Claim :=
  ⟨Cert.Attn.Gen.facts, Cert.AttnIdeal.Gen.facts, Cert.AttnRefIdeal.Gen.facts, Cert.Inproj.Gen.facts,
    Cert.InprojIdeal.Gen.facts, Cert.InprojRefIdeal.Gen.facts, Cert.Merge.Gen.facts, Cert.MergeIdeal.Gen.facts,
    Cert.MergeRefIdeal.Gen.facts, Cert.Ssd.Gen.facts, Cert.SsdIdeal.Gen.facts, Cert.SsdRefIdeal.Gen.facts, finite_facts, steps_facts, frame_attn, frame_attnIdeal, frame_attnIdeal_finite, frame_attnRef,
    frame_attnRef_finite, frame_inproj, frame_inprojIdeal, frame_inprojRef, frame_merge, frame_mergeIdeal, frame_mergeRef,
    frame_ssd, frame_ssdIdeal, frame_ssdIdeal_steps, frame_ssdRef, frame_ssdRef_steps,
    trivial, attn_algebraic, trivial, inproj_algebraic, trivial, merge_algebraic, trivial, ssd_algebraic⟩

end Cert.Proof

end
